-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v21) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v26) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)) →
    ∃ (v0 : (c : Dev Cert.Kernel4Ideal.nD) → Buf (Elt Ideal) ((c.tc : Thread Cert.Kernel4Ideal.nD Cert.Kernel4Ideal.τ).loc Cert.Kernel4Ideal.main_v59)) (v1 : (c : Dev Cert.Kernel4Ideal.nD) → Buf (Elt Ideal) ((c.tc : Thread Cert.Kernel4Ideal.nD Cert.Kernel4Ideal.τ).loc Cert.Kernel4Ideal.main_v55)) (v2 : (c : Dev Cert.Kernel4Ideal.nD) → Buf (Elt Ideal) ((c.tc : Thread Cert.Kernel4Ideal.nD Cert.Kernel4Ideal.τ).loc Cert.Kernel4Ideal.main_v57)) (v3 : (c : Dev Cert.Kernel4Ideal.nD) → Buf (Elt Ideal) ((c.tc : Thread Cert.Kernel4Ideal.nD Cert.Kernel4Ideal.τ).loc Cert.Kernel4Ideal.main_v60)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v59) = v0 c
          ∧ r.2.mem ((c.tc : Thread Cert.Kernel4Ideal.nD Cert.Kernel4Ideal.τ).loc Cert.Kernel4Ideal.main_v55) = v1 c
          ∧ r.2.mem ((c.tc : Thread Cert.Kernel4Ideal.nD Cert.Kernel4Ideal.τ).loc Cert.Kernel4Ideal.main_v57) = v2 c
          ∧ r.2.mem ((c.tc : Thread Cert.Kernel4Ideal.nD Cert.Kernel4Ideal.τ).loc Cert.Kernel4Ideal.main_v60) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v17) = v0 c
          ∧ r.2.mem ((c.tc : Thread Cert.Reference4Ideal.nD Cert.Reference4Ideal.τ).loc Cert.Reference4Ideal.main_v46) = v1 c
          ∧ r.2.mem ((c.tc : Thread Cert.Reference4Ideal.nD Cert.Reference4Ideal.τ).loc Cert.Reference4Ideal.main_v63) = v2 c
          ∧ r.2.mem ((c.tc : Thread Cert.Reference4Ideal.nD Cert.Reference4Ideal.τ).loc Cert.Reference4Ideal.main_v64) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)) →
    ∃ (v0 : (c : Dev Cert.Kernel5Ideal.nD) → Buf (Elt Ideal) ((c.tc : Thread Cert.Kernel5Ideal.nD Cert.Kernel5Ideal.τ).loc Cert.Kernel5Ideal.main_v65)) (v1 : (c : Dev Cert.Kernel5Ideal.nD) → Buf (Elt Ideal) ((c.tc : Thread Cert.Kernel5Ideal.nD Cert.Kernel5Ideal.τ).loc Cert.Kernel5Ideal.main_v56)) (v2 : (c : Dev Cert.Kernel5Ideal.nD) → Buf (Elt Ideal) ((c.tc : Thread Cert.Kernel5Ideal.nD Cert.Kernel5Ideal.τ).loc Cert.Kernel5Ideal.main_v59)) (v3 : (c : Dev Cert.Kernel5Ideal.nD) → Buf (Elt Ideal) ((c.tc : Thread Cert.Kernel5Ideal.nD Cert.Kernel5Ideal.τ).loc Cert.Kernel5Ideal.main_v64)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v65) = v0 c
          ∧ r.2.mem ((c.tc : Thread Cert.Kernel5Ideal.nD Cert.Kernel5Ideal.τ).loc Cert.Kernel5Ideal.main_v56) = v1 c
          ∧ r.2.mem ((c.tc : Thread Cert.Kernel5Ideal.nD Cert.Kernel5Ideal.τ).loc Cert.Kernel5Ideal.main_v59) = v2 c
          ∧ r.2.mem ((c.tc : Thread Cert.Kernel5Ideal.nD Cert.Kernel5Ideal.τ).loc Cert.Kernel5Ideal.main_v64) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v19) = v0 c
          ∧ r.2.mem ((c.tc : Thread Cert.Reference5Ideal.nD Cert.Reference5Ideal.τ).loc Cert.Reference5Ideal.main_v48) = v1 c
          ∧ r.2.mem ((c.tc : Thread Cert.Reference5Ideal.nD Cert.Reference5Ideal.τ).loc Cert.Reference5Ideal.main_v65) = v2 c
          ∧ r.2.mem ((c.tc : Thread Cert.Reference5Ideal.nD Cert.Reference5Ideal.τ).loc Cert.Reference5Ideal.main_v67) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v14)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v14) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v90) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_finite4 : Cert.Pre_finite4.Facts) (hPre_finite5 : Cert.Pre_finite5.Facts) (hPre_finite6 : Cert.Pre_finite6.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal_pre_finite6 (hKernel6Ideal := hKernel6Ideal) (hReference6Ideal := hReference6Ideal) (hPre_finite6 := hPre_finite6)
-- ==== Pre_finite.lean ====
abbrev S2x4112x8x192 : Shape := ⟨4, ![2, 4112, 8, 192]⟩
abbrev S2x4112x8x128 : Shape := ⟨4, ![2, 4112, 8, 128]⟩
abbrev S_ : Shape := ⟨0, ![]⟩

class Facts : Prop where
  bcast_S_S2x4112x8x192 : S_.BroadcastsInDim S2x4112x8x192 (![] : Fin 0 → Fin S2x4112x8x192.rank)

variable [Facts]

def fn {F : FTy → Type} [FloatOps F] (main_arg0 : FVec F S2x4112x8x192 .f32) (main_arg1 : FVec F S2x4112x8x192 .f32) (main_arg2 : FVec F S2x4112x8x128 .f32) : IVec S2x4112x8x192 1 :=
  let main_v0 : FVec F S2x4112x8x192 .f32 := Host.absf main_arg0
  let main_cst : FVec F S_ .f32 := constant S_ .f32 0x7F800000#32
  let main_v1 : FVec F S2x4112x8x192 .f32 := broadcastInDim S2x4112x8x192 ![] bcast_S_S2x4112x8x192 main_cst
  let main_v2 : IVec S2x4112x8x192 1 := cmpf .olt main_v0 main_v1
  let main_v3 : FVec F S2x4112x8x192 .f32 := Host.absf main_arg1
  let main_cst_0 : FVec F S_ .f32 := constant S_ .f32 0x7F800000#32
  let main_v4 : FVec F S2x4112x8x192 .f32 := broadcastInDim S2x4112x8x192 ![] bcast_S_S2x4112x8x192 main_cst_0
  let main_v5 : IVec S2x4112x8x192 1 := cmpf .olt main_v3 main_v4
  let main_v6 : IVec S2x4112x8x192 1 := andi main_v2 main_v5
  main_v6
-- ==== Pre_finite4.lean ====
abbrev S2x4112x2048 : Shape := ⟨3, ![2, 4112, 2048]⟩
abbrev S2048 : Shape := ⟨1, ![2048]⟩
abbrev S2x2048x1856 : Shape := ⟨3, ![2, 2048, 1856]⟩
abbrev S512 : Shape := ⟨1, ![512]⟩
abbrev S512x1536 : Shape := ⟨2, ![512, 1536]⟩
abbrev S256 : Shape := ⟨1, ![256]⟩
abbrev S256x2048 : Shape := ⟨2, ![256, 2048]⟩
abbrev S128 : Shape := ⟨1, ![128]⟩
abbrev S32 : Shape := ⟨1, ![32]⟩
abbrev S_ : Shape := ⟨0, ![]⟩

class Facts : Prop where
  bcast_S_S2x4112x2048 : S_.BroadcastsInDim S2x4112x2048 (![] : Fin 0 → Fin S2x4112x2048.rank)
  reducesTo_S2x4112x2048_S_d0_1_2 : S2x4112x2048.ReducesTo [0, 1, 2] S_
  h_S_ : 0 < S_.numel
  bcast_S_S2048 : S_.BroadcastsInDim S2048 (![] : Fin 0 → Fin S2048.rank)
  reducesTo_S2048_S_d0 : S2048.ReducesTo [0] S_
  bcast_S_S2x2048x1856 : S_.BroadcastsInDim S2x2048x1856 (![] : Fin 0 → Fin S2x2048x1856.rank)

variable [Facts]

def fn {F : FTy → Type} [FloatOps F] (main_arg0 : FVec F S2x4112x2048 .f32) (main_arg1 : FVec F S2048 .f32) (main_arg2 : FVec F S2x2048x1856 .f32) (main_arg3 : FVec F S512 .f32) (main_arg4 : FVec F S512x1536 .f32) (main_arg5 : FVec F S256 .f32) (main_arg6 : FVec F S256x2048 .f32) (main_arg7 : FVec F S128 .f32) (main_arg8 : FVec F S32 .f32) (main_arg9 : FVec F S128 .f32) (main_arg10 : FVec F S32 .f32) : IVec S2x2048x1856 1 :=
  let main_v0 : FVec F S2x4112x2048 .f32 := Host.absf main_arg0
  let main_cst : FVec F S_ .f32 := constant S_ .f32 0x7F800000#32
  let main_v1 : FVec F S2x4112x2048 .f32 := broadcastInDim S2x4112x2048 ![] bcast_S_S2x4112x2048 main_cst
  let main_v2 : IVec S2x4112x2048 1 := cmpf .olt main_v0 main_v1
  let main_c : IVec S_ 1 := constantI S_ 1 1#1
  let main_v3 : IVec S_ 1 := (fun x v => Host.reduce IntOp.andi x v reducesTo_S2x4112x2048_S_d0_1_2 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_v7 : IVec S2048 1 := broadcastInDim S2048 ![] bcast_S_S2048 main_v3
  let main_v8 : IVec S2048 1 := andi main_v7 main_v6
  let main_c_1 : IVec S_ 1 := constantI S_ 1 1#1
  let main_v9 : IVec S_ 1 := (fun x v => Host.reduce IntOp.andi x v reducesTo_S2048_S_d0 h_S_) main_v8 main_c_1
  let main_v10 : FVec F S2x2048x1856 .f32 := Host.absf main_arg2
  let main_cst_2 : FVec F S_ .f32 := constant S_ .f32 0x7F800000#32
  let main_v11 : FVec F S2x2048x1856 .f32 := broadcastInDim S2x2048x1856 ![] bcast_S_S2x2048x1856 main_cst_2
  let main_v12 : IVec S2x2048x1856 1 := cmpf .olt main_v10 main_v11
  let main_v13 : IVec S2x2048x1856 1 := broadcastInDim S2x2048x1856 ![] bcast_S_S2x2048x1856 main_v9
  let main_v14 : IVec S2x2048x1856 1 := andi main_v13 main_v12
  main_v14
-- ==== Pre_finite5.lean ====
abbrev S128x4x2048 : Shape := ⟨3, ![128, 4, 2048]⟩
abbrev S128x15x1024 : Shape := ⟨3, ![128, 15, 1024]⟩
abbrev S2048 : Shape := ⟨1, ![2048]⟩
abbrev S2x2048x1856 : Shape := ⟨3, ![2, 2048, 1856]⟩
abbrev S512 : Shape := ⟨1, ![512]⟩
abbrev S512x1536 : Shape := ⟨2, ![512, 1536]⟩
abbrev S256 : Shape := ⟨1, ![256]⟩
abbrev S256x2048 : Shape := ⟨2, ![256, 2048]⟩
abbrev S128 : Shape := ⟨1, ![128]⟩
abbrev S32 : Shape := ⟨1, ![32]⟩
abbrev S_ : Shape := ⟨0, ![]⟩

class Facts : Prop where
  bcast_S_S128x4x2048 : S_.BroadcastsInDim S128x4x2048 (![] : Fin 0 → Fin S128x4x2048.rank)
  reducesTo_S128x4x2048_S_d0_1_2 : S128x4x2048.ReducesTo [0, 1, 2] S_
  h_S_ : 0 < S_.numel
  bcast_S_S2048 : S_.BroadcastsInDim S2048 (![] : Fin 0 → Fin S2048.rank)
  reducesTo_S2048_S_d0 : S2048.ReducesTo [0] S_
  bcast_S_S2x2048x1856 : S_.BroadcastsInDim S2x2048x1856 (![] : Fin 0 → Fin S2x2048x1856.rank)

variable [Facts]

def fn {F : FTy → Type} [FloatOps F] (main_arg0 : FVec F S128x4x2048 .f32) (main_arg1 : FVec F S128x15x1024 .f32) (main_arg2 : FVec F S2048 .f32) (main_arg3 : FVec F S2x2048x1856 .f32) (main_arg4 : FVec F S512 .f32) (main_arg5 : FVec F S512x1536 .f32) (main_arg6 : FVec F S256 .f32) (main_arg7 : FVec F S256x2048 .f32) (main_arg8 : FVec F S128 .f32) (main_arg9 : FVec F S32 .f32) (main_arg10 : FVec F S128 .f32) (main_arg11 : FVec F S32 .f32) : IVec S2x2048x1856 1 :=
  let main_v0 : FVec F S128x4x2048 .f32 := Host.absf main_arg0
  let main_cst : FVec F S_ .f32 := constant S_ .f32 0x7F800000#32
  let main_v1 : FVec F S128x4x2048 .f32 := broadcastInDim S128x4x2048 ![] bcast_S_S128x4x2048 main_cst
  let main_v2 : IVec S128x4x2048 1 := cmpf .olt main_v0 main_v1
  let main_c : IVec S_ 1 := constantI S_ 1 1#1
  let main_v3 : IVec S_ 1 := (fun x v => Host.reduce IntOp.andi x v reducesTo_S128x4x2048_S_d0_1_2 h_S_) main_v2 main_c
  let main_v4 : FVec F S2048 .f32 := Host.absf main_arg2
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_v7 : IVec S2048 1 := broadcastInDim S2048 ![] bcast_S_S2048 main_v3
  let main_v8 : IVec S2048 1 := andi main_v7 main_v6
  let main_c_1 : IVec S_ 1 := constantI S_ 1 1#1
  let main_v9 : IVec S_ 1 := (fun x v => Host.reduce IntOp.andi x v reducesTo_S2048_S_d0 h_S_) main_v8 main_c_1
  let main_v10 : FVec F S2x2048x1856 .f32 := Host.absf main_arg3
  let main_cst_2 : FVec F S_ .f32 := constant S_ .f32 0x7F800000#32
  let main_v11 : FVec F S2x2048x1856 .f32 := broadcastInDim S2x2048x1856 ![] bcast_S_S2x2048x1856 main_cst_2
  let main_v12 : IVec S2x2048x1856 1 := cmpf .olt main_v10 main_v11
  let main_v13 : IVec S2x2048x1856 1 := broadcastInDim S2x2048x1856 ![] bcast_S_S2x2048x1856 main_v9
  let main_v14 : IVec S2x2048x1856 1 := andi main_v13 main_v12
  main_v14
-- ==== Pre_finite6.lean ====
abbrev S2x4112x2048 : Shape := ⟨3, ![2, 4112, 2048]⟩
abbrev S2x4112x1024 : Shape := ⟨3, ![2, 4112, 1024]⟩
abbrev S2x4112x8x128 : Shape := ⟨4, ![2, 4112, 8, 128]⟩
abbrev S4x256x256 : Shape := ⟨3, ![4, 256, 256]⟩
abbrev S1024 : Shape := ⟨1, ![1024]⟩
abbrev S2048x2048 : Shape := ⟨2, ![2048, 2048]⟩
abbrev S_ : Shape := ⟨0, ![]⟩

class Facts : Prop where
  bcast_S_S2x4112x1024 : S_.BroadcastsInDim S2x4112x1024 (![] : Fin 0 → Fin S2x4112x1024.rank)

variable [Facts]

def fn {F : FTy → Type} [FloatOps F] (main_arg0 : FVec F S2x4112x2048 .f32) (main_arg1 : FVec F S2x4112x1024 .f32) (main_arg2 : FVec F S2x4112x8x128 .f32) (main_arg3 : FVec F S4x256x256 .f32) (main_arg4 : FVec F S1024 .f32) (main_arg5 : FVec F S1024 .f32) (main_arg6 : FVec F S1024 .f32) (main_arg7 : FVec F S2048x2048 .f32) : IVec S2x4112x1024 1 :=
  let main_v0 : FVec F S2x4112x1024 .f32 := Host.absf main_arg1
  let main_cst : FVec F S_ .f32 := constant S_ .f32 0x7F800000#32
  let main_v1 : FVec F S2x4112x1024 .f32 := broadcastInDim S2x4112x1024 ![] bcast_S_S2x4112x1024 main_cst
  let main_v2 : IVec S2x4112x1024 1 := cmpf .olt main_v0 main_v1
  main_v2
-- ==== Kernel.lean ====
abbrev S2x4112x8x192 : Shape := ⟨4, ![2, 4112, 8, 192]⟩
abbrev S2x4112x8x128 : Shape := ⟨4, ![2, 4112, 8, 128]⟩
abbrev S_ : Shape := ⟨0, ![]⟩
abbrev S2x4352x8x128 : Shape := ⟨4, ![2, 4352, 8, 128]⟩
abbrev S34x256x8x128 : Shape := ⟨4, ![34, 256, 8, 128]⟩
abbrev S8x34x128x256 : Shape := ⟨4, ![8, 34, 128, 256]⟩
abbrev S2x4352x8x256 : Shape := ⟨4, ![2, 4352, 8, 256]⟩
abbrev S8x2x4352x256 : Shape := ⟨4, ![8, 2, 4352, 256]⟩
abbrev S8x8704x256 : Shape := ⟨3, ![8, 8704, 256]⟩
abbrev S4x256x256 : Shape := ⟨3, ![4, 256, 256]⟩
abbrev S4x4352x256 : Shape := ⟨3, ![4, 4352, 256]⟩
abbrev S4x17x128x256 : Shape := ⟨4, ![4, 17, 128, 256]⟩
abbrev S4x1x128x256 : Shape := ⟨4, ![4, 1, 128, 256]⟩
abbrev S1x256 : Shape := ⟨2, ![1, 256]⟩
abbrev S128x256 : Shape := ⟨2, ![128, 256]⟩
abbrev S1x256x256 : Shape := ⟨3, ![1, 256, 256]⟩
abbrev S256x256 : Shape := ⟨2, ![256, 256]⟩
abbrev S256 : Shape := ⟨1, ![256]⟩
abbrev S1x1x128x256 : Shape := ⟨4, ![1, 1, 128, 256]⟩
abbrev S8x2x17x128x256 : Shape := ⟨5, ![8, 2, 17, 128, 256]⟩
abbrev S2x17x256x8x128 : Shape := ⟨5, ![2, 17, 256, 8, 128]⟩

abbrev nBuf : Space → Nat
  | .hbm => 33
  | .vmem => 8
  | .smem => 0
  | _ => 0

abbrev bufTy : (tb : Table) → Fin (tcTables nBuf tb) → BufTy
  | .hbm, ⟨0, _⟩ => ⟨S2x4112x8x192, .f32⟩
  | .hbm, ⟨1, _⟩ => ⟨S2x4112x8x192, .f32⟩
  | .hbm, ⟨2, _⟩ => ⟨S2x4112x8x128, .f32⟩
  | .hbm, ⟨3, _⟩ => ⟨S_, .i32⟩
  | .hbm, ⟨4, _⟩ => ⟨S_, .f32⟩
  | .hbm, ⟨5, _⟩ => ⟨S2x4352x8x128, .f32⟩
  | .hbm, ⟨6, _⟩ => ⟨S34x256x8x128, .f32⟩
  | .hbm, ⟨7, _⟩ => ⟨S8x34x128x256, .f32⟩
  | .hbm, ⟨8, _⟩ => ⟨S8x34x128x256, .bf16⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S2x4112x8x192, .f32⟩
  | .hbm, ⟨15, _⟩ => ⟨S2x4112x8x192, .f32⟩
  | .hbm, ⟨16, _⟩ => ⟨S_, .i32⟩
  | .hbm, ⟨17, _⟩ => ⟨S_, .f32⟩
  | .hbm, ⟨18, _⟩ => ⟨S2x4352x8x256, .f32⟩
  | .hbm, ⟨19, _⟩ => ⟨S8x2x4352x256, .f32⟩
  | .hbm, ⟨20, _⟩ => ⟨S8x8704x256, .f32⟩
  | .hbm, ⟨21, _⟩ => ⟨S8x8704x256, .bf16⟩
  | .hbm, ⟨22, _⟩ => ⟨S_, .i32⟩
  | .hbm, ⟨23, _⟩ => ⟨S_, .f32⟩
  | .hbm, ⟨24, _⟩ => ⟨S2x4352x8x256, .f32⟩
  | .hbm, ⟨25, _⟩ => ⟨S8x2x4352x256, .f32⟩
  | .hbm, ⟨26, _⟩ => ⟨S8x8704x256, .f32⟩
  | .hbm, ⟨27, _⟩ => ⟨S8x8704x256, .bf16⟩
  | .hbm, ⟨28, _⟩ => ⟨S8x34x128x256, .f32⟩
  | .hbm, ⟨29, _⟩ => ⟨S8x2x17x128x256, .f32⟩
  | .hbm, ⟨30, _⟩ => ⟨S2x17x256x8x128, .f32⟩
  | .hbm, ⟨31, _⟩ => ⟨S2x4352x8x128, .f32⟩
  | .hbm, ⟨32, _⟩ => ⟨S2x4112x8x128, .f32⟩
  | .local _ .vmem, ⟨0, _⟩ => ⟨S4x256x256, .bf16⟩
  | .local _ .vmem, ⟨1, _⟩ => ⟨S4x256x256, .bf16⟩
  | .local _ .vmem, ⟨2, _⟩ => ⟨S4x4352x256, .bf16⟩
  | .local _ .vmem, ⟨3, _⟩ => ⟨S4x4352x256, .bf16⟩
  | .local _ .vmem, ⟨4, _⟩ => ⟨S4x17x128x256, .bf16⟩
  | .local _ .vmem, ⟨5, _⟩ => ⟨S4x17x128x256, .bf16⟩
  | .local _ .vmem, ⟨6, _⟩ => ⟨S4x1x128x256, .f32⟩
  | .local _ .vmem, ⟨7, _⟩ => ⟨S4x1x128x256, .f32⟩
  | _, _ => ⟨S2x4112x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_call1_v0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_call2_v0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 17], ![false, false, false]⟩

def k0_mult1 : BitVec 32 :=
  let c0_i32 : BitVec 32 := 0#32
  c0_i32
def k0_mult2 : BitVec 32 :=
  let c0_i32_7 : BitVec 32 := 0#32
  c0_i32_7
def k0_mult3 : BitVec 32 :=
  let c0_i32_13 : BitVec 32 := 0#32
  c0_i32_13
def k0_mult4 : BitVec 32 :=
  let c0_i32_19 : BitVec 32 := 0#32
  c0_i32_19
@[reducible] def k0_t1_loop (i : grid0.Coords) : Scf.Loop 32 :=
  let c0_i32_25 : BitVec 32 := 0#32
  let arg2 : BitVec 32 := BitVec.ofNat 32 (i 2).val
  let v31 : BitVec 32 := Scalar.subi arg2 c0_i32_25
  let c1_i32 : BitVec 32 := 1#32
  let v33 : BitVec 32 := Scalar.divsi v31 c1_i32
  let v34 : BitVec 32 := Scalar.muli v33 c1_i32
  let v35 : BitVec 32 := Scalar.addi c0_i32_25 v34
  let c1_i32_26 : BitVec 32 := 1#32
  ⟨c0_i32_25, v35, c1_i32_26⟩
def k0_mult5 (i : grid0.Coords) (k0_t1 : Fin (k0_t1_loop i).trips) : BitVec 32 :=
  let c0_i32_25 : BitVec 32 := 0#32
  let c1_i32_26 : BitVec 32 := 1#32
  let arg7 : BitVec 32 := Scf.iv c0_i32_25 c1_i32_26 k0_t1
  let c1_i32_72 : BitVec 32 := 1#32
  let v152 : BitVec 32 := Scalar.addi arg7 c1_i32_72
  let c256_i32 : BitVec 32 := 256#32
  let v153 : BitVec 32 := Scalar.muli v152 c256_i32
  v153
def k0_off1 (i : grid0.Coords) (k0_t1 : Fin (k0_t1_loop i).trips) : Fin 3 → Nat :=
  let c0_73 : Index := 0#32
  let c0_i32_25 : BitVec 32 := 0#32
  let c1_i32_26 : BitVec 32 := 1#32
  let arg7 : BitVec 32 := Scf.iv c0_i32_25 c1_i32_26 k0_t1
  let c1_i32_72 : BitVec 32 := 1#32
  let v152 : BitVec 32 := Scalar.addi arg7 c1_i32_72
  let c256_i32 : BitVec 32 := 256#32
  let v153 : BitVec 32 := Scalar.muli v152 c256_i32
  let v154 : BitVec 32 := v153
  let v155 : Index := Scalar.indexCast v154
  let c0_74 : Index := 0#32
  ![0, v155.toNat, 0]
def k0_off2 (i : grid0.Coords) (k0_t1 : Fin (k0_t1_loop i).trips) : Fin 4 → Nat :=
  let c0_81 : Index := 0#32
  let c0_i32_25 : BitVec 32 := 0#32
  let c1_i32_26 : BitVec 32 := 1#32
  let arg7 : BitVec 32 := Scf.iv c0_i32_25 c1_i32_26 k0_t1
  let v175 : Index := Scalar.indexCast arg7
  let c0_82 : Index := 0#32
  let c0_83 : Index := 0#32
  ![0, v175.toNat, 0, 0]
def k0_mult6 (i : grid0.Coords) (k0_t1 : Fin (k0_t1_loop i).trips) : BitVec 32 :=
  let c0_i32_25 : BitVec 32 := 0#32
  let c1_i32_26 : BitVec 32 := 1#32
  let arg7 : BitVec 32 := Scf.iv c0_i32_25 c1_i32_26 k0_t1
  let c1_i32_85 : BitVec 32 := 1#32
  let v181 : BitVec 32 := Scalar.addi arg7 c1_i32_85
  let c256_i32_86 : BitVec 32 := 256#32
  let v182 : BitVec 32 := Scalar.muli v181 c256_i32_86
  v182
def k0_off3 (i : grid0.Coords) (k0_t1 : Fin (k0_t1_loop i).trips) : Fin 3 → Nat :=
  let c1_87 : Index := 1#32
  let c0_i32_25 : BitVec 32 := 0#32
  let c1_i32_26 : BitVec 32 := 1#32
  let arg7 : BitVec 32 := Scf.iv c0_i32_25 c1_i32_26 k0_t1
  let c1_i32_85 : BitVec 32 := 1#32
  let v181 : BitVec 32 := Scalar.addi arg7 c1_i32_85
  let c256_i32_86 : BitVec 32 := 256#32
  let v182 : BitVec 32 := Scalar.muli v181 c256_i32_86
  let v183 : BitVec 32 := v182
  let v184 : Index := Scalar.indexCast v183
  let c0_88 : Index := 0#32
  ![1, v184.toNat, 0]
def k0_off4 (i : grid0.Coords) (k0_t1 : Fin (k0_t1_loop i).trips) : Fin 4 → Nat :=
  let c1_95 : Index := 1#32
  let c0_i32_25 : BitVec 32 := 0#32
  let c1_i32_26 : BitVec 32 := 1#32
  let arg7 : BitVec 32 := Scf.iv c0_i32_25 c1_i32_26 k0_t1
  let v204 : Index := Scalar.indexCast arg7
  let c0_96 : Index := 0#32
  let c0_97 : Index := 0#32
  ![1, v204.toNat, 0, 0]
def k0_mult7 (i : grid0.Coords) (k0_t1 : Fin (k0_t1_loop i).trips) : BitVec 32 :=
  let c0_i32_25 : BitVec 32 := 0#32
  let c1_i32_26 : BitVec 32 := 1#32
  let arg7 : BitVec 32 := Scf.iv c0_i32_25 c1_i32_26 k0_t1
  let c1_i32_99 : BitVec 32 := 1#32
  let v210 : BitVec 32 := Scalar.addi arg7 c1_i32_99
  let c256_i32_100 : BitVec 32 := 256#32
  let v211 : BitVec 32 := Scalar.muli v210 c256_i32_100
  v211
def k0_off5 (i : grid0.Coords) (k0_t1 : Fin (k0_t1_loop i).trips) : Fin 3 → Nat :=
  let c2_101 : Index := 2#32
  let c0_i32_25 : BitVec 32 := 0#32
  let c1_i32_26 : BitVec 32 := 1#32
  let arg7 : BitVec 32 := Scf.iv c0_i32_25 c1_i32_26 k0_t1
  let c1_i32_99 : BitVec 32 := 1#32
  let v210 : BitVec 32 := Scalar.addi arg7 c1_i32_99
  let c256_i32_100 : BitVec 32 := 256#32
  let v211 : BitVec 32 := Scalar.muli v210 c256_i32_100
  let v212 : BitVec 32 := v211
  let v213 : Index := Scalar.indexCast v212
  let c0_102 : Index := 0#32
  ![2, v213.toNat, 0]
def k0_off6 (i : grid0.Coords) (k0_t1 : Fin (k0_t1_loop i).trips) : Fin 4 → Nat :=
  let c2_109 : Index := 2#32
  let c0_i32_25 : BitVec 32 := 0#32
  let c1_i32_26 : BitVec 32 := 1#32
  let arg7 : BitVec 32 := Scf.iv c0_i32_25 c1_i32_26 k0_t1
  let v233 : Index := Scalar.indexCast arg7
  let c0_110 : Index := 0#32
  let c0_111 : Index := 0#32
  ![2, v233.toNat, 0, 0]
def k0_mult8 (i : grid0.Coords) (k0_t1 : Fin (k0_t1_loop i).trips) : BitVec 32 :=
  let c0_i32_25 : BitVec 32 := 0#32
  let c1_i32_26 : BitVec 32 := 1#32
  let arg7 : BitVec 32 := Scf.iv c0_i32_25 c1_i32_26 k0_t1
  let c1_i32_113 : BitVec 32 := 1#32
  let v239 : BitVec 32 := Scalar.addi arg7 c1_i32_113
  let c256_i32_114 : BitVec 32 := 256#32
  let v240 : BitVec 32 := Scalar.muli v239 c256_i32_114
  v240
def k0_off7 (i : grid0.Coords) (k0_t1 : Fin (k0_t1_loop i).trips) : Fin 3 → Nat :=
  let c3_115 : Index := 3#32
  let c0_i32_25 : BitVec 32 := 0#32
  let c1_i32_26 : BitVec 32 := 1#32
  let arg7 : BitVec 32 := Scf.iv c0_i32_25 c1_i32_26 k0_t1
  let c1_i32_113 : BitVec 32 := 1#32
  let v239 : BitVec 32 := Scalar.addi arg7 c1_i32_113
  let c256_i32_114 : BitVec 32 := 256#32
  let v240 : BitVec 32 := Scalar.muli v239 c256_i32_114
  let v241 : BitVec 32 := v240
  let v242 : Index := Scalar.indexCast v241
  let c0_116 : Index := 0#32
  ![3, v242.toNat, 0]
def k0_off8 (i : grid0.Coords) (k0_t1 : Fin (k0_t1_loop i).trips) : Fin 4 → Nat :=
  let c3_123 : Index := 3#32
  let c0_i32_25 : BitVec 32 := 0#32
  let c1_i32_26 : BitVec 32 := 1#32
  let arg7 : BitVec 32 := Scf.iv c0_i32_25 c1_i32_26 k0_t1
  let v262 : Index := Scalar.indexCast arg7
  let c0_124 : Index := 0#32
  let c0_125 : Index := 0#32
  ![3, v262.toNat, 0, 0]
@[reducible] def k0_t2_loop (i : grid0.Coords) : Scf.Loop 32 :=
  let c0_i32_25 : BitVec 32 := 0#32
  let arg2 : BitVec 32 := BitVec.ofNat 32 (i 2).val
  let v31 : BitVec 32 := Scalar.subi arg2 c0_i32_25
  let c1_i32 : BitVec 32 := 1#32
  let v33 : BitVec 32 := Scalar.divsi v31 c1_i32
  let v34 : BitVec 32 := Scalar.muli v33 c1_i32
  let v35 : BitVec 32 := Scalar.addi c0_i32_25 v34
  let v32 : BitVec 32 := Scalar.addi c0_i32_25 v31
  let c1_i32_27 : BitVec 32 := 1#32
  ⟨v35, v32, c1_i32_27⟩
def k0_mult9 (i : grid0.Coords) (k0_t2 : Fin (k0_t2_loop i).trips) : BitVec 32 :=
  let c0_i32_25 : BitVec 32 := 0#32
  let arg2 : BitVec 32 := BitVec.ofNat 32 (i 2).val
  let v31 : BitVec 32 := Scalar.subi arg2 c0_i32_25
  let c1_i32 : BitVec 32 := 1#32
  let v33 : BitVec 32 := Scalar.divsi v31 c1_i32
  let v34 : BitVec 32 := Scalar.muli v33 c1_i32
  let v35 : BitVec 32 := Scalar.addi c0_i32_25 v34
  let c1_i32_27 : BitVec 32 := 1#32
  let arg7 : BitVec 32 := Scf.iv v35 c1_i32_27 k0_t2
  let c1_i32_72 : BitVec 32 := 1#32
  let v152 : BitVec 32 := Scalar.addi arg7 c1_i32_72
  let c256_i32 : BitVec 32 := 256#32
  let v153 : BitVec 32 := Scalar.muli v152 c256_i32
  v153
def k0_off9 (i : grid0.Coords) (k0_t2 : Fin (k0_t2_loop i).trips) : Fin 3 → Nat :=
  let c0_73 : Index := 0#32
  let c0_i32_25 : BitVec 32 := 0#32
  let arg2 : BitVec 32 := BitVec.ofNat 32 (i 2).val
  let v31 : BitVec 32 := Scalar.subi arg2 c0_i32_25
  let c1_i32 : BitVec 32 := 1#32
  let v33 : BitVec 32 := Scalar.divsi v31 c1_i32
  let v34 : BitVec 32 := Scalar.muli v33 c1_i32
  let v35 : BitVec 32 := Scalar.addi c0_i32_25 v34
  let c1_i32_27 : BitVec 32 := 1#32
  let arg7 : BitVec 32 := Scf.iv v35 c1_i32_27 k0_t2
  let c1_i32_72 : BitVec 32 := 1#32
  let v152 : BitVec 32 := Scalar.addi arg7 c1_i32_72
  let c256_i32 : BitVec 32 := 256#32
  let v153 : BitVec 32 := Scalar.muli v152 c256_i32
  let v154 : BitVec 32 := v153
  let v155 : Index := Scalar.indexCast v154
  let c0_74 : Index := 0#32
  ![0, v155.toNat, 0]
def k0_off10 (i : grid0.Coords) (k0_t2 : Fin (k0_t2_loop i).trips) : Fin 4 → Nat :=
  let c0_81 : Index := 0#32
  let c0_i32_25 : BitVec 32 := 0#32
  let arg2 : BitVec 32 := BitVec.ofNat 32 (i 2).val
  let v31 : BitVec 32 := Scalar.subi arg2 c0_i32_25
  let c1_i32 : BitVec 32 := 1#32
  let v33 : BitVec 32 := Scalar.divsi v31 c1_i32
  let v34 : BitVec 32 := Scalar.muli v33 c1_i32
  let v35 : BitVec 32 := Scalar.addi c0_i32_25 v34
  let c1_i32_27 : BitVec 32 := 1#32
  let arg7 : BitVec 32 := Scf.iv v35 c1_i32_27 k0_t2
  let v175 : Index := Scalar.indexCast arg7
  let c0_82 : Index := 0#32
  let c0_83 : Index := 0#32
  ![0, v175.toNat, 0, 0]
def k0_mult10 (i : grid0.Coords) (k0_t2 : Fin (k0_t2_loop i).trips) : BitVec 32 :=
  let c0_i32_25 : BitVec 32 := 0#32
  let arg2 : BitVec 32 := BitVec.ofNat 32 (i 2).val
  let v31 : BitVec 32 := Scalar.subi arg2 c0_i32_25
  let c1_i32 : BitVec 32 := 1#32
  let v33 : BitVec 32 := Scalar.divsi v31 c1_i32
  let v34 : BitVec 32 := Scalar.muli v33 c1_i32
  let v35 : BitVec 32 := Scalar.addi c0_i32_25 v34
  let c1_i32_27 : BitVec 32 := 1#32
  let arg7 : BitVec 32 := Scf.iv v35 c1_i32_27 k0_t2
  let c1_i32_85 : BitVec 32 := 1#32
  let v181 : BitVec 32 := Scalar.addi arg7 c1_i32_85
  let c256_i32_86 : BitVec 32 := 256#32
  let v182 : BitVec 32 := Scalar.muli v181 c256_i32_86
  v182
def k0_off11 (i : grid0.Coords) (k0_t2 : Fin (k0_t2_loop i).trips) : Fin 3 → Nat :=
  let c1_87 : Index := 1#32
  let c0_i32_25 : BitVec 32 := 0#32
  let arg2 : BitVec 32 := BitVec.ofNat 32 (i 2).val
  let v31 : BitVec 32 := Scalar.subi arg2 c0_i32_25
  let c1_i32 : BitVec 32 := 1#32
  let v33 : BitVec 32 := Scalar.divsi v31 c1_i32
  let v34 : BitVec 32 := Scalar.muli v33 c1_i32
  let v35 : BitVec 32 := Scalar.addi c0_i32_25 v34
  let c1_i32_27 : BitVec 32 := 1#32
  let arg7 : BitVec 32 := Scf.iv v35 c1_i32_27 k0_t2
  let c1_i32_85 : BitVec 32 := 1#32
  let v181 : BitVec 32 := Scalar.addi arg7 c1_i32_85
  let c256_i32_86 : BitVec 32 := 256#32
  let v182 : BitVec 32 := Scalar.muli v181 c256_i32_86
  let v183 : BitVec 32 := v182
  let v184 : Index := Scalar.indexCast v183
  let c0_88 : Index := 0#32
  ![1, v184.toNat, 0]
def k0_off12 (i : grid0.Coords) (k0_t2 : Fin (k0_t2_loop i).trips) : Fin 4 → Nat :=
  let c1_95 : Index := 1#32
  let c0_i32_25 : BitVec 32 := 0#32
  let arg2 : BitVec 32 := BitVec.ofNat 32 (i 2).val
  let v31 : BitVec 32 := Scalar.subi arg2 c0_i32_25
  let c1_i32 : BitVec 32 := 1#32
  let v33 : BitVec 32 := Scalar.divsi v31 c1_i32
  let v34 : BitVec 32 := Scalar.muli v33 c1_i32
  let v35 : BitVec 32 := Scalar.addi c0_i32_25 v34
  let c1_i32_27 : BitVec 32 := 1#32
  let arg7 : BitVec 32 := Scf.iv v35 c1_i32_27 k0_t2
  let v204 : Index := Scalar.indexCast arg7
  let c0_96 : Index := 0#32
  let c0_97 : Index := 0#32
  ![1, v204.toNat, 0, 0]
def k0_mult11 (i : grid0.Coords) (k0_t2 : Fin (k0_t2_loop i).trips) : BitVec 32 :=
  let c0_i32_25 : BitVec 32 := 0#32
  let arg2 : BitVec 32 := BitVec.ofNat 32 (i 2).val
  let v31 : BitVec 32 := Scalar.subi arg2 c0_i32_25
  let c1_i32 : BitVec 32 := 1#32
  let v33 : BitVec 32 := Scalar.divsi v31 c1_i32
  let v34 : BitVec 32 := Scalar.muli v33 c1_i32
  let v35 : BitVec 32 := Scalar.addi c0_i32_25 v34
  let c1_i32_27 : BitVec 32 := 1#32
  let arg7 : BitVec 32 := Scf.iv v35 c1_i32_27 k0_t2
  let c1_i32_99 : BitVec 32 := 1#32
  let v210 : BitVec 32 := Scalar.addi arg7 c1_i32_99
  let c256_i32_100 : BitVec 32 := 256#32
  let v211 : BitVec 32 := Scalar.muli v210 c256_i32_100
  v211
def k0_off13 (i : grid0.Coords) (k0_t2 : Fin (k0_t2_loop i).trips) : Fin 3 → Nat :=
  let c2_101 : Index := 2#32
  let c0_i32_25 : BitVec 32 := 0#32
  let arg2 : BitVec 32 := BitVec.ofNat 32 (i 2).val
  let v31 : BitVec 32 := Scalar.subi arg2 c0_i32_25
  let c1_i32 : BitVec 32 := 1#32
  let v33 : BitVec 32 := Scalar.divsi v31 c1_i32
  let v34 : BitVec 32 := Scalar.muli v33 c1_i32
  let v35 : BitVec 32 := Scalar.addi c0_i32_25 v34
  let c1_i32_27 : BitVec 32 := 1#32
  let arg7 : BitVec 32 := Scf.iv v35 c1_i32_27 k0_t2
  let c1_i32_99 : BitVec 32 := 1#32
  let v210 : BitVec 32 := Scalar.addi arg7 c1_i32_99
  let c256_i32_100 : BitVec 32 := 256#32
  let v211 : BitVec 32 := Scalar.muli v210 c256_i32_100
  let v212 : BitVec 32 := v211
  let v213 : Index := Scalar.indexCast v212
  let c0_102 : Index := 0#32
  ![2, v213.toNat, 0]
def k0_off14 (i : grid0.Coords) (k0_t2 : Fin (k0_t2_loop i).trips) : Fin 4 → Nat :=
  let c2_109 : Index := 2#32
  let c0_i32_25 : BitVec 32 := 0#32
  let arg2 : BitVec 32 := BitVec.ofNat 32 (i 2).val
  let v31 : BitVec 32 := Scalar.subi arg2 c0_i32_25
  let c1_i32 : BitVec 32 := 1#32
  let v33 : BitVec 32 := Scalar.divsi v31 c1_i32
  let v34 : BitVec 32 := Scalar.muli v33 c1_i32
  let v35 : BitVec 32 := Scalar.addi c0_i32_25 v34
  let c1_i32_27 : BitVec 32 := 1#32
  let arg7 : BitVec 32 := Scf.iv v35 c1_i32_27 k0_t2
  let v233 : Index := Scalar.indexCast arg7
  let c0_110 : Index := 0#32
  let c0_111 : Index := 0#32
  ![2, v233.toNat, 0, 0]
def k0_mult12 (i : grid0.Coords) (k0_t2 : Fin (k0_t2_loop i).trips) : BitVec 32 :=
  let c0_i32_25 : BitVec 32 := 0#32
  let arg2 : BitVec 32 := BitVec.ofNat 32 (i 2).val
  let v31 : BitVec 32 := Scalar.subi arg2 c0_i32_25
  let c1_i32 : BitVec 32 := 1#32
  let v33 : BitVec 32 := Scalar.divsi v31 c1_i32
  let v34 : BitVec 32 := Scalar.muli v33 c1_i32
  let v35 : BitVec 32 := Scalar.addi c0_i32_25 v34
  let c1_i32_27 : BitVec 32 := 1#32
  let arg7 : BitVec 32 := Scf.iv v35 c1_i32_27 k0_t2
  let c1_i32_113 : BitVec 32 := 1#32
  let v239 : BitVec 32 := Scalar.addi arg7 c1_i32_113
  let c256_i32_114 : BitVec 32 := 256#32
  let v240 : BitVec 32 := Scalar.muli v239 c256_i32_114
  v240
def k0_off15 (i : grid0.Coords) (k0_t2 : Fin (k0_t2_loop i).trips) : Fin 3 → Nat :=
  let c3_115 : Index := 3#32
  let c0_i32_25 : BitVec 32 := 0#32
  let arg2 : BitVec 32 := BitVec.ofNat 32 (i 2).val
  let v31 : BitVec 32 := Scalar.subi arg2 c0_i32_25
  let c1_i32 : BitVec 32 := 1#32
  let v33 : BitVec 32 := Scalar.divsi v31 c1_i32
  let v34 : BitVec 32 := Scalar.muli v33 c1_i32
  let v35 : BitVec 32 := Scalar.addi c0_i32_25 v34
  let c1_i32_27 : BitVec 32 := 1#32
  let arg7 : BitVec 32 := Scf.iv v35 c1_i32_27 k0_t2
  let c1_i32_113 : BitVec 32 := 1#32
  let v239 : BitVec 32 := Scalar.addi arg7 c1_i32_113
  let c256_i32_114 : BitVec 32 := 256#32
  let v240 : BitVec 32 := Scalar.muli v239 c256_i32_114
  let v241 : BitVec 32 := v240
  let v242 : Index := Scalar.indexCast v241
  let c0_116 : Index := 0#32
  ![3, v242.toNat, 0]
def k0_off16 (i : grid0.Coords) (k0_t2 : Fin (k0_t2_loop i).trips) : Fin 4 → Nat :=
  let c3_123 : Index := 3#32
  let c0_i32_25 : BitVec 32 := 0#32
  let arg2 : BitVec 32 := BitVec.ofNat 32 (i 2).val
  let v31 : BitVec 32 := Scalar.subi arg2 c0_i32_25
  let c1_i32 : BitVec 32 := 1#32
  let v33 : BitVec 32 := Scalar.divsi v31 c1_i32
  let v34 : BitVec 32 := Scalar.muli v33 c1_i32
  let v35 : BitVec 32 := Scalar.addi c0_i32_25 v34
  let c1_i32_27 : BitVec 32 := 1#32
  let arg7 : BitVec 32 := Scf.iv v35 c1_i32_27 k0_t2
  let v262 : Index := Scalar.indexCast arg7
  let c0_124 : Index := 0#32
  let c0_125 : Index := 0#32
  ![3, v262.toNat, 0, 0]
def k0_off17 (i : grid0.Coords) : Fin 4 → Nat :=
  let c0_31 : Index := 0#32
  let arg2 : BitVec 32 := BitVec.ofNat 32 (i 2).val
  let v57 : Index := Scalar.indexCast arg2
  let c0_32 : Index := 0#32
  let c0_33 : Index := 0#32
  ![0, v57.toNat, 0, 0]
def k0_off18 (i : grid0.Coords) : Fin 4 → Nat :=
  let c1_42 : Index := 1#32
  let arg2 : BitVec 32 := BitVec.ofNat 32 (i 2).val
  let v85 : Index := Scalar.indexCast arg2
  let c0_43 : Index := 0#32
  let c0_44 : Index := 0#32
  ![1, v85.toNat, 0, 0]
def k0_off19 (i : grid0.Coords) : Fin 4 → Nat :=
  let c2_53 : Index := 2#32
  let arg2 : BitVec 32 := BitVec.ofNat 32 (i 2).val
  let v113 : Index := Scalar.indexCast arg2
  let c0_54 : Index := 0#32
  let c0_55 : Index := 0#32
  ![2, v113.toNat, 0, 0]
def k0_off20 (i : grid0.Coords) : Fin 4 → Nat :=
  let c3_64 : Index := 3#32
  let arg2 : BitVec 32 := BitVec.ofNat 32 (i 2).val
  let v141 : Index := Scalar.indexCast arg2
  let c0_65 : Index := 0#32
  let c0_66 : Index := 0#32
  ![3, v141.toNat, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let v0 : BitVec 32 := Scalar.muli arg0 c17_i32
  let v1 : BitVec 32 := Scalar.addi v0 arg2
  let c0_i32 : BitVec 32 := 0#32
  let c0_i32_0 : BitVec 32 := 0#32
  ![arg1.toNat, v1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let v0 : BitVec 32 := Scalar.muli arg0 c17_i32
  let v1 : BitVec 32 := Scalar.addi v0 arg2
  let c0_i32 : BitVec 32 := 0#32
  let c0_i32_0 : BitVec 32 := 0#32
  let c0_i32_1 : BitVec 32 := 0#32
  ![arg1.toNat, v1.toNat, c0_i32.toNat, c0_i32_0.toNat]

abbrev stage0_0 : Fin 2 → Memref sig .tc .vmem S4x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4x4352x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4x17x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4x1x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S2x4112x8x192 : Shape := ⟨4, ![2, 4112, 8, 192]⟩
abbrev S2x4112x8x128 : Shape := ⟨4, ![2, 4112, 8, 128]⟩
abbrev S2x8x4112x4112 : Shape := ⟨4, ![2, 8, 4112, 4112]⟩
abbrev S_ : Shape := ⟨0, ![]⟩
abbrev S4112 : Shape := ⟨1, ![4112]⟩
abbrev S1x4112 : Shape := ⟨2, ![1, 4112]⟩
abbrev S4112x1 : Shape := ⟨2, ![4112, 1]⟩
abbrev S4112x4112 : Shape := ⟨2, ![4112, 4112]⟩
abbrev S2x8x4112 : Shape := ⟨3, ![2, 8, 4112]⟩
abbrev S2x8x4112x1 : Shape := ⟨4, ![2, 8, 4112, 1]⟩
abbrev S2x8x128x4112 : Shape := ⟨4, ![2, 8, 128, 4112]⟩

abbrev nBuf : Space → Nat
  | .hbm => 35
  | .vmem => 0
  | .smem => 0
  | _ => 0

abbrev bufTy : (tb : Table) → Fin (tcTables nBuf tb) → BufTy
  | .hbm, ⟨0, _⟩ => ⟨S2x4112x8x192, .f32⟩
  | .hbm, ⟨1, _⟩ => ⟨S2x4112x8x192, .f32⟩
  | .hbm, ⟨2, _⟩ => ⟨S2x4112x8x128, .f32⟩
  | .hbm, ⟨3, _⟩ => ⟨S2x8x4112x4112, .f32⟩
  | .hbm, ⟨4, _⟩ => ⟨S_, .f32⟩
  | .hbm, ⟨5, _⟩ => ⟨S_, .f32⟩
  | .hbm, ⟨6, _⟩ => ⟨S2x8x4112x4112, .f32⟩
  | .hbm, ⟨7, _⟩ => ⟨S2x8x4112x4112, .f32⟩
  | .hbm, ⟨8, _⟩ => ⟨S4112, .i32⟩
  | .hbm, ⟨9, _⟩ => ⟨S1x4112, .i32⟩
  | .hbm, ⟨10, _⟩ => ⟨S4112x1, .i32⟩
  | .hbm, ⟨11, _⟩ => ⟨S4112x4112, .i32⟩
  | .hbm, ⟨12, _⟩ => ⟨S4112x4112, .i32⟩
  | .hbm, ⟨13, _⟩ => ⟨S4112x4112, .i1⟩
  | .hbm, ⟨14, _⟩ => ⟨S_, .f32⟩
  | .hbm, ⟨15, _⟩ => ⟨S_, .f32⟩
  | .hbm, ⟨16, _⟩ => ⟨S2x8x4112x4112, .i1⟩
  | .hbm, ⟨17, _⟩ => ⟨S2x8x4112x4112, .f32⟩
  | .hbm, ⟨18, _⟩ => ⟨S2x8x4112x4112, .f32⟩
  | .hbm, ⟨19, _⟩ => ⟨S_, .f32⟩
  | .hbm, ⟨20, _⟩ => ⟨S2x8x4112, .f32⟩
  | .hbm, ⟨21, _⟩ => ⟨S_, .f32⟩
  | .hbm, ⟨22, _⟩ => ⟨S2x8x4112, .f32⟩
  | .hbm, ⟨23, _⟩ => ⟨S2x8x4112, .f32⟩
  | .hbm, ⟨24, _⟩ => ⟨S2x8x4112x1, .f32⟩
  | .hbm, ⟨25, _⟩ => ⟨S2x8x4112x4112, .f32⟩
  | .hbm, ⟨26, _⟩ => ⟨S2x8x4112x4112, .f32⟩
  | .hbm, ⟨27, _⟩ => ⟨S2x8x4112x4112, .f32⟩
  | .hbm, ⟨28, _⟩ => ⟨S_, .f32⟩
  | .hbm, ⟨29, _⟩ => ⟨S2x8x4112, .f32⟩
  | .hbm, ⟨30, _⟩ => ⟨S2x8x4112x1, .f32⟩
  | .hbm, ⟨31, _⟩ => ⟨S2x8x4112x4112, .f32⟩
  | .hbm, ⟨32, _⟩ => ⟨S2x8x4112x4112, .f32⟩
  | .hbm, ⟨33, _⟩ => ⟨S2x8x128x4112, .f32⟩
  | .hbm, ⟨34, _⟩ => ⟨S2x4112x8x128, .f32⟩
  | _, _ => ⟨S2x4112x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]
-- ==== Kernel2.lean ====
abbrev S2x4112x2048 : Shape := ⟨3, ![2, 4112, 2048]⟩
abbrev S2048 : Shape := ⟨1, ![2048]⟩
abbrev S2048x5632 : Shape := ⟨2, ![2048, 5632]⟩
abbrev S5632x2048 : Shape := ⟨2, ![5632, 2048]⟩
abbrev S_ : Shape := ⟨0, ![]⟩
abbrev S2x4352x2048 : Shape := ⟨3, ![2, 4352, 2048]⟩
abbrev S8704x2048 : Shape := ⟨2, ![8704, 2048]⟩
abbrev S1x2048 : Shape := ⟨2, ![1, 2048]⟩
abbrev S544x2048 : Shape := ⟨2, ![544, 2048]⟩
abbrev S2048x512 : Shape := ⟨2, ![2048, 512]⟩
abbrev S512x2048 : Shape := ⟨2, ![512, 2048]⟩
abbrev S544 : Shape := ⟨1, ![544]⟩
abbrev S544x1 : Shape := ⟨2, ![544, 1]⟩
abbrev S544x512 : Shape := ⟨2, ![544, 512]⟩
abbrev S2x4096x2048 : Shape := ⟨3, ![2, 4096, 2048]⟩

abbrev nBuf : Space → Nat
  | .hbm => 16
  | .vmem => 12
  | .smem => 0
  | _ => 0

abbrev bufTy : (tb : Table) → Fin (tcTables nBuf tb) → BufTy
  | .hbm, ⟨0, _⟩ => ⟨S2x4112x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S_, .i32⟩
  | .hbm, ⟨6, _⟩ => ⟨S_, .f32⟩
  | .hbm, ⟨7, _⟩ => ⟨S2x4352x2048, .f32⟩
  | .hbm, ⟨8, _⟩ => ⟨S8704x2048, .f32⟩
  | .hbm, ⟨9, _⟩ => ⟨S1x2048, .f32⟩
  | .hbm, ⟨10, _⟩ => ⟨S2048x5632, .bf16⟩
  | .hbm, ⟨11, _⟩ => ⟨S2048x5632, .bf16⟩
  | .hbm, ⟨12, _⟩ => ⟨S5632x2048, .bf16⟩
  | .hbm, ⟨13, _⟩ => ⟨S8704x2048, .f32⟩
  | .hbm, ⟨14, _⟩ => ⟨S2x4352x2048, .f32⟩
  | .hbm, ⟨15, _⟩ => ⟨S2x4096x2048, .f32⟩
  | .local _ .vmem, ⟨0, _⟩ => ⟨S544x2048, .f32⟩
  | .local _ .vmem, ⟨1, _⟩ => ⟨S544x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S544x2048, .f32⟩
  | .local _ .vmem, ⟨10, _⟩ => ⟨S544x2048, .f32⟩
  | .local _ .vmem, ⟨11, _⟩ => ⟨S544x2048, .bf16⟩
  | _, _ => ⟨S2x4112x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S544x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S544x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S2x4112x2048 : Shape := ⟨3, ![2, 4112, 2048]⟩
abbrev S2048 : Shape := ⟨1, ![2048]⟩
abbrev S2048x5632 : Shape := ⟨2, ![2048, 5632]⟩
abbrev S5632x2048 : Shape := ⟨2, ![5632, 2048]⟩
abbrev S_ : Shape := ⟨0, ![]⟩
abbrev S2x4112 : Shape := ⟨2, ![2, 4112]⟩
abbrev S2x4112x1 : Shape := ⟨3, ![2, 4112, 1]⟩
abbrev S1x1x2048 : Shape := ⟨3, ![1, 1, 2048]⟩
abbrev S2x4112x5632 : Shape := ⟨3, ![2, 4112, 5632]⟩
abbrev S2x4096x2048 : Shape := ⟨3, ![2, 4096, 2048]⟩

abbrev nBuf : Space → Nat
  | .hbm => 39
  | .vmem => 0
  | .smem => 0
  | _ => 0

abbrev bufTy : (tb : Table) → Fin (tcTables nBuf tb) → BufTy
  | .hbm, ⟨0, _⟩ => ⟨S2x4112x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2x4112x2048, .f32⟩
  | .hbm, ⟨6, _⟩ => ⟨S_, .f32⟩
  | .hbm, ⟨7, _⟩ => ⟨S2x4112, .f32⟩
  | .hbm, ⟨8, _⟩ => ⟨S2x4112x1, .f32⟩
  | .hbm, ⟨9, _⟩ => ⟨S_, .f32⟩
  | .hbm, ⟨10, _⟩ => ⟨S2x4112x1, .f32⟩
  | .hbm, ⟨11, _⟩ => ⟨S2x4112x1, .f32⟩
  | .hbm, ⟨12, _⟩ => ⟨S_, .f32⟩
  | .hbm, ⟨13, _⟩ => ⟨S2x4112x1, .f32⟩
  | .hbm, ⟨14, _⟩ => ⟨S2x4112x1, .f32⟩
  | .hbm, ⟨15, _⟩ => ⟨S2x4112x1, .f32⟩
  | .hbm, ⟨16, _⟩ => ⟨S2x4112x2048, .f32⟩
  | .hbm, ⟨17, _⟩ => ⟨S2x4112x2048, .f32⟩
  | .hbm, ⟨18, _⟩ => ⟨S1x1x2048, .f32⟩
  | .hbm, ⟨19, _⟩ => ⟨S2x4112x2048, .f32⟩
  | .hbm, ⟨20, _⟩ => ⟨S2x4112x2048, .f32⟩
  | .hbm, ⟨21, _⟩ => ⟨S2x4112x5632, .f32⟩
  | .hbm, ⟨22, _⟩ => ⟨S2x4112x5632, .f32⟩
  | .hbm, ⟨23, _⟩ => ⟨S2x4112x5632, .f32⟩
  | .hbm, ⟨24, _⟩ => ⟨S_, .f32⟩
  | .hbm, ⟨25, _⟩ => ⟨S2x4112x5632, .f32⟩
  | .hbm, ⟨26, _⟩ => ⟨S2x4112x5632, .f32⟩
  | .hbm, ⟨27, _⟩ => ⟨S_, .f32⟩
  | .hbm, ⟨28, _⟩ => ⟨S2x4112x5632, .f32⟩
  | .hbm, ⟨29, _⟩ => ⟨S2x4112x5632, .f32⟩
  | .hbm, ⟨30, _⟩ => ⟨S2x4112x5632, .f32⟩
  | .hbm, ⟨31, _⟩ => ⟨S2x4112x5632, .f32⟩
  | .hbm, ⟨32, _⟩ => ⟨S2x4112x5632, .f32⟩
  | .hbm, ⟨33, _⟩ => ⟨S2x4112x2048, .f32⟩
  | .hbm, ⟨34, _⟩ => ⟨S_, .f32⟩
  | .hbm, ⟨35, _⟩ => ⟨S2x4112x2048, .f32⟩
  | .hbm, ⟨36, _⟩ => ⟨S2x4112x2048, .f32⟩
  | .hbm, ⟨37, _⟩ => ⟨S2x4112x2048, .f32⟩
  | .hbm, ⟨38, _⟩ => ⟨S2x4096x2048, .f32⟩
  | _, _ => ⟨S2x4112x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩

abbrev nD : Nat := 1
abbrev τ : Topo := Topo.v7x

variable {F : FTy → Type} [FloatOps F]
-- ==== Kernel3.lean ====
abbrev S128x4x2048 : Shape := ⟨3, ![128, 4, 2048]⟩
abbrev S2048 : Shape := ⟨1, ![2048]⟩
abbrev S2x2048x5632 : Shape := ⟨3, ![2, 2048, 5632]⟩
abbrev S2x5632x2048 : Shape := ⟨3, ![2, 5632, 2048]⟩
abbrev S4x128x2048 : Shape := ⟨3, ![4, 128, 2048]⟩
abbrev S512x2048 : Shape := ⟨2, ![512, 2048]⟩
abbrev S1x2048 : Shape := ⟨2, ![1, 2048]⟩
abbrev S2048x5632 : Shape := ⟨2, ![2048, 5632]⟩
abbrev S5632x2048 : Shape := ⟨2, ![5632, 2048]⟩
abbrev S1x2048x512 : Shape := ⟨3, ![1, 2048, 512]⟩
abbrev S1x512x2048 : Shape := ⟨3, ![1, 512, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩

abbrev nBuf : Space → Nat
  | .hbm => 14
  | .vmem => 16
  | .smem => 0
  | _ => 0

abbrev bufTy : (tb : Table) → Fin (tcTables nBuf tb) → BufTy
  | .hbm, ⟨0, _⟩ => ⟨S128x4x2048, .f32⟩
  | .hbm, ⟨1, _⟩ => ⟨S2048, .f32⟩
  | .hbm, ⟨2, _⟩ => ⟨S2x2048x5632, .f32⟩
  | .hbm, ⟨3, _⟩ => ⟨S2x2048x5632, .f32⟩
  | .hbm, ⟨4, _⟩ => ⟨S2x5632x2048, .f32⟩
  | .hbm, ⟨5, _⟩ => ⟨S4x128x2048, .f32⟩
  | .hbm, ⟨6, _⟩ => ⟨S512x2048, .f32⟩
  | .hbm, ⟨7, _⟩ => ⟨S1x2048, .f32⟩
  | .hbm, ⟨8, _⟩ => ⟨S512x2048, .f32⟩
  | .hbm, ⟨9, _⟩ => ⟨S2048x5632, .bf16⟩
  | .hbm, ⟨10, _⟩ => ⟨S2048x5632, .bf16⟩
  | .hbm, ⟨11, _⟩ => ⟨S5632x2048, .bf16⟩
  | .hbm, ⟨12, _⟩ => ⟨S4x128x2048, .f32⟩
  | .hbm, ⟨13, _⟩ => ⟨S128x4x2048, .f32⟩
  | .local _ .vmem, ⟨0, _⟩ => ⟨S512x2048, .f32⟩
  | .local _ .vmem, ⟨1, _⟩ => ⟨S1x2048, .f32⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x512x2048, .f32⟩
  | .local _ .vmem, ⟨7, _⟩ => ⟨S1x512x2048, .f32⟩
  | .local _ .vmem, ⟨8, _⟩ => ⟨S512x2048, .f32⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S2048x512, .bf16⟩
  | .local _ .vmem, ⟨13, _⟩ => ⟨S512x2048, .bf16⟩
  | .local _ .vmem, ⟨14, _⟩ => ⟨S512x2048, .bf16⟩
  | .local _ .vmem, ⟨15, _⟩ => ⟨S512x2048, .bf16⟩
  | _, _ => ⟨S128x4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S512x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]
-- ==== Reference3Ideal.lean ====
abbrev S128x4x2048 : Shape := ⟨3, ![128, 4, 2048]⟩
abbrev S2048 : Shape := ⟨1, ![2048]⟩
abbrev S2x2048x5632 : Shape := ⟨3, ![2, 2048, 5632]⟩
abbrev S2x5632x2048 : Shape := ⟨3, ![2, 5632, 2048]⟩
abbrev S1x2048x5632 : Shape := ⟨3, ![1, 2048, 5632]⟩
abbrev S2048x5632 : Shape := ⟨2, ![2048, 5632]⟩
abbrev S1x5632x2048 : Shape := ⟨3, ![1, 5632, 2048]⟩
abbrev S5632x2048 : Shape := ⟨2, ![5632, 2048]⟩
abbrev S_ : Shape := ⟨0, ![]⟩
abbrev S128x4 : Shape := ⟨2, ![128, 4]⟩
abbrev S128x4x1 : Shape := ⟨3, ![128, 4, 1]⟩
abbrev S1x1x2048 : Shape := ⟨3, ![1, 1, 2048]⟩
abbrev S128x4x5632 : Shape := ⟨3, ![128, 4, 5632]⟩

abbrev nBuf : Space → Nat
  | .hbm => 44
  | .vmem => 0
  | .smem => 0
  | _ => 0

abbrev bufTy : (tb : Table) → Fin (tcTables nBuf tb) → BufTy
  | .hbm, ⟨0, _⟩ => ⟨S128x4x2048, .f32⟩
  | .hbm, ⟨1, _⟩ => ⟨S2048, .f32⟩
  | .hbm, ⟨2, _⟩ => ⟨S2x2048x5632, .f32⟩
  | .hbm, ⟨3, _⟩ => ⟨S2x2048x5632, .f32⟩
  | .hbm, ⟨4, _⟩ => ⟨S2x5632x2048, .f32⟩
  | .hbm, ⟨5, _⟩ => ⟨S1x2048x5632, .f32⟩
  | .hbm, ⟨6, _⟩ => ⟨S2048x5632, .f32⟩
  | .hbm, ⟨7, _⟩ => ⟨S1x2048x5632, .f32⟩
  | .hbm, ⟨8, _⟩ => ⟨S2048x5632, .f32⟩
  | .hbm, ⟨9, _⟩ => ⟨S1x5632x2048, .f32⟩
  | .hbm, ⟨10, _⟩ => ⟨S5632x2048, .f32⟩
  | .hbm, ⟨11, _⟩ => ⟨S128x4x2048, .f32⟩
  | .hbm, ⟨12, _⟩ => ⟨S_, .f32⟩
  | .hbm, ⟨13, _⟩ => ⟨S128x4, .f32⟩
  | .hbm, ⟨14, _⟩ => ⟨S128x4x1, .f32⟩
  | .hbm, ⟨15, _⟩ => ⟨S_, .f32⟩
  | .hbm, ⟨16, _⟩ => ⟨S128x4x1, .f32⟩
  | .hbm, ⟨17, _⟩ => ⟨S128x4x1, .f32⟩
  | .hbm, ⟨18, _⟩ => ⟨S_, .f32⟩
  | .hbm, ⟨19, _⟩ => ⟨S128x4x1, .f32⟩
  | .hbm, ⟨20, _⟩ => ⟨S128x4x1, .f32⟩
  | .hbm, ⟨21, _⟩ => ⟨S128x4x1, .f32⟩
  | .hbm, ⟨22, _⟩ => ⟨S128x4x2048, .f32⟩
  | .hbm, ⟨23, _⟩ => ⟨S128x4x2048, .f32⟩
  | .hbm, ⟨24, _⟩ => ⟨S1x1x2048, .f32⟩
  | .hbm, ⟨25, _⟩ => ⟨S128x4x2048, .f32⟩
  | .hbm, ⟨26, _⟩ => ⟨S128x4x2048, .f32⟩
  | .hbm, ⟨27, _⟩ => ⟨S128x4x5632, .f32⟩
  | .hbm, ⟨28, _⟩ => ⟨S128x4x5632, .f32⟩
  | .hbm, ⟨29, _⟩ => ⟨S128x4x5632, .f32⟩
  | .hbm, ⟨30, _⟩ => ⟨S_, .f32⟩
  | .hbm, ⟨31, _⟩ => ⟨S128x4x5632, .f32⟩
  | .hbm, ⟨32, _⟩ => ⟨S128x4x5632, .f32⟩
  | .hbm, ⟨33, _⟩ => ⟨S_, .f32⟩
  | .hbm, ⟨34, _⟩ => ⟨S128x4x5632, .f32⟩
  | .hbm, ⟨35, _⟩ => ⟨S128x4x5632, .f32⟩
  | .hbm, ⟨36, _⟩ => ⟨S128x4x5632, .f32⟩
  | .hbm, ⟨37, _⟩ => ⟨S128x4x5632, .f32⟩
  | .hbm, ⟨38, _⟩ => ⟨S128x4x5632, .f32⟩
  | .hbm, ⟨39, _⟩ => ⟨S128x4x2048, .f32⟩
  | .hbm, ⟨40, _⟩ => ⟨S_, .f32⟩
  | .hbm, ⟨41, _⟩ => ⟨S128x4x2048, .f32⟩
  | .hbm, ⟨42, _⟩ => ⟨S128x4x2048, .f32⟩
  | .hbm, ⟨43, _⟩ => ⟨S128x4x2048, .f32⟩
  | _, _ => ⟨S128x4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_2 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩

abbrev nD : Nat := 1
abbrev τ : Topo := Topo.v7x

variable {F : FTy → Type} [FloatOps F]
-- ==== Kernel4.lean ====
abbrev S2x4112x2048 : Shape := ⟨3, ![2, 4112, 2048]⟩
abbrev S2048 : Shape := ⟨1, ![2048]⟩
abbrev S2x2048x1856 : Shape := ⟨3, ![2, 2048, 1856]⟩
abbrev S512 : Shape := ⟨1, ![512]⟩
abbrev S512x1536 : Shape := ⟨2, ![512, 1536]⟩
abbrev S256 : Shape := ⟨1, ![256]⟩
abbrev S256x2048 : Shape := ⟨2, ![256, 2048]⟩
abbrev S128 : Shape := ⟨1, ![128]⟩
abbrev S32 : Shape := ⟨1, ![32]⟩
abbrev S2x1856x2048 : Shape := ⟨3, ![2, 1856, 2048]⟩
abbrev S2x64x2048 : Shape := ⟨3, ![2, 64, 2048]⟩
abbrev S2x32x2048 : Shape := ⟨3, ![2, 32, 2048]⟩
abbrev S2x1920x2048 : Shape := ⟨3, ![2, 1920, 2048]⟩
abbrev S512x8x192 : Shape := ⟨3, ![512, 8, 192]⟩
abbrev S512x8x64 : Shape := ⟨3, ![512, 8, 64]⟩
abbrev S256x8x256 : Shape := ⟨3, ![256, 8, 256]⟩
abbrev S256x8x128 : Shape := ⟨3, ![256, 8, 128]⟩
abbrev S_ : Shape := ⟨0, ![]⟩
abbrev S64 : Shape := ⟨1, ![64]⟩
abbrev S1x2048 : Shape := ⟨2, ![1, 2048]⟩
abbrev S1x512 : Shape := ⟨2, ![1, 512]⟩
abbrev S512x8x32 : Shape := ⟨3, ![512, 8, 32]⟩
abbrev S512x8x256 : Shape := ⟨3, ![512, 8, 256]⟩
abbrev S512x2048 : Shape := ⟨2, ![512, 2048]⟩
abbrev S1x256 : Shape := ⟨2, ![1, 256]⟩
abbrev S256x1024 : Shape := ⟨2, ![256, 1024]⟩
abbrev S1024x256 : Shape := ⟨2, ![1024, 256]⟩
abbrev S2x4352x2048 : Shape := ⟨3, ![2, 4352, 2048]⟩
abbrev S8704x2048 : Shape := ⟨2, ![8704, 2048]⟩
abbrev S4352 : Shape := ⟨1, ![4352]⟩
abbrev S4352x1 : Shape := ⟨2, ![4352, 1]⟩
abbrev S1x32 : Shape := ⟨2, ![1, 32]⟩
abbrev S4352x32 : Shape := ⟨2, ![4352, 32]⟩
abbrev S4352x128 : Shape := ⟨2, ![4352, 128]⟩
abbrev S1x4352x1x128 : Shape := ⟨4, ![1, 4352, 1, 128]⟩
abbrev S2x4352x1x128 : Shape := ⟨4, ![2, 4352, 1, 128]⟩
abbrev S8704x128 : Shape := ⟨2, ![8704, 128]⟩
abbrev S8704x1024 : Shape := ⟨2, ![8704, 1024]⟩
abbrev S8704x256 : Shape := ⟨2, ![8704, 256]⟩
abbrev S8x8704x256 : Shape := ⟨3, ![8, 8704, 256]⟩
abbrev S8x34x128x256 : Shape := ⟨4, ![8, 34, 128, 256]⟩
abbrev S1x1920x2048 : Shape := ⟨3, ![1, 1920, 2048]⟩
abbrev S256x128 : Shape := ⟨2, ![256, 128]⟩
abbrev S256x256 : Shape := ⟨2, ![256, 256]⟩
abbrev S8x256x256 : Shape := ⟨3, ![8, 256, 256]⟩
abbrev S8x1x128x256 : Shape := ⟨4, ![8, 1, 128, 256]⟩
abbrev S256x1 : Shape := ⟨2, ![256, 1]⟩
abbrev S1920x2048 : Shape := ⟨2, ![1920, 2048]⟩
abbrev S256x1920 : Shape := ⟨2, ![256, 1920]⟩
abbrev S256x512 : Shape := ⟨2, ![256, 512]⟩
abbrev S1x128 : Shape := ⟨2, ![1, 128]⟩
abbrev S1x256x128 : Shape := ⟨3, ![1, 256, 128]⟩
abbrev S128x256 : Shape := ⟨2, ![128, 256]⟩
abbrev S1x1x128x256 : Shape := ⟨4, ![1, 1, 128, 256]⟩
abbrev S2x4352x256 : Shape := ⟨3, ![2, 4352, 256]⟩
abbrev S2x4112x256 : Shape := ⟨3, ![2, 4112, 256]⟩
abbrev S2x4352x128 : Shape := ⟨3, ![2, 4352, 128]⟩
abbrev S2x4112x64 : Shape := ⟨3, ![2, 4112, 64]⟩
abbrev S2x4352x1024 : Shape := ⟨3, ![2, 4352, 1024]⟩
abbrev S2x4112x1024 : Shape := ⟨3, ![2, 4112, 1024]⟩
abbrev S2x15x1024 : Shape := ⟨3, ![2, 15, 1024]⟩

abbrev nBuf : Space → Nat
  | .hbm => 82
  | .vmem => 25
  | .smem => 0
  | _ => 0

abbrev bufTy : (tb : Table) → Fin (tcTables nBuf tb) → BufTy
  | .hbm, ⟨0, _⟩ => ⟨S2x4112x2048, .f32⟩
  | .hbm, ⟨1, _⟩ => ⟨S2048, .f32⟩
  | .hbm, ⟨2, _⟩ => ⟨S2x2048x1856, .f32⟩
  | .hbm, ⟨3, _⟩ => ⟨S512, .f32⟩
  | .hbm, ⟨4, _⟩ => ⟨S512x1536, .f32⟩
  | .hbm, ⟨5, _⟩ => ⟨S256, .f32⟩
  | .hbm, ⟨6, _⟩ => ⟨S256x2048, .f32⟩
  | .hbm, ⟨7, _⟩ => ⟨S128, .f32⟩
  | .hbm, ⟨8, _⟩ => ⟨S32, .f32⟩
  | .hbm, ⟨9, _⟩ => ⟨S128, .f32⟩
  | .hbm, ⟨10, _⟩ => ⟨S32, .f32⟩
  | .hbm, ⟨11, _⟩ => ⟨S2x1856x2048, .f32⟩
  | .hbm, ⟨12, _⟩ => ⟨S2x1856x2048, .bf16⟩
  | .hbm, ⟨13, _⟩ => ⟨S2x64x2048, .bf16⟩
  | .hbm, ⟨14, _⟩ => ⟨S2x32x2048, .bf16⟩
  | .hbm, ⟨15, _⟩ => ⟨S2x32x2048, .bf16⟩
  | .hbm, ⟨16, _⟩ => ⟨S2x32x2048, .bf16⟩
  | .hbm, ⟨17, _⟩ => ⟨S2x1920x2048, .bf16⟩
  | .hbm, ⟨18, _⟩ => ⟨S512x8x192, .f32⟩
  | .hbm, ⟨19, _⟩ => ⟨S512x8x64, .f32⟩
  | .hbm, ⟨20, _⟩ => ⟨S256x8x256, .f32⟩
  | .hbm, ⟨21, _⟩ => ⟨S256x8x128, .f32⟩
  | .hbm, ⟨22, _⟩ => ⟨S256x8x128, .f32⟩
  | .hbm, ⟨23, _⟩ => ⟨S_, .f32⟩
  | .hbm, ⟨24, _⟩ => ⟨S64, .f32⟩
  | .hbm, ⟨25, _⟩ => ⟨S1x2048, .f32⟩
  | .hbm, ⟨26, _⟩ => ⟨S1x512, .f32⟩
  | .hbm, ⟨27, _⟩ => ⟨S512x8x32, .f32⟩
  | .hbm, ⟨28, _⟩ => ⟨S512x8x32, .f32⟩
  | .hbm, ⟨29, _⟩ => ⟨S512x8x32, .f32⟩
  | .hbm, ⟨30, _⟩ => ⟨S512x8x64, .f32⟩
  | .hbm, ⟨31, _⟩ => ⟨S512x8x256, .f32⟩
  | .hbm, ⟨32, _⟩ => ⟨S512x2048, .f32⟩
  | .hbm, ⟨33, _⟩ => ⟨S512x2048, .bf16⟩
  | .hbm, ⟨34, _⟩ => ⟨S1x256, .f32⟩
  | .hbm, ⟨35, _⟩ => ⟨S256x1024, .f32⟩
  | .hbm, ⟨36, _⟩ => ⟨S256x1024, .bf16⟩
  | .hbm, ⟨37, _⟩ => ⟨S256x1024, .f32⟩
  | .hbm, ⟨38, _⟩ => ⟨S1024x256, .f32⟩
  | .hbm, ⟨39, _⟩ => ⟨S1024x256, .bf16⟩
  | .hbm, ⟨40, _⟩ => ⟨S256, .f32⟩
  | .hbm, ⟨41, _⟩ => ⟨S1x256, .f32⟩
  | .hbm, ⟨42, _⟩ => ⟨S256, .f32⟩
  | .hbm, ⟨43, _⟩ => ⟨S1x256, .f32⟩
  | .hbm, ⟨44, _⟩ => ⟨S_, .i32⟩
  | .hbm, ⟨45, _⟩ => ⟨S_, .f32⟩
  | .hbm, ⟨46, _⟩ => ⟨S2x4352x2048, .f32⟩
  | .hbm, ⟨47, _⟩ => ⟨S8704x2048, .f32⟩
  | .hbm, ⟨48, _⟩ => ⟨S4352, .i32⟩
  | .hbm, ⟨49, _⟩ => ⟨S32, .f32⟩
  | .hbm, ⟨50, _⟩ => ⟨S32, .f32⟩
  | .hbm, ⟨51, _⟩ => ⟨S_, .f32⟩
  | .hbm, ⟨52, _⟩ => ⟨S32, .f32⟩
  | .hbm, ⟨53, _⟩ => ⟨S32, .f32⟩
  | .hbm, ⟨54, _⟩ => ⟨S_, .f32⟩
  | .hbm, ⟨55, _⟩ => ⟨S32, .f32⟩
  | .hbm, ⟨56, _⟩ => ⟨S32, .f32⟩
  | .hbm, ⟨57, _⟩ => ⟨S4352, .f32⟩
  | .hbm, ⟨58, _⟩ => ⟨S4352x1, .f32⟩
  | .hbm, ⟨59, _⟩ => ⟨S1x32, .f32⟩
  | .hbm, ⟨60, _⟩ => ⟨S4352x32, .f32⟩
  | .hbm, ⟨61, _⟩ => ⟨S4352x32, .f32⟩
  | .hbm, ⟨62, _⟩ => ⟨S4352x32, .f32⟩
  | .hbm, ⟨63, _⟩ => ⟨S4352x32, .f32⟩
  | .hbm, ⟨64, _⟩ => ⟨S4352x32, .f32⟩
  | .hbm, ⟨65, _⟩ => ⟨S4352x128, .f32⟩
  | .hbm, ⟨66, _⟩ => ⟨S1x4352x1x128, .f32⟩
  | .hbm, ⟨67, _⟩ => ⟨S2x4352x1x128, .f32⟩
  | .hbm, ⟨68, _⟩ => ⟨S8704x128, .f32⟩
  | .hbm, ⟨69, _⟩ => ⟨S8704x1024, .f32⟩
  | .hbm, ⟨70, _⟩ => ⟨S8704x256, .f32⟩
  | .hbm, ⟨71, _⟩ => ⟨S8704x128, .f32⟩
  | .hbm, ⟨72, _⟩ => ⟨S8x8704x256, .bf16⟩
  | .hbm, ⟨73, _⟩ => ⟨S8x8704x256, .bf16⟩
  | .hbm, ⟨74, _⟩ => ⟨S8x34x128x256, .bf16⟩
  | .hbm, ⟨75, _⟩ => ⟨S2x4352x256, .f32⟩
  | .hbm, ⟨76, _⟩ => ⟨S2x4112x256, .f32⟩
  | .hbm, ⟨77, _⟩ => ⟨S2x4352x128, .f32⟩
  | .hbm, ⟨78, _⟩ => ⟨S2x4112x64, .f32⟩
  | .hbm, ⟨79, _⟩ => ⟨S2x4352x1024, .f32⟩
  | .hbm, ⟨80, _⟩ => ⟨S2x4112x1024, .f32⟩
  | .hbm, ⟨81, _⟩ => ⟨S2x15x1024, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x1920x2048, .bf16⟩
  | .local _ .vmem, ⟨4, _⟩ => ⟨S1x512, .f32⟩
  | .local _ .vmem, ⟨5, _⟩ => ⟨S512x2048, .bf16⟩
  | .local _ .vmem, ⟨6, _⟩ => ⟨S1x256, .f32⟩
  | .local _ .vmem, ⟨7, _⟩ => ⟨S256x1024, .bf16⟩
  | .local _ .vmem, ⟨8, _⟩ => ⟨S1024x256, .bf16⟩
  | .local _ .vmem, ⟨9, _⟩ => ⟨S256x128, .f32⟩
  | .local _ .vmem, ⟨10, _⟩ => ⟨S256x128, .f32⟩
  | .local _ .vmem, ⟨11, _⟩ => ⟨S1x256, .f32⟩
  | .local _ .vmem, ⟨12, _⟩ => ⟨S1x256, .f32⟩
  | .local _ .vmem, ⟨13, _⟩ => ⟨S256x1024, .f32⟩
  | .local _ .vmem, ⟨14, _⟩ => ⟨S256x1024, .f32⟩
  | .local _ .vmem, ⟨15, _⟩ => ⟨S256x256, .f32⟩
  | .local _ .vmem, ⟨16, _⟩ => ⟨S256x256, .f32⟩
  | .local _ .vmem, ⟨17, _⟩ => ⟨S256x128, .f32⟩
  | .local _ .vmem, ⟨18, _⟩ => ⟨S256x128, .f32⟩
  | .local _ .vmem, ⟨19, _⟩ => ⟨S8x256x256, .bf16⟩
  | .local _ .vmem, ⟨20, _⟩ => ⟨S8x256x256, .bf16⟩
  | .local _ .vmem, ⟨21, _⟩ => ⟨S8x256x256, .bf16⟩
  | .local _ .vmem, ⟨22, _⟩ => ⟨S8x256x256, .bf16⟩
  | .local _ .vmem, ⟨23, _⟩ => ⟨S8x1x128x256, .bf16⟩
  | .local _ .vmem, ⟨24, _⟩ => ⟨S8x1x128x256, .bf16⟩
  | _, _ => ⟨S2x4112x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c : Ref sig .tc := ⟨.hbm, 44, rfl⟩
abbrev main_call0_v0 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_0 : Ref sig .tc := ⟨.hbm, 51, rfl⟩
abbrev main_v37 : Ref sig .tc := ⟨.hbm, 52, rfl⟩
abbrev main_v38 : Ref sig .tc := ⟨.hbm, 53, rfl⟩
abbrev main_cst_1 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53_0 : Ref sig .tc := ⟨.hbm, 69, rfl⟩
abbrev main_v53_1 : Ref sig .tc := ⟨.hbm, 70, rfl⟩
abbrev main_v53_2 : Ref sig .tc := ⟨.hbm, 71, rfl⟩
abbrev main_v53_3 : Ref sig .tc := ⟨.hbm, 72, rfl⟩
abbrev main_v53_4 : Ref sig .tc := ⟨.hbm, 73, rfl⟩
abbrev main_v53_5 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem10_0 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_16 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1920x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x256x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8x256x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S8x1x128x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference4Ideal.lean ====
abbrev S2x4112x2048 : Shape := ⟨3, ![2, 4112, 2048]⟩
abbrev S2048 : Shape := ⟨1, ![2048]⟩
abbrev S2x2048x1856 : Shape := ⟨3, ![2, 2048, 1856]⟩
abbrev S512 : Shape := ⟨1, ![512]⟩
abbrev S512x1536 : Shape := ⟨2, ![512, 1536]⟩
abbrev S256 : Shape := ⟨1, ![256]⟩
abbrev S256x2048 : Shape := ⟨2, ![256, 2048]⟩
abbrev S128 : Shape := ⟨1, ![128]⟩
abbrev S32 : Shape := ⟨1, ![32]⟩
abbrev S4112 : Shape := ⟨1, ![4112]⟩
abbrev S1x2048x1856 : Shape := ⟨3, ![1, 2048, 1856]⟩
abbrev S2048x1856 : Shape := ⟨2, ![2048, 1856]⟩
abbrev S_ : Shape := ⟨0, ![]⟩
abbrev S2x4112 : Shape := ⟨2, ![2, 4112]⟩
abbrev S2x4112x1 : Shape := ⟨3, ![2, 4112, 1]⟩
abbrev S1x1x2048 : Shape := ⟨3, ![1, 1, 2048]⟩
abbrev S2x4112x1856 : Shape := ⟨3, ![2, 4112, 1856]⟩
abbrev S2x4112x1024 : Shape := ⟨3, ![2, 4112, 1024]⟩
abbrev S2x4112x256 : Shape := ⟨3, ![2, 4112, 256]⟩
abbrev S2x4112x64 : Shape := ⟨3, ![2, 4112, 64]⟩
abbrev S4112x1 : Shape := ⟨2, ![4112, 1]⟩
abbrev S1x32 : Shape := ⟨2, ![1, 32]⟩
abbrev S4112x32 : Shape := ⟨2, ![4112, 32]⟩
abbrev S1x1x256 : Shape := ⟨3, ![1, 1, 256]⟩
abbrev S2x4112x32 : Shape := ⟨3, ![2, 4112, 32]⟩
abbrev S1x4112x32 : Shape := ⟨3, ![1, 4112, 32]⟩
abbrev S2x15x1024 : Shape := ⟨3, ![2, 15, 1024]⟩

abbrev nBuf : Space → Nat
  | .hbm => 84
  | .vmem => 0
  | .smem => 0
  | _ => 0

abbrev bufTy : (tb : Table) → Fin (tcTables nBuf tb) → BufTy
  | .hbm, ⟨0, _⟩ => ⟨S2x4112x2048, .f32⟩
  | .hbm, ⟨1, _⟩ => ⟨S2048, .f32⟩
  | .hbm, ⟨2, _⟩ => ⟨S2x2048x1856, .f32⟩
  | .hbm, ⟨3, _⟩ => ⟨S512, .f32⟩
  | .hbm, ⟨4, _⟩ => ⟨S512x1536, .f32⟩
  | .hbm, ⟨5, _⟩ => ⟨S256, .f32⟩
  | .hbm, ⟨6, _⟩ => ⟨S256x2048, .f32⟩
  | .hbm, ⟨7, _⟩ => ⟨S128, .f32⟩
  | .hbm, ⟨8, _⟩ => ⟨S32, .f32⟩
  | .hbm, ⟨9, _⟩ => ⟨S128, .f32⟩
  | .hbm, ⟨10, _⟩ => ⟨S32, .f32⟩
  | .hbm, ⟨11, _⟩ => ⟨S4112, .i32⟩
  | .hbm, ⟨12, _⟩ => ⟨S1x2048x1856, .f32⟩
  | .hbm, ⟨13, _⟩ => ⟨S2048x1856, .f32⟩
  | .hbm, ⟨14, _⟩ => ⟨S2x4112x2048, .f32⟩
  | .hbm, ⟨15, _⟩ => ⟨S_, .f32⟩
  | .hbm, ⟨16, _⟩ => ⟨S2x4112, .f32⟩
  | .hbm, ⟨17, _⟩ => ⟨S2x4112x1, .f32⟩
  | .hbm, ⟨18, _⟩ => ⟨S_, .f32⟩
  | .hbm, ⟨19, _⟩ => ⟨S2x4112x1, .f32⟩
  | .hbm, ⟨20, _⟩ => ⟨S2x4112x1, .f32⟩
  | .hbm, ⟨21, _⟩ => ⟨S_, .f32⟩
  | .hbm, ⟨22, _⟩ => ⟨S2x4112x1, .f32⟩
  | .hbm, ⟨23, _⟩ => ⟨S2x4112x1, .f32⟩
  | .hbm, ⟨24, _⟩ => ⟨S2x4112x1, .f32⟩
  | .hbm, ⟨25, _⟩ => ⟨S2x4112x2048, .f32⟩
  | .hbm, ⟨26, _⟩ => ⟨S2x4112x2048, .f32⟩
  | .hbm, ⟨27, _⟩ => ⟨S1x1x2048, .f32⟩
  | .hbm, ⟨28, _⟩ => ⟨S2x4112x2048, .f32⟩
  | .hbm, ⟨29, _⟩ => ⟨S2x4112x2048, .f32⟩
  | .hbm, ⟨30, _⟩ => ⟨S2x4112x1856, .f32⟩
  | .hbm, ⟨31, _⟩ => ⟨S2x4112x1024, .f32⟩
  | .hbm, ⟨32, _⟩ => ⟨S2x4112x256, .f32⟩
  | .hbm, ⟨33, _⟩ => ⟨S2x4112x64, .f32⟩
  | .hbm, ⟨34, _⟩ => ⟨S32, .f32⟩
  | .hbm, ⟨35, _⟩ => ⟨S32, .f32⟩
  | .hbm, ⟨36, _⟩ => ⟨S_, .f32⟩
  | .hbm, ⟨37, _⟩ => ⟨S32, .f32⟩
  | .hbm, ⟨38, _⟩ => ⟨S32, .f32⟩
  | .hbm, ⟨39, _⟩ => ⟨S_, .f32⟩
  | .hbm, ⟨40, _⟩ => ⟨S32, .f32⟩
  | .hbm, ⟨41, _⟩ => ⟨S32, .f32⟩
  | .hbm, ⟨42, _⟩ => ⟨S4112, .f32⟩
  | .hbm, ⟨43, _⟩ => ⟨S4112x1, .f32⟩
  | .hbm, ⟨44, _⟩ => ⟨S1x32, .f32⟩
  | .hbm, ⟨45, _⟩ => ⟨S4112x32, .f32⟩
  | .hbm, ⟨46, _⟩ => ⟨S4112x32, .f32⟩
  | .hbm, ⟨47, _⟩ => ⟨S4112x32, .f32⟩
  | .hbm, ⟨48, _⟩ => ⟨S4112x32, .f32⟩
  | .hbm, ⟨49, _⟩ => ⟨S4112x32, .f32⟩
  | .hbm, ⟨50, _⟩ => ⟨S2x4112x256, .f32⟩
  | .hbm, ⟨51, _⟩ => ⟨S_, .f32⟩
  | .hbm, ⟨52, _⟩ => ⟨S2x4112, .f32⟩
  | .hbm, ⟨53, _⟩ => ⟨S2x4112x1, .f32⟩
  | .hbm, ⟨54, _⟩ => ⟨S_, .f32⟩
  | .hbm, ⟨55, _⟩ => ⟨S2x4112x1, .f32⟩
  | .hbm, ⟨56, _⟩ => ⟨S2x4112x1, .f32⟩
  | .hbm, ⟨57, _⟩ => ⟨S_, .f32⟩
  | .hbm, ⟨58, _⟩ => ⟨S2x4112x1, .f32⟩
  | .hbm, ⟨59, _⟩ => ⟨S2x4112x1, .f32⟩
  | .hbm, ⟨60, _⟩ => ⟨S2x4112x1, .f32⟩
  | .hbm, ⟨61, _⟩ => ⟨S2x4112x256, .f32⟩
  | .hbm, ⟨62, _⟩ => ⟨S2x4112x256, .f32⟩
  | .hbm, ⟨63, _⟩ => ⟨S1x1x256, .f32⟩
  | .hbm, ⟨64, _⟩ => ⟨S2x4112x256, .f32⟩
  | .hbm, ⟨65, _⟩ => ⟨S2x4112x256, .f32⟩
  | .hbm, ⟨66, _⟩ => ⟨S2x4112x32, .f32⟩
  | .hbm, ⟨67, _⟩ => ⟨S2x4112x32, .f32⟩
  | .hbm, ⟨68, _⟩ => ⟨S1x4112x32, .f32⟩
  | .hbm, ⟨69, _⟩ => ⟨S2x4112x32, .f32⟩
  | .hbm, ⟨70, _⟩ => ⟨S2x4112x32, .f32⟩
  | .hbm, ⟨71, _⟩ => ⟨S1x4112x32, .f32⟩
  | .hbm, ⟨72, _⟩ => ⟨S2x4112x32, .f32⟩
  | .hbm, ⟨73, _⟩ => ⟨S2x4112x32, .f32⟩
  | .hbm, ⟨74, _⟩ => ⟨S2x4112x32, .f32⟩
  | .hbm, ⟨75, _⟩ => ⟨S1x4112x32, .f32⟩
  | .hbm, ⟨76, _⟩ => ⟨S2x4112x32, .f32⟩
  | .hbm, ⟨77, _⟩ => ⟨S2x4112x32, .f32⟩
  | .hbm, ⟨78, _⟩ => ⟨S1x4112x32, .f32⟩
  | .hbm, ⟨79, _⟩ => ⟨S2x4112x32, .f32⟩
  | .hbm, ⟨80, _⟩ => ⟨S2x4112x32, .f32⟩
  | .hbm, ⟨81, _⟩ => ⟨S2x4112x32, .f32⟩
  | .hbm, ⟨82, _⟩ => ⟨S2x4112x64, .f32⟩
  | .hbm, ⟨83, _⟩ => ⟨S2x15x1024, .f32⟩
  | _, _ => ⟨S2x4112x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_4 : Ref sig .tc := ⟨.hbm, 51, rfl⟩
abbrev main_v35 : Ref sig .tc := ⟨.hbm, 52, rfl⟩
abbrev main_v36 : Ref sig .tc := ⟨.hbm, 53, rfl⟩
abbrev main_cst_5 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩

abbrev nD : Nat := 1
abbrev τ : Topo := Topo.v7x

variable {F : FTy → Type} [FloatOps F]
-- ==== Kernel5.lean ====
abbrev S128x4x2048 : Shape := ⟨3, ![128, 4, 2048]⟩
abbrev S128x15x1024 : Shape := ⟨3, ![128, 15, 1024]⟩
abbrev S2048 : Shape := ⟨1, ![2048]⟩
abbrev S2x2048x1856 : Shape := ⟨3, ![2, 2048, 1856]⟩
abbrev S512 : Shape := ⟨1, ![512]⟩
abbrev S512x1536 : Shape := ⟨2, ![512, 1536]⟩
abbrev S256 : Shape := ⟨1, ![256]⟩
abbrev S256x2048 : Shape := ⟨2, ![256, 2048]⟩
abbrev S128 : Shape := ⟨1, ![128]⟩
abbrev S32 : Shape := ⟨1, ![32]⟩
abbrev S2x1856x2048 : Shape := ⟨3, ![2, 1856, 2048]⟩
abbrev S2x64x2048 : Shape := ⟨3, ![2, 64, 2048]⟩
abbrev S2x32x2048 : Shape := ⟨3, ![2, 32, 2048]⟩
abbrev S2x1920x2048 : Shape := ⟨3, ![2, 1920, 2048]⟩
abbrev S512x8x192 : Shape := ⟨3, ![512, 8, 192]⟩
abbrev S512x8x64 : Shape := ⟨3, ![512, 8, 64]⟩
abbrev S256x8x256 : Shape := ⟨3, ![256, 8, 256]⟩
abbrev S256x8x128 : Shape := ⟨3, ![256, 8, 128]⟩
abbrev S_ : Shape := ⟨0, ![]⟩
abbrev S64 : Shape := ⟨1, ![64]⟩
abbrev S1x2048 : Shape := ⟨2, ![1, 2048]⟩
abbrev S1x512 : Shape := ⟨2, ![1, 512]⟩
abbrev S512x8x32 : Shape := ⟨3, ![512, 8, 32]⟩
abbrev S512x8x256 : Shape := ⟨3, ![512, 8, 256]⟩
abbrev S512x2048 : Shape := ⟨2, ![512, 2048]⟩
abbrev S1x256 : Shape := ⟨2, ![1, 256]⟩
abbrev S256x1024 : Shape := ⟨2, ![256, 1024]⟩
abbrev S1024x256 : Shape := ⟨2, ![1024, 256]⟩
abbrev S4x128x2048 : Shape := ⟨3, ![4, 128, 2048]⟩
abbrev S4 : Shape := ⟨1, ![4]⟩
abbrev S4x1 : Shape := ⟨2, ![4, 1]⟩
abbrev S1x32 : Shape := ⟨2, ![1, 32]⟩
abbrev S4x32 : Shape := ⟨2, ![4, 32]⟩
abbrev S4x128 : Shape := ⟨2, ![4, 128]⟩
abbrev S4x128x128 : Shape := ⟨3, ![4, 128, 128]⟩
abbrev S512x128 : Shape := ⟨2, ![512, 128]⟩
abbrev S512x1024 : Shape := ⟨2, ![512, 1024]⟩
abbrev S512x256 : Shape := ⟨2, ![512, 256]⟩
abbrev S8x512x256 : Shape := ⟨3, ![8, 512, 256]⟩
abbrev S8x2x128x256 : Shape := ⟨4, ![8, 2, 128, 256]⟩
abbrev S1x1920x2048 : Shape := ⟨3, ![1, 1920, 2048]⟩
abbrev S256x128 : Shape := ⟨2, ![256, 128]⟩
abbrev S256x256 : Shape := ⟨2, ![256, 256]⟩
abbrev S8x256x256 : Shape := ⟨3, ![8, 256, 256]⟩
abbrev S8x1x128x256 : Shape := ⟨4, ![8, 1, 128, 256]⟩
abbrev S256x1 : Shape := ⟨2, ![256, 1]⟩
abbrev S1920x2048 : Shape := ⟨2, ![1920, 2048]⟩
abbrev S256x1920 : Shape := ⟨2, ![256, 1920]⟩
abbrev S256x512 : Shape := ⟨2, ![256, 512]⟩
abbrev S1x128 : Shape := ⟨2, ![1, 128]⟩
abbrev S1x256x128 : Shape := ⟨3, ![1, 256, 128]⟩
abbrev S128x256 : Shape := ⟨2, ![128, 256]⟩
abbrev S1x1x128x256 : Shape := ⟨4, ![1, 1, 128, 256]⟩
abbrev S4x128x256 : Shape := ⟨3, ![4, 128, 256]⟩
abbrev S128x4x256 : Shape := ⟨3, ![128, 4, 256]⟩
abbrev S512x64 : Shape := ⟨2, ![512, 64]⟩
abbrev S4x128x64 : Shape := ⟨3, ![4, 128, 64]⟩
abbrev S128x4x64 : Shape := ⟨3, ![128, 4, 64]⟩
abbrev S4x128x1024 : Shape := ⟨3, ![4, 128, 1024]⟩
abbrev S15x128x1024 : Shape := ⟨3, ![15, 128, 1024]⟩
abbrev S11x128x1024 : Shape := ⟨3, ![11, 128, 1024]⟩
abbrev S128x4x1024 : Shape := ⟨3, ![128, 4, 1024]⟩

abbrev nBuf : Space → Nat
  | .hbm => 87
  | .vmem => 25
  | .smem => 0
  | _ => 0

abbrev bufTy : (tb : Table) → Fin (tcTables nBuf tb) → BufTy
  | .hbm, ⟨0, _⟩ => ⟨S128x4x2048, .f32⟩
  | .hbm, ⟨1, _⟩ => ⟨S128x15x1024, .f32⟩
  | .hbm, ⟨2, _⟩ => ⟨S2048, .f32⟩
  | .hbm, ⟨3, _⟩ => ⟨S2x2048x1856, .f32⟩
  | .hbm, ⟨4, _⟩ => ⟨S512, .f32⟩
  | .hbm, ⟨5, _⟩ => ⟨S512x1536, .f32⟩
  | .hbm, ⟨6, _⟩ => ⟨S256, .f32⟩
  | .hbm, ⟨7, _⟩ => ⟨S256x2048, .f32⟩
  | .hbm, ⟨8, _⟩ => ⟨S128, .f32⟩
  | .hbm, ⟨9, _⟩ => ⟨S32, .f32⟩
  | .hbm, ⟨10, _⟩ => ⟨S128, .f32⟩
  | .hbm, ⟨11, _⟩ => ⟨S32, .f32⟩
  | .hbm, ⟨12, _⟩ => ⟨S2x1856x2048, .f32⟩
  | .hbm, ⟨13, _⟩ => ⟨S2x1856x2048, .bf16⟩
  | .hbm, ⟨14, _⟩ => ⟨S2x64x2048, .bf16⟩
  | .hbm, ⟨15, _⟩ => ⟨S2x32x2048, .bf16⟩
  | .hbm, ⟨16, _⟩ => ⟨S2x32x2048, .bf16⟩
  | .hbm, ⟨17, _⟩ => ⟨S2x32x2048, .bf16⟩
  | .hbm, ⟨18, _⟩ => ⟨S2x1920x2048, .bf16⟩
  | .hbm, ⟨19, _⟩ => ⟨S512x8x192, .f32⟩
  | .hbm, ⟨20, _⟩ => ⟨S512x8x64, .f32⟩
  | .hbm, ⟨21, _⟩ => ⟨S256x8x256, .f32⟩
  | .hbm, ⟨22, _⟩ => ⟨S256x8x128, .f32⟩
  | .hbm, ⟨23, _⟩ => ⟨S256x8x128, .f32⟩
  | .hbm, ⟨24, _⟩ => ⟨S_, .f32⟩
  | .hbm, ⟨25, _⟩ => ⟨S64, .f32⟩
  | .hbm, ⟨26, _⟩ => ⟨S1x2048, .f32⟩
  | .hbm, ⟨27, _⟩ => ⟨S1x512, .f32⟩
  | .hbm, ⟨28, _⟩ => ⟨S512x8x32, .f32⟩
  | .hbm, ⟨29, _⟩ => ⟨S512x8x32, .f32⟩
  | .hbm, ⟨30, _⟩ => ⟨S512x8x32, .f32⟩
  | .hbm, ⟨31, _⟩ => ⟨S512x8x64, .f32⟩
  | .hbm, ⟨32, _⟩ => ⟨S512x8x256, .f32⟩
  | .hbm, ⟨33, _⟩ => ⟨S512x2048, .f32⟩
  | .hbm, ⟨34, _⟩ => ⟨S512x2048, .bf16⟩
  | .hbm, ⟨35, _⟩ => ⟨S1x256, .f32⟩
  | .hbm, ⟨36, _⟩ => ⟨S256x1024, .f32⟩
  | .hbm, ⟨37, _⟩ => ⟨S256x1024, .bf16⟩
  | .hbm, ⟨38, _⟩ => ⟨S256x1024, .f32⟩
  | .hbm, ⟨39, _⟩ => ⟨S1024x256, .f32⟩
  | .hbm, ⟨40, _⟩ => ⟨S1024x256, .bf16⟩
  | .hbm, ⟨41, _⟩ => ⟨S256, .f32⟩
  | .hbm, ⟨42, _⟩ => ⟨S1x256, .f32⟩
  | .hbm, ⟨43, _⟩ => ⟨S256, .f32⟩
  | .hbm, ⟨44, _⟩ => ⟨S1x256, .f32⟩
  | .hbm, ⟨45, _⟩ => ⟨S4x128x2048, .f32⟩
  | .hbm, ⟨46, _⟩ => ⟨S512x2048, .f32⟩
  | .hbm, ⟨47, _⟩ => ⟨S4, .i32⟩
  | .hbm, ⟨48, _⟩ => ⟨S_, .i32⟩
  | .hbm, ⟨49, _⟩ => ⟨S4, .i32⟩
  | .hbm, ⟨50, _⟩ => ⟨S4, .i32⟩
  | .hbm, ⟨51, _⟩ => ⟨S32, .f32⟩
  | .hbm, ⟨52, _⟩ => ⟨S32, .f32⟩
  | .hbm, ⟨53, _⟩ => ⟨S_, .f32⟩
  | .hbm, ⟨54, _⟩ => ⟨S32, .f32⟩
  | .hbm, ⟨55, _⟩ => ⟨S32, .f32⟩
  | .hbm, ⟨56, _⟩ => ⟨S_, .f32⟩
  | .hbm, ⟨57, _⟩ => ⟨S32, .f32⟩
  | .hbm, ⟨58, _⟩ => ⟨S32, .f32⟩
  | .hbm, ⟨59, _⟩ => ⟨S4, .f32⟩
  | .hbm, ⟨60, _⟩ => ⟨S4x1, .f32⟩
  | .hbm, ⟨61, _⟩ => ⟨S1x32, .f32⟩
  | .hbm, ⟨62, _⟩ => ⟨S4x32, .f32⟩
  | .hbm, ⟨63, _⟩ => ⟨S4x32, .f32⟩
  | .hbm, ⟨64, _⟩ => ⟨S4x32, .f32⟩
  | .hbm, ⟨65, _⟩ => ⟨S4x32, .f32⟩
  | .hbm, ⟨66, _⟩ => ⟨S4x32, .f32⟩
  | .hbm, ⟨67, _⟩ => ⟨S4x128, .f32⟩
  | .hbm, ⟨68, _⟩ => ⟨S4x128x128, .f32⟩
  | .hbm, ⟨69, _⟩ => ⟨S512x128, .f32⟩
  | .hbm, ⟨70, _⟩ => ⟨S512x1024, .f32⟩
  | .hbm, ⟨71, _⟩ => ⟨S512x256, .f32⟩
  | .hbm, ⟨72, _⟩ => ⟨S512x128, .f32⟩
  | .hbm, ⟨73, _⟩ => ⟨S8x512x256, .bf16⟩
  | .hbm, ⟨74, _⟩ => ⟨S8x512x256, .bf16⟩
  | .hbm, ⟨75, _⟩ => ⟨S8x2x128x256, .bf16⟩
  | .hbm, ⟨76, _⟩ => ⟨S4x128x256, .f32⟩
  | .hbm, ⟨77, _⟩ => ⟨S128x4x256, .f32⟩
  | .hbm, ⟨78, _⟩ => ⟨S512x64, .f32⟩
  | .hbm, ⟨79, _⟩ => ⟨S4x128x64, .f32⟩
  | .hbm, ⟨80, _⟩ => ⟨S128x4x64, .f32⟩
  | .hbm, ⟨81, _⟩ => ⟨S4x128x1024, .f32⟩
  | .hbm, ⟨82, _⟩ => ⟨S15x128x1024, .f32⟩
  | .hbm, ⟨83, _⟩ => ⟨S11x128x1024, .f32⟩
  | .hbm, ⟨84, _⟩ => ⟨S15x128x1024, .f32⟩
  | .hbm, ⟨85, _⟩ => ⟨S128x15x1024, .f32⟩
  | .hbm, ⟨86, _⟩ => ⟨S128x4x1024, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x1920x2048, .bf16⟩
  | .local _ .vmem, ⟨4, _⟩ => ⟨S1x512, .f32⟩
  | .local _ .vmem, ⟨5, _⟩ => ⟨S512x2048, .bf16⟩
  | .local _ .vmem, ⟨6, _⟩ => ⟨S1x256, .f32⟩
  | .local _ .vmem, ⟨7, _⟩ => ⟨S256x1024, .bf16⟩
  | .local _ .vmem, ⟨8, _⟩ => ⟨S1024x256, .bf16⟩
  | .local _ .vmem, ⟨9, _⟩ => ⟨S256x128, .f32⟩
  | .local _ .vmem, ⟨10, _⟩ => ⟨S256x128, .f32⟩
  | .local _ .vmem, ⟨11, _⟩ => ⟨S1x256, .f32⟩
  | .local _ .vmem, ⟨12, _⟩ => ⟨S1x256, .f32⟩
  | .local _ .vmem, ⟨13, _⟩ => ⟨S256x1024, .f32⟩
  | .local _ .vmem, ⟨14, _⟩ => ⟨S256x1024, .f32⟩
  | .local _ .vmem, ⟨15, _⟩ => ⟨S256x256, .f32⟩
  | .local _ .vmem, ⟨16, _⟩ => ⟨S256x256, .f32⟩
  | .local _ .vmem, ⟨17, _⟩ => ⟨S256x128, .f32⟩
  | .local _ .vmem, ⟨18, _⟩ => ⟨S256x128, .f32⟩
  | .local _ .vmem, ⟨19, _⟩ => ⟨S8x256x256, .bf16⟩
  | .local _ .vmem, ⟨20, _⟩ => ⟨S8x256x256, .bf16⟩
  | .local _ .vmem, ⟨21, _⟩ => ⟨S8x256x256, .bf16⟩
  | .local _ .vmem, ⟨22, _⟩ => ⟨S8x256x256, .bf16⟩
  | .local _ .vmem, ⟨23, _⟩ => ⟨S8x1x128x256, .bf16⟩
  | .local _ .vmem, ⟨24, _⟩ => ⟨S8x1x128x256, .bf16⟩
  | _, _ => ⟨S128x4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_c : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_0 : Ref sig .tc := ⟨.hbm, 53, rfl⟩
abbrev main_v39 : Ref sig .tc := ⟨.hbm, 54, rfl⟩
abbrev main_v40 : Ref sig .tc := ⟨.hbm, 55, rfl⟩
abbrev main_cst_1 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54_0 : Ref sig .tc := ⟨.hbm, 70, rfl⟩
abbrev main_v54_1 : Ref sig .tc := ⟨.hbm, 71, rfl⟩
abbrev main_v54_2 : Ref sig .tc := ⟨.hbm, 72, rfl⟩
abbrev main_v54_3 : Ref sig .tc := ⟨.hbm, 73, rfl⟩
abbrev main_v54_4 : Ref sig .tc := ⟨.hbm, 74, rfl⟩
abbrev main_v54_5 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem10_0 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_16 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1920x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x256x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8x256x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S8x1x128x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference5Ideal.lean ====
abbrev S128x4x2048 : Shape := ⟨3, ![128, 4, 2048]⟩
abbrev S128x15x1024 : Shape := ⟨3, ![128, 15, 1024]⟩
abbrev S2048 : Shape := ⟨1, ![2048]⟩
abbrev S2x2048x1856 : Shape := ⟨3, ![2, 2048, 1856]⟩
abbrev S512 : Shape := ⟨1, ![512]⟩
abbrev S512x1536 : Shape := ⟨2, ![512, 1536]⟩
abbrev S256 : Shape := ⟨1, ![256]⟩
abbrev S256x2048 : Shape := ⟨2, ![256, 2048]⟩
abbrev S128 : Shape := ⟨1, ![128]⟩
abbrev S32 : Shape := ⟨1, ![32]⟩
abbrev S4 : Shape := ⟨1, ![4]⟩
abbrev S_ : Shape := ⟨0, ![]⟩
abbrev S1x2048x1856 : Shape := ⟨3, ![1, 2048, 1856]⟩
abbrev S2048x1856 : Shape := ⟨2, ![2048, 1856]⟩
abbrev S128x4 : Shape := ⟨2, ![128, 4]⟩
abbrev S128x4x1 : Shape := ⟨3, ![128, 4, 1]⟩
abbrev S1x1x2048 : Shape := ⟨3, ![1, 1, 2048]⟩
abbrev S128x4x1856 : Shape := ⟨3, ![128, 4, 1856]⟩
abbrev S128x4x1024 : Shape := ⟨3, ![128, 4, 1024]⟩
abbrev S128x4x256 : Shape := ⟨3, ![128, 4, 256]⟩
abbrev S128x4x64 : Shape := ⟨3, ![128, 4, 64]⟩
abbrev S4x1 : Shape := ⟨2, ![4, 1]⟩
abbrev S1x32 : Shape := ⟨2, ![1, 32]⟩
abbrev S4x32 : Shape := ⟨2, ![4, 32]⟩
abbrev S1x1x256 : Shape := ⟨3, ![1, 1, 256]⟩
abbrev S128x4x32 : Shape := ⟨3, ![128, 4, 32]⟩
abbrev S1x4x32 : Shape := ⟨3, ![1, 4, 32]⟩
abbrev S128x19x1024 : Shape := ⟨3, ![128, 19, 1024]⟩

abbrev nBuf : Space → Nat
  | .hbm => 89
  | .vmem => 0
  | .smem => 0
  | _ => 0

abbrev bufTy : (tb : Table) → Fin (tcTables nBuf tb) → BufTy
  | .hbm, ⟨0, _⟩ => ⟨S128x4x2048, .f32⟩
  | .hbm, ⟨1, _⟩ => ⟨S128x15x1024, .f32⟩
  | .hbm, ⟨2, _⟩ => ⟨S2048, .f32⟩
  | .hbm, ⟨3, _⟩ => ⟨S2x2048x1856, .f32⟩
  | .hbm, ⟨4, _⟩ => ⟨S512, .f32⟩
  | .hbm, ⟨5, _⟩ => ⟨S512x1536, .f32⟩
  | .hbm, ⟨6, _⟩ => ⟨S256, .f32⟩
  | .hbm, ⟨7, _⟩ => ⟨S256x2048, .f32⟩
  | .hbm, ⟨8, _⟩ => ⟨S128, .f32⟩
  | .hbm, ⟨9, _⟩ => ⟨S32, .f32⟩
  | .hbm, ⟨10, _⟩ => ⟨S128, .f32⟩
  | .hbm, ⟨11, _⟩ => ⟨S32, .f32⟩
  | .hbm, ⟨12, _⟩ => ⟨S4, .i32⟩
  | .hbm, ⟨13, _⟩ => ⟨S_, .i32⟩
  | .hbm, ⟨14, _⟩ => ⟨S4, .i32⟩
  | .hbm, ⟨15, _⟩ => ⟨S4, .i32⟩
  | .hbm, ⟨16, _⟩ => ⟨S1x2048x1856, .f32⟩
  | .hbm, ⟨17, _⟩ => ⟨S2048x1856, .f32⟩
  | .hbm, ⟨18, _⟩ => ⟨S128x4x2048, .f32⟩
  | .hbm, ⟨19, _⟩ => ⟨S_, .f32⟩
  | .hbm, ⟨20, _⟩ => ⟨S128x4, .f32⟩
  | .hbm, ⟨21, _⟩ => ⟨S128x4x1, .f32⟩
  | .hbm, ⟨22, _⟩ => ⟨S_, .f32⟩
  | .hbm, ⟨23, _⟩ => ⟨S128x4x1, .f32⟩
  | .hbm, ⟨24, _⟩ => ⟨S128x4x1, .f32⟩
  | .hbm, ⟨25, _⟩ => ⟨S_, .f32⟩
  | .hbm, ⟨26, _⟩ => ⟨S128x4x1, .f32⟩
  | .hbm, ⟨27, _⟩ => ⟨S128x4x1, .f32⟩
  | .hbm, ⟨28, _⟩ => ⟨S128x4x1, .f32⟩
  | .hbm, ⟨29, _⟩ => ⟨S128x4x2048, .f32⟩
  | .hbm, ⟨30, _⟩ => ⟨S128x4x2048, .f32⟩
  | .hbm, ⟨31, _⟩ => ⟨S1x1x2048, .f32⟩
  | .hbm, ⟨32, _⟩ => ⟨S128x4x2048, .f32⟩
  | .hbm, ⟨33, _⟩ => ⟨S128x4x2048, .f32⟩
  | .hbm, ⟨34, _⟩ => ⟨S128x4x1856, .f32⟩
  | .hbm, ⟨35, _⟩ => ⟨S128x4x1024, .f32⟩
  | .hbm, ⟨36, _⟩ => ⟨S128x4x256, .f32⟩
  | .hbm, ⟨37, _⟩ => ⟨S128x4x64, .f32⟩
  | .hbm, ⟨38, _⟩ => ⟨S32, .f32⟩
  | .hbm, ⟨39, _⟩ => ⟨S32, .f32⟩
  | .hbm, ⟨40, _⟩ => ⟨S_, .f32⟩
  | .hbm, ⟨41, _⟩ => ⟨S32, .f32⟩
  | .hbm, ⟨42, _⟩ => ⟨S32, .f32⟩
  | .hbm, ⟨43, _⟩ => ⟨S_, .f32⟩
  | .hbm, ⟨44, _⟩ => ⟨S32, .f32⟩
  | .hbm, ⟨45, _⟩ => ⟨S32, .f32⟩
  | .hbm, ⟨46, _⟩ => ⟨S4, .f32⟩
  | .hbm, ⟨47, _⟩ => ⟨S4x1, .f32⟩
  | .hbm, ⟨48, _⟩ => ⟨S1x32, .f32⟩
  | .hbm, ⟨49, _⟩ => ⟨S4x32, .f32⟩
  | .hbm, ⟨50, _⟩ => ⟨S4x32, .f32⟩
  | .hbm, ⟨51, _⟩ => ⟨S4x32, .f32⟩
  | .hbm, ⟨52, _⟩ => ⟨S4x32, .f32⟩
  | .hbm, ⟨53, _⟩ => ⟨S4x32, .f32⟩
  | .hbm, ⟨54, _⟩ => ⟨S128x4x256, .f32⟩
  | .hbm, ⟨55, _⟩ => ⟨S_, .f32⟩
  | .hbm, ⟨56, _⟩ => ⟨S128x4, .f32⟩
  | .hbm, ⟨57, _⟩ => ⟨S128x4x1, .f32⟩
  | .hbm, ⟨58, _⟩ => ⟨S_, .f32⟩
  | .hbm, ⟨59, _⟩ => ⟨S128x4x1, .f32⟩
  | .hbm, ⟨60, _⟩ => ⟨S128x4x1, .f32⟩
  | .hbm, ⟨61, _⟩ => ⟨S_, .f32⟩
  | .hbm, ⟨62, _⟩ => ⟨S128x4x1, .f32⟩
  | .hbm, ⟨63, _⟩ => ⟨S128x4x1, .f32⟩
  | .hbm, ⟨64, _⟩ => ⟨S128x4x1, .f32⟩
  | .hbm, ⟨65, _⟩ => ⟨S128x4x256, .f32⟩
  | .hbm, ⟨66, _⟩ => ⟨S128x4x256, .f32⟩
  | .hbm, ⟨67, _⟩ => ⟨S1x1x256, .f32⟩
  | .hbm, ⟨68, _⟩ => ⟨S128x4x256, .f32⟩
  | .hbm, ⟨69, _⟩ => ⟨S128x4x256, .f32⟩
  | .hbm, ⟨70, _⟩ => ⟨S128x4x32, .f32⟩
  | .hbm, ⟨71, _⟩ => ⟨S128x4x32, .f32⟩
  | .hbm, ⟨72, _⟩ => ⟨S1x4x32, .f32⟩
  | .hbm, ⟨73, _⟩ => ⟨S128x4x32, .f32⟩
  | .hbm, ⟨74, _⟩ => ⟨S128x4x32, .f32⟩
  | .hbm, ⟨75, _⟩ => ⟨S1x4x32, .f32⟩
  | .hbm, ⟨76, _⟩ => ⟨S128x4x32, .f32⟩
  | .hbm, ⟨77, _⟩ => ⟨S128x4x32, .f32⟩
  | .hbm, ⟨78, _⟩ => ⟨S128x4x32, .f32⟩
  | .hbm, ⟨79, _⟩ => ⟨S1x4x32, .f32⟩
  | .hbm, ⟨80, _⟩ => ⟨S128x4x32, .f32⟩
  | .hbm, ⟨81, _⟩ => ⟨S128x4x32, .f32⟩
  | .hbm, ⟨82, _⟩ => ⟨S1x4x32, .f32⟩
  | .hbm, ⟨83, _⟩ => ⟨S128x4x32, .f32⟩
  | .hbm, ⟨84, _⟩ => ⟨S128x4x32, .f32⟩
  | .hbm, ⟨85, _⟩ => ⟨S128x4x32, .f32⟩
  | .hbm, ⟨86, _⟩ => ⟨S128x4x64, .f32⟩
  | .hbm, ⟨87, _⟩ => ⟨S128x19x1024, .f32⟩
  | .hbm, ⟨88, _⟩ => ⟨S128x15x1024, .f32⟩
  | _, _ => ⟨S128x4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_2 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_4 : Ref sig .tc := ⟨.hbm, 55, rfl⟩
abbrev main_v37 : Ref sig .tc := ⟨.hbm, 56, rfl⟩
abbrev main_v38 : Ref sig .tc := ⟨.hbm, 57, rfl⟩
abbrev main_cst_5 : Ref sig .tc := ⟨.hbm, 58, rfl⟩
abbrev main_v39 : Ref sig .tc := ⟨.hbm, 59, rfl⟩
abbrev main_v40 : Ref sig .tc := ⟨.hbm, 60, rfl⟩
abbrev main_cst_6 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩

abbrev nD : Nat := 1
abbrev τ : Topo := Topo.v7x

variable {F : FTy → Type} [FloatOps F]
-- ==== Kernel6.lean ====
abbrev S2x4112x2048 : Shape := ⟨3, ![2, 4112, 2048]⟩
abbrev S2x4112x1024 : Shape := ⟨3, ![2, 4112, 1024]⟩
abbrev S2x4112x8x128 : Shape := ⟨4, ![2, 4112, 8, 128]⟩
abbrev S4x256x256 : Shape := ⟨3, ![4, 256, 256]⟩
abbrev S1024 : Shape := ⟨1, ![1024]⟩
abbrev S2048x2048 : Shape := ⟨2, ![2048, 2048]⟩
abbrev S_ : Shape := ⟨0, ![]⟩
abbrev S2x4352x2048 : Shape := ⟨3, ![2, 4352, 2048]⟩
abbrev S8704x2048 : Shape := ⟨2, ![8704, 2048]⟩
abbrev S2x4352x1024 : Shape := ⟨3, ![2, 4352, 1024]⟩
abbrev S8704x1024 : Shape := ⟨2, ![8704, 1024]⟩
abbrev S2x4352x8x128 : Shape := ⟨4, ![2, 4352, 8, 128]⟩
abbrev S34x256x8x128 : Shape := ⟨4, ![34, 256, 8, 128]⟩
abbrev S8x34x128x256 : Shape := ⟨4, ![8, 34, 128, 256]⟩
abbrev S1x1024 : Shape := ⟨2, ![1, 1024]⟩
abbrev S256x2048 : Shape := ⟨2, ![256, 2048]⟩
abbrev S256x1024 : Shape := ⟨2, ![256, 1024]⟩
abbrev S16x1024 : Shape := ⟨2, ![16, 1024]⟩
abbrev S8x1x128x256 : Shape := ⟨4, ![8, 1, 128, 256]⟩
abbrev S272x1024 : Shape := ⟨2, ![272, 1024]⟩
abbrev S256x1 : Shape := ⟨2, ![256, 1]⟩
abbrev S256x256 : Shape := ⟨2, ![256, 256]⟩
abbrev S1x1x128x256 : Shape := ⟨4, ![1, 1, 128, 256]⟩
abbrev S128x256 : Shape := ⟨2, ![128, 256]⟩
abbrev S1024x256 : Shape := ⟨2, ![1024, 256]⟩
abbrev S1x256x256 : Shape := ⟨3, ![1, 256, 256]⟩
abbrev S256 : Shape := ⟨1, ![256]⟩

abbrev nBuf : Space → Nat
  | .hbm => 29
  | .vmem => 16
  | .smem => 0
  | _ => 0

abbrev bufTy : (tb : Table) → Fin (tcTables nBuf tb) → BufTy
  | .hbm, ⟨0, _⟩ => ⟨S2x4112x2048, .f32⟩
  | .hbm, ⟨1, _⟩ => ⟨S2x4112x1024, .f32⟩
  | .hbm, ⟨2, _⟩ => ⟨S2x4112x8x128, .f32⟩
  | .hbm, ⟨3, _⟩ => ⟨S4x256x256, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S2048x2048, .f32⟩
  | .hbm, ⟨8, _⟩ => ⟨S_, .i32⟩
  | .hbm, ⟨9, _⟩ => ⟨S_, .f32⟩
  | .hbm, ⟨10, _⟩ => ⟨S2x4352x2048, .f32⟩
  | .hbm, ⟨11, _⟩ => ⟨S8704x2048, .f32⟩
  | .hbm, ⟨12, _⟩ => ⟨S_, .i32⟩
  | .hbm, ⟨13, _⟩ => ⟨S_, .f32⟩
  | .hbm, ⟨14, _⟩ => ⟨S2x4352x1024, .f32⟩
  | .hbm, ⟨15, _⟩ => ⟨S8704x1024, .f32⟩
  | .hbm, ⟨16, _⟩ => ⟨S_, .i32⟩
  | .hbm, ⟨17, _⟩ => ⟨S_, .f32⟩
  | .hbm, ⟨18, _⟩ => ⟨S2x4352x8x128, .f32⟩
  | .hbm, ⟨19, _⟩ => ⟨S34x256x8x128, .f32⟩
  | .hbm, ⟨20, _⟩ => ⟨S8x34x128x256, .f32⟩
  | .hbm, ⟨21, _⟩ => ⟨S4x256x256, .bf16⟩
  | .hbm, ⟨22, _⟩ => ⟨S1x1024, .f32⟩
  | .hbm, ⟨23, _⟩ => ⟨S1x1024, .f32⟩
  | .hbm, ⟨24, _⟩ => ⟨S1x1024, .f32⟩
  | .hbm, ⟨25, _⟩ => ⟨S2048x2048, .bf16⟩
  | .hbm, ⟨26, _⟩ => ⟨S8704x2048, .f32⟩
  | .hbm, ⟨27, _⟩ => ⟨S2x4352x2048, .f32⟩
  | .hbm, ⟨28, _⟩ => ⟨S2x4112x2048, .f32⟩
  | .local _ .vmem, ⟨0, _⟩ => ⟨S256x2048, .f32⟩
  | .local _ .vmem, ⟨1, _⟩ => ⟨S256x2048, .f32⟩
  | .local _ .vmem, ⟨2, _⟩ => ⟨S256x1024, .f32⟩
  | .local _ .vmem, ⟨3, _⟩ => ⟨S256x1024, .f32⟩
  | .local _ .vmem, ⟨4, _⟩ => ⟨S16x1024, .f32⟩
  | .local _ .vmem, ⟨5, _⟩ => ⟨S16x1024, .f32⟩
  | .local _ .vmem, ⟨6, _⟩ => ⟨S8x1x128x256, .f32⟩
  | .local _ .vmem, ⟨7, _⟩ => ⟨S8x1x128x256, .f32⟩
  | .local _ .vmem, ⟨8, _⟩ => ⟨S4x256x256, .bf16⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S2048x2048, .bf16⟩
  | .local _ .vmem, ⟨13, _⟩ => ⟨S256x2048, .f32⟩
  | .local _ .vmem, ⟨14, _⟩ => ⟨S256x2048, .f32⟩
  | .local _ .vmem, ⟨15, _⟩ => ⟨S272x1024, .f32⟩
  | _, _ => ⟨S2x4112x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_call1_v0 : Ref sig .tc := ⟨.hbm, 13, rfl⟩
abbrev main_v2 : Ref sig .tc := ⟨.hbm, 14, rfl⟩
abbrev main_v3 : Ref sig .tc := ⟨.hbm, 15, rfl⟩
abbrev main_c_1 : Ref sig .tc := ⟨.hbm, 16, rfl⟩
abbrev main_call2_v0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![2, 17], ![false, false]⟩

def cc0_transform_0 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c16_i32 : BitVec 32 := 16#32
  let v2 : BitVec 32 := Scalar.muli v1 c16_i32
  let c1_i32 : BitVec 32 := 1#32
  let v3 : BitVec 32 := Scalar.subi v2 c1_i32
  let c0_i32 : BitVec 32 := 0#32
  let v4 : BitVec 32 := Scalar.maxsi v3 c0_i32
  let c0_i32_0 : BitVec 32 := 0#32
  let c0_i32_1 : BitVec 32 := 0#32
  ![v4.toNat, c0_i32_0.toNat]

def cc0_transform_3 (i : grid0.Coords) : Fin 4 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S4x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2048x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference6Ideal.lean ====
abbrev S2x4112x2048 : Shape := ⟨3, ![2, 4112, 2048]⟩
abbrev S2x4112x1024 : Shape := ⟨3, ![2, 4112, 1024]⟩
abbrev S2x4112x8x128 : Shape := ⟨4, ![2, 4112, 8, 128]⟩
abbrev S4x256x256 : Shape := ⟨3, ![4, 256, 256]⟩
abbrev S1024 : Shape := ⟨1, ![1024]⟩
abbrev S2048x2048 : Shape := ⟨2, ![2048, 2048]⟩
abbrev S_ : Shape := ⟨0, ![]⟩
abbrev S4112 : Shape := ⟨1, ![4112]⟩
abbrev S1x4112x1 : Shape := ⟨3, ![1, 4112, 1]⟩
abbrev S2x4112x256 : Shape := ⟨3, ![2, 4112, 256]⟩
abbrev S2x4114x256 : Shape := ⟨3, ![2, 4114, 256]⟩
abbrev S1x256x256 : Shape := ⟨3, ![1, 256, 256]⟩
abbrev S256x256 : Shape := ⟨2, ![256, 256]⟩
abbrev S2x4116x256 : Shape := ⟨3, ![2, 4116, 256]⟩
abbrev S2x4120x256 : Shape := ⟨3, ![2, 4120, 256]⟩
abbrev S2x4128x256 : Shape := ⟨3, ![2, 4128, 256]⟩
abbrev S1x1x1024 : Shape := ⟨3, ![1, 1, 1024]⟩
abbrev S2x4112 : Shape := ⟨2, ![2, 4112]⟩
abbrev S2x4112x1 : Shape := ⟨3, ![2, 4112, 1]⟩

abbrev nBuf : Space → Nat
  | .hbm => 120
  | .vmem => 0
  | .smem => 0
  | _ => 0

abbrev bufTy : (tb : Table) → Fin (tcTables nBuf tb) → BufTy
  | .hbm, ⟨0, _⟩ => ⟨S2x4112x2048, .f32⟩
  | .hbm, ⟨1, _⟩ => ⟨S2x4112x1024, .f32⟩
  | .hbm, ⟨2, _⟩ => ⟨S2x4112x8x128, .f32⟩
  | .hbm, ⟨3, _⟩ => ⟨S4x256x256, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S2048x2048, .f32⟩
  | .hbm, ⟨8, _⟩ => ⟨S_, .f32⟩
  | .hbm, ⟨9, _⟩ => ⟨S_, .f32⟩
  | .hbm, ⟨10, _⟩ => ⟨S2x4112x1024, .f32⟩
  | .hbm, ⟨11, _⟩ => ⟨S4112, .f32⟩
  | .hbm, ⟨12, _⟩ => ⟨S_, .f32⟩
  | .hbm, ⟨13, _⟩ => ⟨S4112, .f32⟩
  | .hbm, ⟨14, _⟩ => ⟨S4112, .f32⟩
  | .hbm, ⟨15, _⟩ => ⟨S1x4112x1, .f32⟩
  | .hbm, ⟨16, _⟩ => ⟨S2x4112x256, .f32⟩
  | .hbm, ⟨17, _⟩ => ⟨S_, .i32⟩
  | .hbm, ⟨18, _⟩ => ⟨S_, .f32⟩
  | .hbm, ⟨19, _⟩ => ⟨S2x4114x256, .f32⟩
  | .hbm, ⟨20, _⟩ => ⟨S2x4112x256, .f32⟩
  | .hbm, ⟨21, _⟩ => ⟨S2x4112x256, .f32⟩
  | .hbm, ⟨22, _⟩ => ⟨S_, .f32⟩
  | .hbm, ⟨23, _⟩ => ⟨S1x4112x1, .f32⟩
  | .hbm, ⟨24, _⟩ => ⟨S1x4112x1, .f32⟩
  | .hbm, ⟨25, _⟩ => ⟨S2x4112x256, .f32⟩
  | .hbm, ⟨26, _⟩ => ⟨S2x4112x256, .f32⟩
  | .hbm, ⟨27, _⟩ => ⟨S2x4112x256, .f32⟩
  | .hbm, ⟨28, _⟩ => ⟨S2x4112x256, .f32⟩
  | .hbm, ⟨29, _⟩ => ⟨S1x256x256, .f32⟩
  | .hbm, ⟨30, _⟩ => ⟨S256x256, .f32⟩
  | .hbm, ⟨31, _⟩ => ⟨S2x4112x256, .f32⟩
  | .hbm, ⟨32, _⟩ => ⟨S2x4112x256, .f32⟩
  | .hbm, ⟨33, _⟩ => ⟨S_, .i32⟩
  | .hbm, ⟨34, _⟩ => ⟨S_, .f32⟩
  | .hbm, ⟨35, _⟩ => ⟨S2x4116x256, .f32⟩
  | .hbm, ⟨36, _⟩ => ⟨S2x4112x256, .f32⟩
  | .hbm, ⟨37, _⟩ => ⟨S2x4112x256, .f32⟩
  | .hbm, ⟨38, _⟩ => ⟨S_, .f32⟩
  | .hbm, ⟨39, _⟩ => ⟨S1x4112x1, .f32⟩
  | .hbm, ⟨40, _⟩ => ⟨S1x4112x1, .f32⟩
  | .hbm, ⟨41, _⟩ => ⟨S2x4112x256, .f32⟩
  | .hbm, ⟨42, _⟩ => ⟨S2x4112x256, .f32⟩
  | .hbm, ⟨43, _⟩ => ⟨S2x4112x256, .f32⟩
  | .hbm, ⟨44, _⟩ => ⟨S2x4112x256, .f32⟩
  | .hbm, ⟨45, _⟩ => ⟨S1x256x256, .f32⟩
  | .hbm, ⟨46, _⟩ => ⟨S256x256, .f32⟩
  | .hbm, ⟨47, _⟩ => ⟨S2x4112x256, .f32⟩
  | .hbm, ⟨48, _⟩ => ⟨S2x4112x256, .f32⟩
  | .hbm, ⟨49, _⟩ => ⟨S_, .i32⟩
  | .hbm, ⟨50, _⟩ => ⟨S_, .f32⟩
  | .hbm, ⟨51, _⟩ => ⟨S2x4120x256, .f32⟩
  | .hbm, ⟨52, _⟩ => ⟨S2x4112x256, .f32⟩
  | .hbm, ⟨53, _⟩ => ⟨S2x4112x256, .f32⟩
  | .hbm, ⟨54, _⟩ => ⟨S_, .f32⟩
  | .hbm, ⟨55, _⟩ => ⟨S1x4112x1, .f32⟩
  | .hbm, ⟨56, _⟩ => ⟨S1x4112x1, .f32⟩
  | .hbm, ⟨57, _⟩ => ⟨S2x4112x256, .f32⟩
  | .hbm, ⟨58, _⟩ => ⟨S2x4112x256, .f32⟩
  | .hbm, ⟨59, _⟩ => ⟨S2x4112x256, .f32⟩
  | .hbm, ⟨60, _⟩ => ⟨S2x4112x256, .f32⟩
  | .hbm, ⟨61, _⟩ => ⟨S1x256x256, .f32⟩
  | .hbm, ⟨62, _⟩ => ⟨S256x256, .f32⟩
  | .hbm, ⟨63, _⟩ => ⟨S2x4112x256, .f32⟩
  | .hbm, ⟨64, _⟩ => ⟨S2x4112x256, .f32⟩
  | .hbm, ⟨65, _⟩ => ⟨S_, .i32⟩
  | .hbm, ⟨66, _⟩ => ⟨S_, .f32⟩
  | .hbm, ⟨67, _⟩ => ⟨S2x4128x256, .f32⟩
  | .hbm, ⟨68, _⟩ => ⟨S2x4112x256, .f32⟩
  | .hbm, ⟨69, _⟩ => ⟨S2x4112x256, .f32⟩
  | .hbm, ⟨70, _⟩ => ⟨S_, .f32⟩
  | .hbm, ⟨71, _⟩ => ⟨S1x4112x1, .f32⟩
  | .hbm, ⟨72, _⟩ => ⟨S1x4112x1, .f32⟩
  | .hbm, ⟨73, _⟩ => ⟨S2x4112x256, .f32⟩
  | .hbm, ⟨74, _⟩ => ⟨S2x4112x256, .f32⟩
  | .hbm, ⟨75, _⟩ => ⟨S2x4112x256, .f32⟩
  | .hbm, ⟨76, _⟩ => ⟨S2x4112x256, .f32⟩
  | .hbm, ⟨77, _⟩ => ⟨S1x256x256, .f32⟩
  | .hbm, ⟨78, _⟩ => ⟨S256x256, .f32⟩
  | .hbm, ⟨79, _⟩ => ⟨S2x4112x256, .f32⟩
  | .hbm, ⟨80, _⟩ => ⟨S2x4112x1024, .f32⟩
  | .hbm, ⟨81, _⟩ => ⟨S1x1x1024, .f32⟩
  | .hbm, ⟨82, _⟩ => ⟨S2x4112x1024, .f32⟩
  | .hbm, ⟨83, _⟩ => ⟨S2x4112x1024, .f32⟩
  | .hbm, ⟨84, _⟩ => ⟨S2x4112x1024, .f32⟩
  | .hbm, ⟨85, _⟩ => ⟨S2x4112x1024, .f32⟩
  | .hbm, ⟨86, _⟩ => ⟨S_, .f32⟩
  | .hbm, ⟨87, _⟩ => ⟨S2x4112, .f32⟩
  | .hbm, ⟨88, _⟩ => ⟨S2x4112x1, .f32⟩
  | .hbm, ⟨89, _⟩ => ⟨S_, .f32⟩
  | .hbm, ⟨90, _⟩ => ⟨S2x4112x1, .f32⟩
  | .hbm, ⟨91, _⟩ => ⟨S2x4112x1, .f32⟩
  | .hbm, ⟨92, _⟩ => ⟨S_, .f32⟩
  | .hbm, ⟨93, _⟩ => ⟨S2x4112x1, .f32⟩
  | .hbm, ⟨94, _⟩ => ⟨S2x4112x1, .f32⟩
  | .hbm, ⟨95, _⟩ => ⟨S2x4112x1, .f32⟩
  | .hbm, ⟨96, _⟩ => ⟨S2x4112x1024, .f32⟩
  | .hbm, ⟨97, _⟩ => ⟨S2x4112x1024, .f32⟩
  | .hbm, ⟨98, _⟩ => ⟨S1x1x1024, .f32⟩
  | .hbm, ⟨99, _⟩ => ⟨S2x4112x1024, .f32⟩
  | .hbm, ⟨100, _⟩ => ⟨S2x4112x1024, .f32⟩
  | .hbm, ⟨101, _⟩ => ⟨S2x4112x1024, .f32⟩
  | .hbm, ⟨102, _⟩ => ⟨S_, .f32⟩
  | .hbm, ⟨103, _⟩ => ⟨S2x4112, .f32⟩
  | .hbm, ⟨104, _⟩ => ⟨S2x4112x1, .f32⟩
  | .hbm, ⟨105, _⟩ => ⟨S_, .f32⟩
  | .hbm, ⟨106, _⟩ => ⟨S2x4112x1, .f32⟩
  | .hbm, ⟨107, _⟩ => ⟨S2x4112x1, .f32⟩
  | .hbm, ⟨108, _⟩ => ⟨S_, .f32⟩
  | .hbm, ⟨109, _⟩ => ⟨S2x4112x1, .f32⟩
  | .hbm, ⟨110, _⟩ => ⟨S2x4112x1, .f32⟩
  | .hbm, ⟨111, _⟩ => ⟨S2x4112x1, .f32⟩
  | .hbm, ⟨112, _⟩ => ⟨S2x4112x1024, .f32⟩
  | .hbm, ⟨113, _⟩ => ⟨S2x4112x1024, .f32⟩
  | .hbm, ⟨114, _⟩ => ⟨S1x1x1024, .f32⟩
  | .hbm, ⟨115, _⟩ => ⟨S2x4112x1024, .f32⟩
  | .hbm, ⟨116, _⟩ => ⟨S2x4112x1024, .f32⟩
  | .hbm, ⟨117, _⟩ => ⟨S2x4112x2048, .f32⟩
  | .hbm, ⟨118, _⟩ => ⟨S2x4112x2048, .f32⟩
  | .hbm, ⟨119, _⟩ => ⟨S2x4112x2048, .f32⟩
  | _, _ => ⟨S2x4112x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_call0_cst : Ref sig .tc := ⟨.hbm, 8, rfl⟩
abbrev main_call0_call0_v0 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_call1_v0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_1 : Ref sig .tc := ⟨.hbm, 33, rfl⟩
abbrev main_call2_v0 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_3 : Ref sig .tc := ⟨.hbm, 49, rfl⟩
abbrev main_call3_v0 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_4 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_c_5 : Ref sig .tc := ⟨.hbm, 65, rfl⟩
abbrev main_call4_v0 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_6 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_7 : Ref sig .tc := ⟨.hbm, 86, rfl⟩
abbrev main_v63 : Ref sig .tc := ⟨.hbm, 87, rfl⟩
abbrev main_v64 : Ref sig .tc := ⟨.hbm, 88, rfl⟩
abbrev main_cst_8 : Ref sig .tc := ⟨.hbm, 89, rfl⟩
abbrev main_v65 : Ref sig .tc := ⟨.hbm, 90, rfl⟩
abbrev main_v66 : Ref sig .tc := ⟨.hbm, 91, rfl⟩
abbrev main_cst_9 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_cst_10 : Ref sig .tc := ⟨.hbm, 102, rfl⟩
abbrev main_v76 : Ref sig .tc := ⟨.hbm, 103, rfl⟩
abbrev main_v77 : Ref sig .tc := ⟨.hbm, 104, rfl⟩
abbrev main_cst_11 : Ref sig .tc := ⟨.hbm, 105, rfl⟩
abbrev main_v78 : Ref sig .tc := ⟨.hbm, 106, rfl⟩
abbrev main_v79 : Ref sig .tc := ⟨.hbm, 107, rfl⟩
abbrev main_cst_12 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩

abbrev nD : Nat := 1
abbrev τ : Topo := Topo.v7x

variable {F : FTy → Type} [FloatOps F]
-- ==== Proof.FlashStep.lean ====
/- One block step of the attention kernel as a function of one head's state, and the kernel's loop as four
   independent runs of it, one per head. -/
module

public import proofs.«01_k».proof.Proof.Gen.KernelIdeal.Frame
public import Idealize.ShloMosaic.Lib.Pipeline.ValueKit
public import Idealize.ShloMosaic.Lib.WholeRead

@[expose] public section

set_option maxRecDepth 16384

noncomputable section

namespace Cert.Flash

open Cert.KernelIdeal Cert.KernelIdeal.Gen Idealize.ShloMosaic Idealize.ShloMosaic.TcCoe Idealize.SL.Sem

variable {F : FTy → Type} [FloatOps F] [Named F]

/-- One head's carried state: the scores of the block to be folded in, the running maximum, the running sum and the
    running weighted sum of the values. -/
abbrev St (F : FTy → Type) [FloatOps F] : Type :=
  FVec F S256x256 .f32 × FVec F S1x256 .f32 × FVec F S1x256 .f32 × FVec F S128x256 .f32

/-- The loop's carried tuple, its sixteen arrays grouped by head. -/
abbrev join (a b c d : St F) :=
  (a.1, a.2.1, a.2.2.1, a.2.2.2, b.1, b.2.1, b.2.2.1, b.2.2.2, c.1, c.2.1, c.2.2.1, c.2.2.2, d.1, d.2.1, d.2.2.1, d.2.2.2)

/-- One trip for one head: the scores of the next block (keys `kn` against the queries `q`), and the carried block
    folded into the maximum, the sum and the weighted sum of the values `v`. -/
def step (kn q : Vec F S1x256x256 .bf16) (v : Vec F S1x1x128x256 .bf16) (s : St F) : St F :=
  (k0_pay1 kn q, k0_pay2 s.1 s.2.1, k0_pay5 s.1 s.2.1 s.2.2.1, k0_pay6 s.1 s.2.1 s.2.2.2 v)

/-- A trip of the kernel's loop is one `step` of each of the four heads. -/
theorem trip_eq (𝒱 : Variants) (c : Dev nD) (bd : Option 𝒱.V) (i : grid0.Coords) (arg3 : Memref sig .tc .vmem S4x256x256 .bf16) (harg3 : arg3.IsWhole) (arg4 : Memref sig .tc .vmem S4x4352x256 .bf16) (harg4 : arg4.IsWhole) (arg5 : Memref sig .tc .vmem S4x17x128x256 .bf16) (harg5 : arg5.IsWhole) (arg6 : Memref sig .tc .vmem S4x1x128x256 .f32) (harg6 : arg6.IsWhole) (arg2 : BitVec 32) (v0 : FVec F S1x256 .f32) (v1 : FVec F S1x256 .f32) (v2 : FVec F S128x256 .f32) (v9 : FVec F S256x256 .f32) (v16 : FVec F S256x256 .f32) (v23 : FVec F S256x256 .f32) (v27 : FVec F S256x256 .bf16) (X3 : BufTy.Contents (Elt F) arg3.view.ty) (X4 : BufTy.Contents (Elt F) arg4.view.ty) (X5 : BufTy.Contents (Elt F) arg5.view.ty) (k : Fin (k0_t1_loop i).trips)
    (h0 h1 h2 h3 : St F) :
    tripR_k0_t1 𝒱 c bd i arg3 harg3 arg4 harg4 arg5 harg5 arg6 harg6 arg2 v0 v1 v2 v9 v16 v23 v27 X3 X4 X5 k (join h0 h1 h2 h3)
      = join
        (step (View.readAt (Elt F) arg4.view (Rect.unit (s := S4x4352x256) (k0_off1 i k) S1x256x256.size (k0_off1_inb i k)).toLoadRect X4)
          (View.readAt (Elt F) arg3.view (Rect.unit (s := S4x256x256) ![0, 0, 0] S1x256x256.size inb_S4x256x256_S1x256x256_0_0_0).toLoadRect X3)
          (View.readAt (Elt F) arg5.view (Rect.unit (s := S4x17x128x256) (k0_off2 i k) S1x1x128x256.size (k0_off2_inb i k)).toLoadRect X5) h0)
        (step (View.readAt (Elt F) arg4.view (Rect.unit (s := S4x4352x256) (k0_off3 i k) S1x256x256.size (k0_off3_inb i k)).toLoadRect X4)
          (View.readAt (Elt F) arg3.view (Rect.unit (s := S4x256x256) ![1, 0, 0] S1x256x256.size inb_S4x256x256_S1x256x256_1_0_0).toLoadRect X3)
          (View.readAt (Elt F) arg5.view (Rect.unit (s := S4x17x128x256) (k0_off4 i k) S1x1x128x256.size (k0_off4_inb i k)).toLoadRect X5) h1)
        (step (View.readAt (Elt F) arg4.view (Rect.unit (s := S4x4352x256) (k0_off5 i k) S1x256x256.size (k0_off5_inb i k)).toLoadRect X4)
          (View.readAt (Elt F) arg3.view (Rect.unit (s := S4x256x256) ![2, 0, 0] S1x256x256.size inb_S4x256x256_S1x256x256_2_0_0).toLoadRect X3)
          (View.readAt (Elt F) arg5.view (Rect.unit (s := S4x17x128x256) (k0_off6 i k) S1x1x128x256.size (k0_off6_inb i k)).toLoadRect X5) h2)
        (step (View.readAt (Elt F) arg4.view (Rect.unit (s := S4x4352x256) (k0_off7 i k) S1x256x256.size (k0_off7_inb i k)).toLoadRect X4)
          (View.readAt (Elt F) arg3.view (Rect.unit (s := S4x256x256) ![3, 0, 0] S1x256x256.size inb_S4x256x256_S1x256x256_3_0_0).toLoadRect X3)
          (View.readAt (Elt F) arg5.view (Rect.unit (s := S4x17x128x256) (k0_off8 i k) S1x1x128x256.size (k0_off8_inb i k)).toLoadRect X5) h3) := by
  unfold tripR_k0_t1 trip_k0_t1
  rfl

/-- The second counted loop, which would take what is left over, makes no trip at any grid point. -/
theorem trips2 : ∀ i : Fin 17, Scf.trips (Scalar.addi (0#32) (Scalar.muli (Scalar.divsi (Scalar.subi (BitVec.ofNat 32 i.val) 0#32) 1#32) 1#32))
    (Scalar.addi (0#32) (Scalar.subi (BitVec.ofNat 32 i.val) 0#32)) 1#32 = 0 := by decide +kernel

/-- The first counted loop makes as many trips as the grid's third coordinate. -/
theorem trips1 : ∀ i : Fin 17, Scf.trips (0#32) (Scalar.addi (0#32) (Scalar.muli (Scalar.divsi (Scalar.subi (BitVec.ofNat 32 i.val) 0#32) 1#32) 1#32)) 1#32 = i.val := by decide +kernel

/-! ## The blocks a trip loads -/

/-- The queries of head `h` in the block of queries. -/
def qb (x0 : Vec F S4x256x256 .bf16) (h : Fin 4) : Vec F S1x256x256 .bf16 := fun y => x0 (ix3 h (y 1) (y 2))

/-- Block `j` of the keys of head `h`. -/
def kb (x1 : Vec F S4x4352x256 .bf16) (h : Fin 4) (j : ℕ) : Vec F S1x256x256 .bf16 :=
  fun y => x1 (ix3 h ⟨(256 * j + (y 1).val) % 4352, Nat.mod_lt _ (by decide)⟩ (y 2))

/-- Block `j` of the transposed values of head `h`. -/
def vb (x2 : Vec F S4x17x128x256 .bf16) (h : Fin 4) (j : ℕ) : Vec F S1x1x128x256 .bf16 :=
  fun y => x2 (ix4 h ⟨j % 17, Nat.mod_lt _ (by decide)⟩ (y 2) (y 3))

theorem idx_val {s : Shape} {off size : Fin s.rank → ℕ} (inb : ∀ a, off a + size a ≤ s.size a) (y : (Rect.unit (s := s) off size inb).toLoadRect.shape.Idx) (a : Fin s.rank) :
    ((Rect.unit (s := s) off size inb).toLoadRect.idx y a).val = off a + (y a).val := by
  simp [LoadRect.idx, Rect.unit, Rect.toLoadRect]

theorem ld_q {arg3 : Memref sig .tc .vmem S4x256x256 .bf16} (harg3 : arg3.IsWhole) (x0 : Vec F S4x256x256 .bf16) (h : Fin 4)
    (inb : ∀ a, (![h.val, 0, 0] : Fin 3 → ℕ) a + S1x256x256.size a ≤ S4x256x256.size a) :
    View.readAt (Elt F) arg3.view (Rect.unit (s := S4x256x256) ![h.val, 0, 0] S1x256x256.size inb).toLoadRect (harg3.unread x0) = qb x0 h := by
  funext y
  rw [harg3.readAt_unread]
  unfold qb
  congr 1
  funext a
  refine Fin.ext ((idx_val _ _ _).trans ?_)
  fin_cases a
  · exact Nat.add_eq_left.mpr (Nat.lt_one_iff.mp (y 0).isLt)
  · exact Nat.zero_add _
  · exact Nat.zero_add _

theorem ld_k {arg4 : Memref sig .tc .vmem S4x4352x256 .bf16} (harg4 : arg4.IsWhole) (x1 : Vec F S4x4352x256 .bf16) (h : Fin 4) (j : ℕ) (hj : j < 17)
    (off : Fin 3 → ℕ) (ho : off = ![h.val, 256 * j, 0]) (inb : ∀ a, off a + S1x256x256.size a ≤ S4x4352x256.size a) :
    View.readAt (Elt F) arg4.view (Rect.unit (s := S4x4352x256) off S1x256x256.size inb).toLoadRect (harg4.unread x1) = kb x1 h j := by
  subst ho
  funext y
  rw [harg4.readAt_unread]
  unfold kb
  congr 1
  funext a
  refine Fin.ext ((idx_val _ _ _).trans ?_)
  fin_cases a
  · exact Nat.add_eq_left.mpr (Nat.lt_one_iff.mp (y 0).isLt)
  · have : (y 1).val < 256 := (y 1).isLt
    exact (Nat.mod_eq_of_lt (show 256 * j + (y 1).val < 4352 by omega)).symm
  · exact Nat.zero_add _

theorem ld_v {arg5 : Memref sig .tc .vmem S4x17x128x256 .bf16} (harg5 : arg5.IsWhole) (x2 : Vec F S4x17x128x256 .bf16) (h : Fin 4) (j : ℕ) (hj : j < 17)
    (off : Fin 4 → ℕ) (ho : off = ![h.val, j, 0, 0]) (inb : ∀ a, off a + S1x1x128x256.size a ≤ S4x17x128x256.size a) :
    View.readAt (Elt F) arg5.view (Rect.unit (s := S4x17x128x256) off S1x1x128x256.size inb).toLoadRect (harg5.unread x2) = vb x2 h j := by
  subst ho
  funext y
  rw [harg5.readAt_unread]
  unfold vb
  congr 1
  funext a
  refine Fin.ext ((idx_val _ _ _).trans ?_)
  fin_cases a
  · exact Nat.add_eq_left.mpr (Nat.lt_one_iff.mp (y 0).isLt)
  · exact (Nat.add_eq_left.mpr (Nat.lt_one_iff.mp (y 1).isLt)).trans (Nat.mod_eq_of_lt hj).symm
  · exact Nat.zero_add _
  · exact Nat.zero_add _

/-- One head's state before trip `n`. -/
def hst (x0 : Vec F S4x256x256 .bf16) (x1 : Vec F S4x4352x256 .bf16) (x2 : Vec F S4x17x128x256 .bf16) (h : Fin 4) (a : St F) : ℕ → St F
  | 0 => a
  | n + 1 => step (kb x1 h (n + 1)) (qb x0 h) (vb x2 h n) (hst x0 x1 x2 h a n)

theorem trips_lt (i : grid0.Coords) (k : Fin (k0_t1_loop i).trips) : k.val < 16 := by
  have h := trips1 (i 2)
  have h2 : (k0_t1_loop i).trips = (i 2).val := h
  have h3 : (i 2).val < 17 := (i 2).isLt
  have := k.isLt
  omega

theorem koff : ∀ n : Fin 16, (Scalar.indexCast (Scalar.muli (Scalar.addi (Scf.iv (0#32) 1#32 n.val) 1#32) 256#32)).toNat = 256 * (n.val + 1) := by
  decide +kernel
theorem voff : ∀ n : Fin 16, (Scalar.indexCast (Scf.iv (0#32) 1#32 n.val)).toNat = n.val := by
  decide +kernel

/-- The carried value before trip `n` is the four heads' states. -/
theorem st_eq (𝒱 : Variants) (c : Dev nD) (bd : Option 𝒱.V) (i : grid0.Coords) (arg3 : Memref sig .tc .vmem S4x256x256 .bf16) (harg3 : arg3.IsWhole) (arg4 : Memref sig .tc .vmem S4x4352x256 .bf16) (harg4 : arg4.IsWhole) (arg5 : Memref sig .tc .vmem S4x17x128x256 .bf16) (harg5 : arg5.IsWhole) (arg6 : Memref sig .tc .vmem S4x1x128x256 .f32) (harg6 : arg6.IsWhole) (arg2 : BitVec 32) (v0 : FVec F S1x256 .f32) (v1 : FVec F S1x256 .f32) (v2 : FVec F S128x256 .f32) (v9 : FVec F S256x256 .f32) (v16 : FVec F S256x256 .f32) (v23 : FVec F S256x256 .f32) (v27 : FVec F S256x256 .bf16)
    (x0 : Vec F S4x256x256 .bf16) (x1 : Vec F S4x4352x256 .bf16) (x2 : Vec F S4x17x128x256 .bf16)
    (a8 : FVec F S256x256 .f32) (a9 a10 : FVec F S1x256 .f32) (a11 : FVec F S128x256 .f32)
    (a12 : FVec F S256x256 .f32) (a13 a14 : FVec F S1x256 .f32) (a15 : FVec F S128x256 .f32)
    (a16 : FVec F S256x256 .f32) (a17 a18 : FVec F S1x256 .f32) (a19 : FVec F S128x256 .f32)
    (a20 : FVec F S256x256 .f32) (a21 a22 : FVec F S1x256 .f32) (a23 : FVec F S128x256 .f32) :
    ∀ n : ℕ, n ≤ (i 2).val →
    st_k0_t1 𝒱 c bd i arg3 harg3 arg4 harg4 arg5 harg5 arg6 harg6 arg2 v0 v1 v2 v9 v16 v23 v27 (harg3.unread x0) (harg4.unread x1) (harg5.unread x2)
        (a8, a9, a10, a11, a12, a13, a14, a15, a16, a17, a18, a19, a20, a21, a22, a23) n
      = join (hst x0 x1 x2 0 (a8, a9, a10, a11) n) (hst x0 x1 x2 1 (a12, a13, a14, a15) n)
          (hst x0 x1 x2 2 (a16, a17, a18, a19) n) (hst x0 x1 x2 3 (a20, a21, a22, a23) n)
  | 0, _ => rfl
  | n + 1, hn => by
    have ht : n < (k0_t1_loop i).trips := by
      have h2 : (k0_t1_loop i).trips = (i 2).val := trips1 (i 2)
      omega
    have h16 : n < 16 := by have h3 : (i 2).val < 17 := (i 2).isLt; omega
    have ek := koff ⟨n, h16⟩
    have ev := voff ⟨n, h16⟩
    refine (st_k0_t1_succ 𝒱 c bd i arg3 harg3 arg4 harg4 arg5 harg5 arg6 harg6 arg2 v0 v1 v2 v9 v16 v23 v27 _ _ _ _ ⟨n, ht⟩).trans ?_
    dsimp only
    rw [st_eq 𝒱 c bd i arg3 harg3 arg4 harg4 arg5 harg5 arg6 harg6 arg2 v0 v1 v2 v9 v16 v23 v27 x0 x1 x2 a8 a9 a10 a11 a12 a13 a14 a15 a16 a17 a18 a19 a20 a21 a22 a23 n (by omega)]
    rw [trip_eq]
    have k1 : k0_off1 i ⟨n, ht⟩ = ![(0 : Fin 4).val, 256 * (n + 1), 0] := congrArg (fun x => ![0, x, 0]) ek
    have k3 : k0_off3 i ⟨n, ht⟩ = ![(1 : Fin 4).val, 256 * (n + 1), 0] := congrArg (fun x => ![1, x, 0]) ek
    have k5 : k0_off5 i ⟨n, ht⟩ = ![(2 : Fin 4).val, 256 * (n + 1), 0] := congrArg (fun x => ![2, x, 0]) ek
    have k7 : k0_off7 i ⟨n, ht⟩ = ![(3 : Fin 4).val, 256 * (n + 1), 0] := congrArg (fun x => ![3, x, 0]) ek
    have k2 : k0_off2 i ⟨n, ht⟩ = ![(0 : Fin 4).val, n, 0, 0] := congrArg (fun x => ![0, x, 0, 0]) ev
    have k4 : k0_off4 i ⟨n, ht⟩ = ![(1 : Fin 4).val, n, 0, 0] := congrArg (fun x => ![1, x, 0, 0]) ev
    have k6 : k0_off6 i ⟨n, ht⟩ = ![(2 : Fin 4).val, n, 0, 0] := congrArg (fun x => ![2, x, 0, 0]) ev
    have k8 : k0_off8 i ⟨n, ht⟩ = ![(3 : Fin 4).val, n, 0, 0] := congrArg (fun x => ![3, x, 0, 0]) ev
    rw [ld_k harg4 x1 0 (n + 1) (by omega) _ k1, ld_k harg4 x1 1 (n + 1) (by omega) _ k3, ld_k harg4 x1 2 (n + 1) (by omega) _ k5, ld_k harg4 x1 3 (n + 1) (by omega) _ k7,
      ld_v harg5 x2 0 n (by omega) _ k2, ld_v harg5 x2 1 n (by omega) _ k4, ld_v harg5 x2 2 n (by omega) _ k6, ld_v harg5 x2 3 n (by omega) _ k8]
    have q0 := ld_q harg3 x0 0 inb_S4x256x256_S1x256x256_0_0_0
    have q1 := ld_q harg3 x0 1 inb_S4x256x256_S1x256x256_1_0_0
    have q2 := ld_q harg3 x0 2 inb_S4x256x256_S1x256x256_2_0_0
    have q3 := ld_q harg3 x0 3 inb_S4x256x256_S1x256x256_3_0_0
    simp only [hst, ← q0, ← q1, ← q2, ← q3]
    rfl

end Cert.Flash
-- ==== Proof.FlashOut.lean ====
/- What the attention kernel leaves in its block of outputs: for each head the last fold of its run. -/
module

public import proofs.«01_k».proof.Proof.FlashStep

@[expose] public section

set_option maxRecDepth 16384

noncomputable section

namespace Cert.Flash

open Cert.KernelIdeal Cert.KernelIdeal.Gen Idealize.ShloMosaic Idealize.ShloMosaic.TcCoe Idealize.SL.Sem

variable {F : FTy → Type} [FloatOps F] [Named F]

/-- The last fold of a head: the block on the diagonal, masked, then the division by the sum. -/
def finv (s : St F) (v : Vec F S1x1x128x256 .bf16) : FVec F S1x1x128x256 .f32 := k0_pay63 s.1 s.2.1 s.2.2.1 s.2.2.2 v

/-- One head's state before the first trip: the scores of block 0, and nothing folded in. -/
def st0 (x0 : Vec F S4x256x256 .bf16) (x1 : Vec F S4x4352x256 .bf16) (h : Fin 4) : St F :=
  (k0_pay1 (kb x1 h 0) (qb x0 h), k0_pay41, k0_pay42, k0_pay43)

/-- What head `h` leaves at the block `i` of queries. -/
def headOut (x0 : Vec F S4x256x256 .bf16) (x1 : Vec F S4x4352x256 .bf16) (x2 : Vec F S4x17x128x256 .bf16) (h : Fin 4) (n : ℕ) : FVec F S1x1x128x256 .f32 :=
  finv (hst x0 x1 x2 h (st0 x0 x1 h) n) (vb x2 h n)

theorem off17 : ∀ n : Fin 17, (Scalar.indexCast (BitVec.ofNat 32 n.val)).toNat = n.val := by decide +kernel

theorem pieces_eq (c : Dev nD) (i : grid0.Coords) (arg3 : Memref sig .tc .vmem S4x256x256 .bf16) (harg3 : arg3.IsWhole) (arg4 : Memref sig .tc .vmem S4x4352x256 .bf16) (harg4 : arg4.IsWhole) (arg5 : Memref sig .tc .vmem S4x17x128x256 .bf16) (harg5 : arg5.IsWhole) (arg6 : Memref sig .tc .vmem S4x1x128x256 .f32) (harg6 : arg6.IsWhole)
    (x0 : Vec F S4x256x256 .bf16) (x1 : Vec F S4x4352x256 .bf16) (x2 : Vec F S4x17x128x256 .bf16) :
    (kernelRun0_A c i arg3 harg3 arg4 harg4 arg5 harg5 arg6 harg6 x0 x1 x2).1
      = [⟨Rect.unit (s := S4x1x128x256) ![3, 0, 0, 0] S1x1x128x256.size inb_S4x1x128x256_S1x1x128x256_3_0_0_0, headOut x0 x1 x2 3 (i 2).val⟩,
         ⟨Rect.unit (s := S4x1x128x256) ![2, 0, 0, 0] S1x1x128x256.size inb_S4x1x128x256_S1x1x128x256_2_0_0_0, headOut x0 x1 x2 2 (i 2).val⟩,
         ⟨Rect.unit (s := S4x1x128x256) ![1, 0, 0, 0] S1x1x128x256.size inb_S4x1x128x256_S1x1x128x256_1_0_0_0, headOut x0 x1 x2 1 (i 2).val⟩,
         ⟨Rect.unit (s := S4x1x128x256) ![0, 0, 0, 0] S1x1x128x256.size inb_S4x1x128x256_S1x1x128x256_0_0_0_0, headOut x0 x1 x2 0 (i 2).val⟩] := by
  have hi : (i 2).val < 17 := (i 2).isLt
  have e := off17 (i 2)
  have o17 : k0_off17 i = ![(0 : Fin 4).val, (i 2).val, 0, 0] := congrArg (fun x => ![0, x, 0, 0]) e
  have o18 : k0_off18 i = ![(1 : Fin 4).val, (i 2).val, 0, 0] := congrArg (fun x => ![1, x, 0, 0]) e
  have o19 : k0_off19 i = ![(2 : Fin 4).val, (i 2).val, 0, 0] := congrArg (fun x => ![2, x, 0, 0]) e
  have o20 : k0_off20 i = ![(3 : Fin 4).val, (i 2).val, 0, 0] := congrArg (fun x => ![3, x, 0, 0]) e
  have q0 := ld_q harg3 x0 0 inb_S4x256x256_S1x256x256_0_0_0
  have q1 := ld_q harg3 x0 1 inb_S4x256x256_S1x256x256_1_0_0
  have q2 := ld_q harg3 x0 2 inb_S4x256x256_S1x256x256_2_0_0
  have q3 := ld_q harg3 x0 3 inb_S4x256x256_S1x256x256_3_0_0
  have p0 := ld_k harg4 x1 0 0 (by omega) ![0, 0, 0] rfl inb_S4x4352x256_S1x256x256_0_0_0
  have p1 := ld_k harg4 x1 1 0 (by omega) ![1, 0, 0] rfl inb_S4x4352x256_S1x256x256_1_0_0
  have p2 := ld_k harg4 x1 2 0 (by omega) ![2, 0, 0] rfl inb_S4x4352x256_S1x256x256_2_0_0
  have p3 := ld_k harg4 x1 3 0 (by omega) ![3, 0, 0] rfl inb_S4x4352x256_S1x256x256_3_0_0
  unfold kernelRun0_A
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15]
  rw [trips2 (i 2), st_k0_t2_zero]
  rw [trips1 (i 2)]
  rw [st_eq _ _ _ _ _ _ _ _ _ _ _ _ _ _ _ _ _ _ _ _ _ _ _ _ _ _ _ _ _ _ _ _ _ _ _ _ _ _ _ _ le_rfl]
  dsimp only
  rw [ld_v harg5 x2 0 (i 2).val hi _ o17, ld_v harg5 x2 1 (i 2).val hi _ o18, ld_v harg5 x2 2 (i 2).val hi _ o19, ld_v harg5 x2 3 (i 2).val hi _ o20]
  simp only [headOut, st0, ← q0, ← q1, ← q2, ← q3, ← p0, ← p1, ← p2, ← p3]
  rfl

/-- The block of outputs: head by head, what that head leaves. -/
theorem out_eq (c : Dev nD) (i : grid0.Coords) (arg3 : Memref sig .tc .vmem S4x256x256 .bf16) (harg3 : arg3.IsWhole) (arg4 : Memref sig .tc .vmem S4x4352x256 .bf16) (harg4 : arg4.IsWhole) (arg5 : Memref sig .tc .vmem S4x17x128x256 .bf16) (harg5 : arg5.IsWhole) (arg6 : Memref sig .tc .vmem S4x1x128x256 .f32) (harg6 : arg6.IsWhole)
    (x0 : Vec F S4x256x256 .bf16) (x1 : Vec F S4x4352x256 .bf16) (x2 : Vec F S4x17x128x256 .bf16) (y : S4x1x128x256.Idx) :
    out0_A_3 c i arg3 harg3 arg4 harg4 arg5 harg5 arg6 harg6 x0 x1 x2 y
      = headOut x0 x1 x2 (y 0) (i 2).val (ix4 (0 : Fin 1) (0 : Fin 1) (y 2) (y 3)) := by
  have hc := cover0_A_3 c i arg3 harg3 arg4 harg4 arg5 harg5 arg6 harg6 x0 x1 x2 y
  unfold out0_A_3
  rw [View.read_writes_junk_eq_canon]
  rw [pieces_eq] at hc ⊢
  refine View.canon_eq_of_allAt _ y _ hc ?_
  refine View.allAt_cons_unit _ _ _ _ _ ?_ (View.allAt_cons_unit _ _ _ _ _ ?_ (View.allAt_cons_unit _ _ _ _ _ ?_ (View.allAt_cons_unit _ _ _ _ _ ?_ (View.allAt_nil _ _))))
  all_goals
    intro x hx
    have h0 := hx 0
    have h1 := hx 1
    have h2 := hx 2
    have h3 := hx 3
    have hx0 : (x 0).val < 1 := (x 0).isLt
    have hx1 : (x 1).val < 1 := (x 1).isLt
    have e : x = ix4 (0 : Fin 1) (0 : Fin 1) (y 2) (y 3) := by
      funext a
      fin_cases a
      · exact Fin.ext (Nat.lt_one_iff.mp hx0)
      · exact Fin.ext (Nat.lt_one_iff.mp hx1)
      · exact Fin.ext (h2.trans (Nat.zero_add _)).symm
      · exact Fin.ext (h3.trans (Nat.zero_add _)).symm
    refine congr (congrArg (fun h : Fin 4 => headOut x0 x1 x2 h (i 2).val) (Fin.ext ?_)) e
    rw [h0]
    exact (congrArg (fun z => _ + z) (Nat.lt_one_iff.mp hx0)).symm

end Cert.Flash
-- ==== Proof.Online.lean ====
/- The running softmax, as mathematics: a maximum, a sum and a weighted sum carried over blocks and rescaled whenever
   the maximum grows give, divided at the end, the weighted mean with the weights `2 ^ score`. -/
module

public import Idealize.ShloMosaic.Lib.Pipeline.ValueKit

@[expose] public section

noncomputable section

namespace Cert.Online

open Idealize.ShloMosaic

/-- The weight of a score: `2 ^ score`, and 0 at `-∞`. -/
def w2 (x : EReal) : ℝ := (Ideal.exp2 x).toReal

/-- The weight of a natural score: `e ^ score`, and 0 at `-∞`. -/
def we (x : EReal) : ℝ := (Ideal.exp x).toReal

theorem w2_bot : w2 ⊥ = 0 := rfl
theorem we_bot : we ⊥ = 0 := rfl
theorem w2_coe (r : ℝ) : w2 (r : EReal) = (2 : ℝ) ^ r := rfl
theorem we_coe (r : ℝ) : we (r : EReal) = Real.exp r := rfl

theorem w2_nonneg (x : EReal) : 0 ≤ w2 x := by
  induction x with
  | bot => exact le_rfl
  | top => exact le_rfl
  | coe r => exact (Real.rpow_pos_of_pos two_pos r).le

theorem we_nonneg (x : EReal) : 0 ≤ we x := by
  induction x with
  | bot => exact le_rfl
  | top => exact le_rfl
  | coe r => exact (Real.exp_pos r).le

theorem w2_pos {x : EReal} (h : x ≠ ⊤) (h' : x ≠ ⊥) : 0 < w2 x := by
  induction x with
  | bot => exact absurd rfl h'
  | top => exact absurd rfl h
  | coe r => exact Real.rpow_pos_of_pos two_pos r

/-- The weight of a score less a real number. -/
theorem exp2_sub {x : EReal} (h : x ≠ ⊤) (m : ℝ) : Ideal.exp2 (x - (m : EReal)) = ((w2 x * (2 : ℝ) ^ (-m) : ℝ) : EReal) := by
  induction x with
  | bot => rw [w2_bot, zero_mul]; rfl
  | top => exact absurd rfl h
  | coe r =>
    rw [← EReal.coe_sub, w2_coe, ← Real.rpow_add two_pos, ← sub_eq_add_neg]
    rfl

theorem exp_sub {x : EReal} (h : x ≠ ⊤) (m : ℝ) : Ideal.exp (x - (m : EReal)) = ((we x * Real.exp (-m) : ℝ) : EReal) := by
  induction x with
  | bot => rw [we_bot, zero_mul]; rfl
  | top => exact absurd rfl h
  | coe r =>
    rw [← EReal.coe_sub, we_coe, ← Real.exp_add, ← sub_eq_add_neg]
    rfl

/-- A sum times a nonnegative real number, term by term, whatever infinities the sum holds. -/
theorem sum_mul_coe {ι : Type*} (S : Finset ι) (f : ι → EReal) {k : ℝ} (hk : 0 ≤ k) :
    (∑ i ∈ S, f i) * (k : EReal) = ∑ i ∈ S, f i * (k : EReal) := by
  classical
  induction S using Finset.induction_on with
  | empty => simp
  | insert a S ha ih =>
    rw [Finset.sum_insert ha, Finset.sum_insert ha, EReal.right_distrib_of_nonneg_of_ne_top (EReal.coe_nonneg.mpr hk) (EReal.coe_ne_top k), ih]

theorem coe_sum {ι : Type*} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- The maximum of finitely many scores none of which is `+∞` is not `+∞`. -/
theorem fold_ne_top {ι : Type*} (S : Finset ι) (f : ι → EReal) (h : ∀ i, f i ≠ ⊤) : S.fold max ⊥ f ≠ ⊤ := by
  classical
  induction S using Finset.induction_on with
  | empty => simp
  | insert a S ha ih =>
    rw [Finset.fold_insert ha]
    rcases max_choice (f a) (S.fold max ⊥ f) with e | e
    · rw [e]; exact h a
    · rw [e]; exact ih

theorem le_fold {ι : Type*} (S : Finset ι) (f : ι → EReal) {i : ι} (hi : i ∈ S) : f i ≤ S.fold max ⊥ f := by
  rw [Finset.le_fold_max]
  exact Or.inr ⟨i, hi, le_rfl⟩

theorem real_of {x : EReal} (h : x ≠ ⊤) (h' : x ≠ ⊥) : ∃ r : ℝ, x = (r : EReal) := by
  induction x with
  | bot => exact absurd rfl h'
  | top => exact absurd rfl h
  | coe r => exact ⟨r, rfl⟩

section Run

variable (s v : ℕ → Fin 256 → EReal)

/-- The running maximum after `n` blocks. -/
def mx : ℕ → EReal
  | 0 => ⊥
  | n + 1 => max (mx n) (Finset.univ.fold max ⊥ (s n))

/-- The running sum after `n` blocks. -/
def ls : ℕ → EReal
  | 0 => 0
  | n + 1 => Ideal.exp2 (mx s n - mx s (n + 1)) * ls n + ∑ r : Fin 256, Ideal.exp2 (s n r - mx s (n + 1))

/-- The running weighted sum after `n` blocks. -/
def av : ℕ → EReal
  | 0 => 0
  | n + 1 => Ideal.exp2 (mx s n - mx s (n + 1)) * av n + ∑ r : Fin 256, v n r * Ideal.exp2 (s n r - mx s (n + 1))

variable {s}

theorem mx_ne_top (hs : ∀ j r, s j r ≠ ⊤) : ∀ n, mx s n ≠ ⊤
  | 0 => bot_ne_top
  | n + 1 => by
    show max (mx s n) (Finset.univ.fold max ⊥ (s n)) ≠ ⊤
    rcases max_choice (mx s n) (Finset.univ.fold max ⊥ (s n)) with e | e
    · rw [e]; exact mx_ne_top hs n
    · rw [e]; exact fold_ne_top _ _ (hs n)

theorem mx_ne_bot (h0 : s 0 0 ≠ ⊥) : ∀ n, mx s (n + 1) ≠ ⊥
  | 0 => fun e => h0 (le_bot_iff.mp (((le_fold Finset.univ (s 0) (Finset.mem_univ 0)).trans (le_max_right _ _)).trans e.le))
  | n + 1 => fun e => mx_ne_bot h0 n (le_bot_iff.mp ((le_max_left _ _).trans e.le))

/-- The three carried numbers after `n` blocks read the first `n` blocks of scores only. -/
theorem run_congr {s' : ℕ → Fin 256 → EReal} : ∀ n, (∀ j, j < n → s j = s' j) → mx s n = mx s' n ∧ ls s n = ls s' n ∧ av s v n = av s' v n
  | 0, _ => ⟨rfl, rfl, rfl⟩
  | n + 1, h => by
    obtain ⟨h1, h2, h3⟩ := run_congr n fun j hj => h j (Nat.lt_succ_of_lt hj)
    have e := h n (Nat.lt_succ_self n)
    have hm : mx s (n + 1) = mx s' (n + 1) := by
      show max _ _ = max _ _
      rw [h1, e]
    refine ⟨hm, ?_, ?_⟩
    · show Ideal.exp2 (mx s n - mx s (n + 1)) * ls s n + _ = Ideal.exp2 (mx s' n - mx s' (n + 1)) * ls s' n + _
      rw [h1, h2, hm, e]
    · show Ideal.exp2 (mx s n - mx s (n + 1)) * av s v n + _ = Ideal.exp2 (mx s' n - mx s' (n + 1)) * av s' v n + _
      rw [h1, h3, hm, e]

/-- What the three carried numbers are after `n + 1` blocks: with `m` the maximum, the sum and the weighted sum are
    those with the weights `2 ^ score`, times `2 ^ (-m)`. -/
theorem run_eq (hs : ∀ j r, s j r ≠ ⊤) (h0 : s 0 0 ≠ ⊥) : ∀ n, ∃ m : ℝ, mx s (n + 1) = (m : EReal)
    ∧ ls s (n + 1) = (((∑ j ∈ Finset.range (n + 1), ∑ r : Fin 256, w2 (s j r)) * (2 : ℝ) ^ (-m) : ℝ) : EReal)
    ∧ av s v (n + 1) = (∑ j ∈ Finset.range (n + 1), ∑ r : Fin 256, v j r * ((w2 (s j r) : ℝ) : EReal)) * (((2 : ℝ) ^ (-m) : ℝ) : EReal) := by
  have key : ∀ (n : ℕ) (m : ℝ), mx s (n + 1) = (m : EReal) →
      (∑ r : Fin 256, Ideal.exp2 (s n r - mx s (n + 1))) = (((∑ r : Fin 256, w2 (s n r)) * (2 : ℝ) ^ (-m) : ℝ) : EReal)
      ∧ (∑ r : Fin 256, v n r * Ideal.exp2 (s n r - mx s (n + 1))) = (∑ r : Fin 256, v n r * ((w2 (s n r) : ℝ) : EReal)) * (((2 : ℝ) ^ (-m) : ℝ) : EReal) := by
    intro n m hm
    rw [hm]
    constructor
    · rw [Finset.sum_mul, coe_sum]
      exact Finset.sum_congr rfl fun r _ => exp2_sub (hs n r) m
    · rw [sum_mul_coe _ _ (Real.rpow_pos_of_pos two_pos _).le]
      refine Finset.sum_congr rfl fun r _ => ?_
      rw [exp2_sub (hs n r) m, EReal.coe_mul, mul_assoc]
  intro n
  induction n with
  | zero =>
    obtain ⟨m, hm⟩ := real_of (mx_ne_top hs 1) (mx_ne_bot h0 0)
    obtain ⟨k1, k2⟩ := key 0 m hm
    refine ⟨m, hm, ?_, ?_⟩
    · show Ideal.exp2 _ * 0 + _ = _
      rw [mul_zero, zero_add, k1, zero_add, Finset.sum_range_one]
    · show Ideal.exp2 _ * 0 + _ = _
      rw [mul_zero, zero_add, k2, zero_add, Finset.sum_range_one]
  | succ n ih =>
    obtain ⟨m, hm, hl, ha⟩ := ih
    obtain ⟨m', hm'⟩ := real_of (mx_ne_top hs (n + 2)) (mx_ne_bot h0 (n + 1))
    obtain ⟨k1, k2⟩ := key (n + 1) m' hm'
    have e : Ideal.exp2 (mx s (n + 1) - mx s (n + 2)) = (((2 : ℝ) ^ (m - m') : ℝ) : EReal) := by
      rw [hm, hm', ← EReal.coe_sub]; rfl
    have e2 : (2 : ℝ) ^ (m - m') * (2 : ℝ) ^ (-m) = (2 : ℝ) ^ (-m') := by
      rw [← Real.rpow_add two_pos]; congr 1; ring
    refine ⟨m', hm', ?_, ?_⟩
    · show Ideal.exp2 (mx s (n + 1) - mx s (n + 2)) * ls s (n + 1) + _ = _
      rw [k1, e, hl, Finset.sum_range_succ _ (n + 1), ← EReal.coe_mul, ← EReal.coe_add, EReal.coe_eq_coe_iff, ← e2]
      ring
    · show Ideal.exp2 (mx s (n + 1) - mx s (n + 2)) * av s v (n + 1) + _ = _
      rw [k2, e, ha, Finset.sum_range_succ _ (n + 1), mul_left_comm, ← EReal.coe_mul, e2,
        EReal.right_distrib_of_nonneg_of_ne_top (EReal.coe_nonneg.mpr (Real.rpow_pos_of_pos two_pos _).le) (EReal.coe_ne_top _)]

/-- The quotient of the two sums after `n + 1` blocks is the mean with the weights `2 ^ score`. -/
theorem online (hs : ∀ j r, s j r ≠ ⊤) (h0 : s 0 0 ≠ ⊥) (n : ℕ) :
    Ideal.div (av s v (n + 1)) (ls s (n + 1))
      = (∑ j ∈ Finset.range (n + 1), ∑ r : Fin 256, v j r * ((w2 (s j r) : ℝ) : EReal))
        * (((∑ j ∈ Finset.range (n + 1), ∑ r : Fin 256, w2 (s j r))⁻¹ : ℝ) : EReal) := by
  obtain ⟨m, -, hl, ha⟩ := run_eq v hs h0 n
  have hL : 0 < ∑ j ∈ Finset.range (n + 1), ∑ r : Fin 256, w2 (s j r) := by
    refine lt_of_lt_of_le (w2_pos (hs 0 0) h0) ?_
    refine le_trans (Finset.single_le_sum (f := fun r => w2 (s 0 r)) (fun r _ => w2_nonneg _) (Finset.mem_univ 0)) ?_
    exact Finset.single_le_sum (f := fun j => ∑ r : Fin 256, w2 (s j r)) (fun j _ => Finset.sum_nonneg fun r _ => w2_nonneg _)
      (Finset.mem_range.mpr (Nat.succ_pos n))
  have hK : (0 : ℝ) < (2 : ℝ) ^ (-m) := Real.rpow_pos_of_pos two_pos _
  rw [ha, hl, Ideal.div, if_neg (by rw [EReal.coe_eq_zero]; exact (mul_pos hL hK).ne'), ← EReal.coe_inv, mul_assoc, ← EReal.coe_mul]
  congr 2
  field_simp

end Run

/-- The softmax with its maximum taken out, as a weighted mean: with the weights `e ^ score` over finitely many keys, one
    of them visible. -/
theorem softmax_mean {ι : Type*} [Fintype ι] (S v : ι → EReal) (hS : ∀ t, S t ≠ ⊤) (t0 : ι) (h0 : S t0 ≠ ⊥) (M : EReal)
    (hM : M = max ⊥ (Finset.univ.fold max ⊥ S)) :
    (∑ t, v t * Ideal.div (Ideal.exp (S t - M)) (∑ u, Ideal.exp (S u - M)))
      = (∑ t, v t * ((we (S t) : ℝ) : EReal)) * (((∑ t, we (S t))⁻¹ : ℝ) : EReal) := by
  have h1 : M ≠ ⊤ := by rw [hM, max_eq_right bot_le]; exact fold_ne_top _ _ hS
  have h2 : M ≠ ⊥ := by
    rw [hM, max_eq_right bot_le]
    exact fun e => h0 (le_bot_iff.mp ((le_fold Finset.univ S (Finset.mem_univ t0)).trans e.le))
  obtain ⟨m, hm⟩ := real_of h1 h2
  have hp : 0 < we (S t0) := by
    obtain ⟨r, hr⟩ := real_of (hS t0) h0
    rw [hr]; exact Real.exp_pos r
  have hL : 0 < ∑ t, we (S t) :=
    lt_of_lt_of_le hp (Finset.single_le_sum (f := fun t => we (S t)) (fun t _ => we_nonneg _) (Finset.mem_univ t0))
  have hK : (0 : ℝ) < Real.exp (-m) := Real.exp_pos _
  have hsum : (∑ u, Ideal.exp (S u - M)) = (((∑ t, we (S t)) * Real.exp (-m) : ℝ) : EReal) := by
    rw [Finset.sum_mul, coe_sum, hm]
    exact Finset.sum_congr rfl fun t _ => exp_sub (hS t) m
  rw [hsum, sum_mul_coe _ _ (inv_pos.mpr hL).le]
  refine Finset.sum_congr rfl fun t _ => ?_
  rw [hm, exp_sub (hS t) m, Ideal.div, if_neg (by rw [EReal.coe_eq_zero]; exact (mul_pos hL hK).ne'), ← EReal.coe_inv, ← EReal.coe_mul, mul_assoc (v t), ← EReal.coe_mul]
  congr 2
  field_simp

/-- A sum over the first `n` blocks of 256 is the sum over the first `256 n`. -/
theorem sum_blocks {M : Type*} [AddCommMonoid M] (f : ℕ → M) : ∀ n : ℕ, (∑ j ∈ Finset.range n, ∑ r : Fin 256, f (256 * j + r.val)) = ∑ t ∈ Finset.range (256 * n), f t
  | 0 => by simp
  | n + 1 => by
    rw [Finset.sum_range_succ, sum_blocks f n, Nat.mul_succ, Finset.sum_range_add, Finset.sum_range (fun x => f (256 * n + x))]

/-- Two initial stretches of a sequence that is 0 past both have one sum. -/
theorem sum_range_eq {M : Type*} [AddCommMonoid M] (f : ℕ → M) (p a b : ℕ) (ha : p < a) (hb : p < b) (h : ∀ t, p < t → f t = 0) :
    (∑ t ∈ Finset.range a, f t) = ∑ t ∈ Finset.range b, f t := by
  have k : ∀ a, p < a → (∑ t ∈ Finset.range (p + 1), f t) = ∑ t ∈ Finset.range a, f t := fun a ha =>
    Finset.sum_subset (Finset.range_subset_range.mpr ha) fun t _ ht => h t (by simpa using ht)
  rw [← k a ha, k b hb]

end Cert.Online
-- ==== Proof.FlashPoint.lean ====
/- One block step of the attention kernel read at an index, over the extended reals. -/
module

public import proofs.«01_k».proof.Proof.FlashOut
public import proofs.«01_k».proof.Proof.Online

@[expose] public section

set_option maxRecDepth 16384

noncomputable section

namespace Cert.Flash

open Cert.KernelIdeal Cert.KernelIdeal.Gen Idealize.ShloMosaic Idealize.ShloMosaic.TcCoe Idealize.SL.Sem

theorem pay1_at (k q : Vec Ideal S1x256x256 .bf16) (r c : Fin 256) :
    k0_pay1 k q (ix2 r c) = ∑ e : Fin 256, k (ix3 (0 : Fin 1) r e) * q (ix3 (0 : Fin 1) c e) := by
  pointwise [k0_pay1]

theorem ninf : Ideal.ofBits FTy.f32 0xFF800000#32 = ⊥ := by simp [Ideal.ofBits, Ideal.ieee]

theorem pay2_at (S : FVec Ideal S256x256 .f32) (m : FVec Ideal S1x256 .f32) (c : Fin 256) :
    k0_pay2 S m (ix2 (0 : Fin 1) c) = max (m (ix2 (0 : Fin 1) c)) (Finset.univ.fold max ⊥ fun r : Fin 256 => S (ix2 r c)) := by
  pointwise [k0_pay2]
  rw [ninf]

theorem pay5_at (S : FVec Ideal S256x256 .f32) (m l : FVec Ideal S1x256 .f32) (c : Fin 256) :
    k0_pay5 S m l (ix2 (0 : Fin 1) c) = Ideal.exp2 (m (ix2 (0 : Fin 1) c) - k0_pay2 S m (ix2 (0 : Fin 1) c)) * l (ix2 (0 : Fin 1) c)
      + ∑ r : Fin 256, Ideal.exp2 (S (ix2 r c) - k0_pay2 S m (ix2 (0 : Fin 1) c)) := by
  pointwise [k0_pay5, k0_pay4, k0_pay3]
  rfl

theorem pay6_at (S : FVec Ideal S256x256 .f32) (m : FVec Ideal S1x256 .f32) (a : FVec Ideal S128x256 .f32) (v : Vec Ideal S1x1x128x256 .bf16) (d : Fin 128) (c : Fin 256) :
    k0_pay6 S m a v (ix2 d c) = Ideal.exp2 (m (ix2 (0 : Fin 1) c) - k0_pay2 S m (ix2 (0 : Fin 1) c)) * a (ix2 d c)
      + ∑ r : Fin 256, v (ix4 (0 : Fin 1) (0 : Fin 1) d r) * Ideal.exp2 (S (ix2 r c) - k0_pay2 S m (ix2 (0 : Fin 1) c)) := by
  pointwise [k0_pay6, k0_pay4, k0_pay3]
  rfl

theorem pay41_at (c : Fin 256) : k0_pay41 (F := Ideal) (ix2 (0 : Fin 1) c) = ⊥ := ninf
theorem pay42_at (c : Fin 256) : k0_pay42 (F := Ideal) (ix2 (0 : Fin 1) c) = 0 := by
  pointwise [k0_pay42]
theorem pay43_at (d : Fin 128) (c : Fin 256) : k0_pay43 (F := Ideal) (ix2 d c) = 0 := by
  pointwise [k0_pay43]

/-- The scores of the block on the diagonal, a key after its query masked. -/
def maskS (S : FVec Ideal S256x256 .f32) : FVec Ideal S256x256 .f32 :=
  select (cmpi .sle (iota .tc S256x256 32 [0] iota_S256x256_d0_w32) (iota .tc S256x256 32 [1] iota_S256x256_d1_w32)) S (broadcast S256x256 (Named.named κ "mask" 0xF149F2CA#32))

theorem maskS_at (S : FVec Ideal S256x256 .f32) (r c : Fin 256) : maskS S (ix2 r c) = if r ≤ c then S (ix2 r c) else ⊥ := by
  pointwise [maskS]
  rw [WordCmp.cmpi_sle_ofNat (by have := r.isLt; omega) (by have := c.isLt; omega), show Named.named (F := Ideal) (φ := .f32) κ "mask" 0xF149F2CA#32 = ⊥ from IdealRules.named_const.ideal_named_scalar κ "mask" (φ := .f32) _ _ rfl]
  by_cases h : r ≤ c
  · simp [h, Scalar.select]
  · simp [h, Scalar.select]

theorem pay63_at (S : FVec Ideal S256x256 .f32) (m l : FVec Ideal S1x256 .f32) (a : FVec Ideal S128x256 .f32) (v : Vec Ideal S1x1x128x256 .bf16) (d : Fin 128) (c : Fin 256) :
    k0_pay63 S m l a v (ix4 (0 : Fin 1) (0 : Fin 1) d c) = Ideal.div (k0_pay6 (maskS S) m a v (ix2 d c)) (k0_pay5 (maskS S) m l (ix2 (0 : Fin 1) c)) := by
  have e : k0_pay63 S m l a v = shapeCast S1x1x128x256 (divf (k0_pay6 (maskS S) m a v) (broadcastTo S128x256 (k0_pay5 (maskS S) m l) broadcasts_S1x256_S128x256)) shapeCasts_S128x256_S1x1x128x256 := rfl
  rw [e]
  pointwise []

open Online

/-- The scores of one query column, block by block. -/
def raw (x0 : Vec Ideal S4x256x256 .bf16) (x1 : Vec Ideal S4x4352x256 .bf16) (h : Fin 4) (c : Fin 256) (j : ℕ) (r : Fin 256) : EReal :=
  ∑ e : Fin 256, x1 (ix3 h ⟨(256 * j + r.val) % 4352, Nat.mod_lt _ (by decide)⟩ e) * x0 (ix3 h c e)

/-- The values of one value column, block by block. -/
def vals (x2 : Vec Ideal S4x17x128x256 .bf16) (h : Fin 4) (d : Fin 128) (j : ℕ) (r : Fin 256) : EReal :=
  x2 (ix4 h ⟨j % 17, Nat.mod_lt _ (by decide)⟩ d r)

theorem score_at (x0 : Vec Ideal S4x256x256 .bf16) (x1 : Vec Ideal S4x4352x256 .bf16) (h : Fin 4) (j : ℕ) (r c : Fin 256) :
    k0_pay1 (kb x1 h j) (qb x0 h) (ix2 r c) = raw x0 x1 h c j r := (pay1_at _ _ r c).trans rfl

/-- One head's state before trip `n`, at a query column and a value column: the running maximum, sum and weighted sum. -/
theorem hst_at (x0 : Vec Ideal S4x256x256 .bf16) (x1 : Vec Ideal S4x4352x256 .bf16) (x2 : Vec Ideal S4x17x128x256 .bf16) (h : Fin 4)
    (c : Fin 256) (d : Fin 128) : ∀ n : ℕ,
    (∀ r, (hst x0 x1 x2 h (st0 x0 x1 h) n).1 (ix2 r c) = raw x0 x1 h c n r)
    ∧ (hst x0 x1 x2 h (st0 x0 x1 h) n).2.1 (ix2 (0 : Fin 1) c) = mx (raw x0 x1 h c) n
    ∧ (hst x0 x1 x2 h (st0 x0 x1 h) n).2.2.1 (ix2 (0 : Fin 1) c) = ls (raw x0 x1 h c) n
    ∧ (hst x0 x1 x2 h (st0 x0 x1 h) n).2.2.2 (ix2 d c) = av (raw x0 x1 h c) (vals x2 h d) n
  | 0 => ⟨fun r => score_at x0 x1 h 0 r c, pay41_at c, pay42_at c, pay43_at d c⟩
  | n + 1 => by
    obtain ⟨h1, h2, h3, h4⟩ := hst_at x0 x1 x2 h c d n
    have hm : k0_pay2 (hst x0 x1 x2 h (st0 x0 x1 h) n).1 (hst x0 x1 x2 h (st0 x0 x1 h) n).2.1 (ix2 (0 : Fin 1) c) = mx (raw x0 x1 h c) (n + 1) := by
      rw [pay2_at, h2]
      simp only [h1]
      rfl
    refine ⟨fun r => score_at x0 x1 h (n + 1) r c, hm, ?_, ?_⟩
    · refine (pay5_at _ _ _ c).trans ?_
      rw [hm, h2, h3]
      simp only [h1]
      rfl
    · refine (pay6_at _ _ _ _ d c).trans ?_
      rw [hm, h2, h4]
      simp only [h1]
      rfl

/-- The scores of one query column of block `n` of queries, the keys after the query masked in block `n` of keys. -/
def msk (s : ℕ → Fin 256 → EReal) (n : ℕ) (c : Fin 256) (j : ℕ) (r : Fin 256) : EReal :=
  if j < n then s j r else if r ≤ c then s j r else ⊥

/-- What a head leaves at a query column and a value column: the quotient of the two running sums. -/
theorem headOut_at (x0 : Vec Ideal S4x256x256 .bf16) (x1 : Vec Ideal S4x4352x256 .bf16) (x2 : Vec Ideal S4x17x128x256 .bf16) (h : Fin 4)
    (n : ℕ) (c : Fin 256) (d : Fin 128) :
    headOut x0 x1 x2 h n (ix4 (0 : Fin 1) (0 : Fin 1) d c)
      = Ideal.div (av (msk (raw x0 x1 h c) n c) (vals x2 h d) (n + 1)) (ls (msk (raw x0 x1 h c) n c) (n + 1)) := by
  obtain ⟨h1, h2, h3, h4⟩ := hst_at x0 x1 x2 h c d n
  obtain ⟨c2, c3, c4⟩ := run_congr (s := raw x0 x1 h c) (s' := msk (raw x0 x1 h c) n c) (vals x2 h d) n (fun j hj => funext fun r => (if_pos hj).symm)
  rw [c2] at h2
  rw [c3] at h3
  rw [c4] at h4
  have hS : ∀ r, maskS (hst x0 x1 x2 h (st0 x0 x1 h) n).1 (ix2 r c) = msk (raw x0 x1 h c) n c n r := by
    intro r
    rw [maskS_at, h1, msk, if_neg (lt_irrefl n)]
  have hm : k0_pay2 (maskS (hst x0 x1 x2 h (st0 x0 x1 h) n).1) (hst x0 x1 x2 h (st0 x0 x1 h) n).2.1 (ix2 (0 : Fin 1) c)
      = mx (msk (raw x0 x1 h c) n c) (n + 1) := by
    rw [pay2_at, h2]
    simp only [hS]
    rfl
  unfold headOut finv
  rw [pay63_at, pay6_at, pay5_at, hm, h2, h3, h4]
  simp only [hS]
  rfl

end Cert.Flash
-- ==== Proof.FlashArr.lean ====
/- The array the attention kernel writes, entry by entry, from the arrays it is launched on. -/
module

public import proofs.«01_k».proof.Proof.FlashPoint
public import Idealize.ShloMosaic.Lib.StableHlo.ReadAt

@[expose] public section

set_option maxRecDepth 16384

noncomputable section

namespace Cert.Flash

open Cert.KernelIdeal Cert.KernelIdeal.Gen Idealize.ShloMosaic Idealize.ShloMosaic.TcCoe Idealize.SL.Sem

variable (m : (ℓ : Loc nD τ sig) → Buf (Elt Ideal) ℓ)
open Online

theorem idx : ∀ t : Fin cfg0.N, win0_0.index t = ![t.val / 17 % 2, t.val / 34 * 17 + t.val % 17, 0] ∧ win0_1.index t = ![t.val / 17 % 2, t.val / 34, 0]
    ∧ win0_2.index t = ![t.val / 17 % 2, t.val / 34, 0, 0] ∧ win0_3.index t = ![t.val / 17 % 2, t.val / 34 * 17 + t.val % 17, 0, 0]
    ∧ (grid0.coords t 2).val = t.val % 17 :=
  (by decide +kernel : ∀ t : Fin grid0.N, _)

/-- The three arrays the kernel is launched on, as plain functions. -/
def aq (c : Dev nD) : S8x8704x256.Idx → EReal := V m c main_v12
def ak (c : Dev nD) : S8x8704x256.Idx → EReal := V m c main_v16
def av' (c : Dev nD) : S8x34x128x256.Idx → EReal := V m c main_v3

/-- The scores of a query, block by block: of head `h`, block `p` of queries (17 to a batch row), query `cc` of it. -/
def rawA (c : Dev nD) (h : Fin 8) (p : Fin 34) (cc : Fin 256) (j : ℕ) (r : Fin 256) : EReal :=
  ∑ e : Fin 256, ak m c (ix3 h ⟨p.val / 17 * 4352 + (256 * j + r.val) % 4352, by have := p.isLt; have := Nat.mod_lt (256 * j + r.val) (show 0 < 4352 by decide); omega⟩ e)
    * aq m c (ix3 h ⟨p.val * 256 + cc.val, by have := p.isLt; have := cc.isLt; omega⟩ e)

/-- The values of a value column, block by block. -/
def valsA (c : Dev nD) (h : Fin 8) (p : Fin 34) (d : Fin 128) (j : ℕ) (r : Fin 256) : EReal :=
  av' m c (ix4 h ⟨p.val / 17 * 17 + j % 17, by have := p.isLt; have := Nat.mod_lt j (show 0 < 17 by decide); omega⟩ d r)

/-- One entry of the array the kernel writes. -/
def outA (c : Dev nD) (h : Fin 8) (p : Fin 34) (d : Fin 128) (cc : Fin 256) : EReal :=
  Ideal.div (av (msk (rawA m c h p cc) (p.val % 17) cc) (valsA m c h p d) (p.val % 17 + 1)) (ls (msk (rawA m c h p cc) (p.val % 17) cc) (p.val % 17 + 1))

theorem V_heq (c : Dev nD) : ∀ {r r' : Ref sig .tc}, r = r' → HEq (V m c r) (V m c r')
  | _, _, rfl => HEq.rfl

theorem V_0 (c : Dev nD) : (show S8x8704x256.Idx → EReal from V m c (Pipeline.arrRef spec0 0)) = aq m c :=
  eq_of_heq (V_heq m c (show Pipeline.arrRef spec0 0 = main_v12 from rfl))

theorem iq (c : Dev nD) (t : Fin cfg0.N) (h : Fin 4) (r : Fin 256) (e : Fin 256) (h' : Fin 8) (p : Fin 8704) (hh : h'.val = t.val / 17 % 2 * 4 + h.val)
    (hp : p.val = (t.val / 34 * 17 + t.val % 17) * 256 + r.val) : iblk m c 0 t (ix3 h r e) = aq m c (ix3 h' p e) := by
  obtain ⟨i0, i1, i2, i3, i4⟩ := idx t
  have key : ∀ X : Buf (Elt Ideal) ((c : Thread nD τ).loc (Pipeline.arrRef spec0 0)),
      ((cfg0.win 0).blk t).view.read (Elt Ideal) X (ix3 h r e) = (show S8x8704x256.Idx → EReal from X) (ix3 h' p e) := by
    intro X
    have key' : ∀ Y : S8x8704x256.Idx → EReal, Y (((cfg0.win 0).blk t).view.emb (ix3 h r e)) = Y (ix3 h' p e) := by
      intro Y
      congr 1
      blk_ext [i0]
    exact key' X
  unfold iblk
  refine (key _).trans ?_
  exact congrFun (V_0 m c) (ix3 h' p e)

theorem V_1 (c : Dev nD) : (show S8x8704x256.Idx → EReal from V m c (Pipeline.arrRef spec0 1)) = ak m c :=
  eq_of_heq (V_heq m c (show Pipeline.arrRef spec0 1 = main_v16 from rfl))

theorem ik (c : Dev nD) (t : Fin cfg0.N) (h : Fin 4) (r : Fin 4352) (e : Fin 256) (h' : Fin 8) (p : Fin 8704) (hh : h'.val = t.val / 17 % 2 * 4 + h.val)
    (hp : p.val = t.val / 34 * 4352 + r.val) : iblk m c 1 t (ix3 h r e) = ak m c (ix3 h' p e) := by
  obtain ⟨i0, i1, i2, i3, i4⟩ := idx t
  have key : ∀ X : Buf (Elt Ideal) ((c : Thread nD τ).loc (Pipeline.arrRef spec0 1)),
      ((cfg0.win 1).blk t).view.read (Elt Ideal) X (ix3 h r e) = (show S8x8704x256.Idx → EReal from X) (ix3 h' p e) := by
    intro X
    have key' : ∀ Y : S8x8704x256.Idx → EReal, Y (((cfg0.win 1).blk t).view.emb (ix3 h r e)) = Y (ix3 h' p e) := by
      intro Y
      congr 1
      blk_ext [i1]
    exact key' X
  unfold iblk
  refine (key _).trans ?_
  exact congrFun (V_1 m c) (ix3 h' p e)

theorem V_2 (c : Dev nD) : (show S8x34x128x256.Idx → EReal from V m c (Pipeline.arrRef spec0 2)) = av' m c :=
  eq_of_heq (V_heq m c (show Pipeline.arrRef spec0 2 = main_v3 from rfl))

theorem iv (c : Dev nD) (t : Fin cfg0.N) (h : Fin 4) (r : Fin 17) (d : Fin 128) (e : Fin 256) (h' : Fin 8) (p : Fin 34) (hh : h'.val = t.val / 17 % 2 * 4 + h.val)
    (hp : p.val = t.val / 34 * 17 + r.val) : iblk m c 2 t (ix4 h r d e) = av' m c (ix4 h' p d e) := by
  obtain ⟨i0, i1, i2, i3, i4⟩ := idx t
  have key : ∀ X : Buf (Elt Ideal) ((c : Thread nD τ).loc (Pipeline.arrRef spec0 2)),
      ((cfg0.win 2).blk t).view.read (Elt Ideal) X (ix4 h r d e) = (show S8x34x128x256.Idx → EReal from X) (ix4 h' p d e) := by
    intro X
    have key' : ∀ Y : S8x34x128x256.Idx → EReal, Y (((cfg0.win 2).blk t).view.emb (ix4 h r d e)) = Y (ix4 h' p d e) := by
      intro Y
      congr 1
      blk_ext [i2]
    exact key' X
  unfold iblk
  refine (key _).trans ?_
  exact congrFun (V_2 m c) (ix4 h' p d e)

/-- What head `h` leaves at a point, as an entry of the array. -/
theorem head_eq (c : Dev nD) (t : Fin cfg0.N) (h : Fin 4) (d : Fin 128) (cc : Fin 256) (h' : Fin 8) (p : Fin 34) (hh : h'.val = t.val / 17 % 2 * 4 + h.val)
    (hp : p.val = t.val / 34 * 17 + t.val % 17) :
    headOut (iblk m c 0 t) (iblk m c 1 t) (iblk m c 2 t) h (grid0.coords t 2).val (ix4 (0 : Fin 1) (0 : Fin 1) d cc) = outA m c h' p d cc := by
  obtain ⟨i0, i1, i2, i3, i4⟩ := idx t
  have e1 : p.val / 17 = t.val / 34 := by omega
  have e2 : p.val % 17 = t.val % 17 := by omega
  have hr : raw (iblk m c 0 t) (iblk m c 1 t) h cc = rawA m c h' p cc := by
    funext j r
    unfold raw rawA
    refine Finset.sum_congr rfl fun e _ => ?_
    exact congrArg₂ (· * ·) (ik m c t h _ e h' _ hh (by show p.val / 17 * 4352 + _ = _; rw [e1])) (iq m c t h cc e h' _ hh (by show p.val * 256 + _ = _; rw [hp]))
  have hv : vals (iblk m c 2 t) h d = valsA m c h' p d := by
    funext j r
    exact iv m c t h _ d r h' _ hh (by show p.val / 17 * 17 + _ = _; rw [e1])
  rw [headOut_at, hr, hv, i4, outA, e2]

theorem arr_eq (c : Dev nD) : (dats m 0 c).arrAt 3 cfg0.N = fun y : S8x34x128x256.Idx => outA m c (y 0) (y 1) (y 2) (y 3) := by
  refine (dats m 0 c).arrAt_eq_of_covers 3 _ (by decide +kernel) fun t _ y => ?_
  blk_simp
  rw [after0_3]
  obtain ⟨i0, i1, i2, i3, i4⟩ := idx t
  have e0 : ((win0_3.blk t).view.emb y 0).val = t.val / 17 % 2 * 4 + (y 0).val := by blk_simp [i3]
  have e1 : ((win0_3.blk t).view.emb y 1).val = t.val / 34 * 17 + t.val % 17 := by blk_simp [i3]
  have e2 : (win0_3.blk t).view.emb y 2 = y 2 := Fin.ext (by blk_simp [i3])
  have e3 : (win0_3.blk t).view.emb y 3 = y 3 := Fin.ext (by blk_simp [i3])
  refine (out_eq c (grid0.coords t) _ _ _ _ _ _ _ _ (iblk m c 0 t) (iblk m c 1 t) (iblk m c 2 t) y).trans ?_
  refine (head_eq m c t (y 0) (y 2) (y 3) ((win0_3.blk t).view.emb y 0) ((win0_3.blk t).view.emb y 1) e0 e1).trans ?_
  rw [e2, e3]

end Cert.Flash
-- ==== Proof.FlashEntry.lean ====
/- The arrays the attention kernel is launched on, entry by entry, from the arguments, and the result, entry by entry, from
   the array the kernel writes. -/
module

public import proofs.«01_k».proof.Proof.FlashArr
public import Idealize.ShloMosaic.Lib.StableHlo.ReadAt

@[expose] public section

set_option maxRecDepth 16384

noncomputable section

namespace Cert.Flash

open Cert.KernelIdeal Cert.KernelIdeal.Gen Idealize.ShloMosaic Idealize.ShloMosaic.TcCoe Idealize.SL.Sem

variable (m : (ℓ : Loc nD τ sig) → Buf (Elt Ideal) ℓ)
open Online

/-- The three arguments, as plain functions. -/
def argQ (c : Dev nD) : S2x4112x8x192.Idx → EReal := m ((c : Thread nD τ).loc main_arg0)
def argK (c : Dev nD) : S2x4112x8x192.Idx → EReal := m ((c : Thread nD τ).loc main_arg1)
def argV (c : Dev nD) : S2x4112x8x128.Idx → EReal := m ((c : Thread nD τ).loc main_arg2)

/-- The factor the queries are scaled by: `1 / (√192 · ln 2)`. -/
def scaleK : EReal := Ideal.div (Ideal.rsqrt (Ideal.ofBits FTy.f32 0x43400000#32)) (Ideal.log (Ideal.ofBits FTy.f32 0x40000000#32))

theorem sitofp_zero : (FloatOps.sitofp FTy.f32 (0#32 : BitVec 32) : Ideal .f32) = (0 : EReal) := by
  show (((0#32 : BitVec 32).toInt : ℝ) : EReal) = 0
  simp

theorem aq_at (c : Dev nD) (h : Fin 8) (p : Fin 8704) (e : Fin 256) :
    aq m c (ix3 h p e) = if h' : p.val / 4352 < 2 ∧ p.val % 4352 < 4112 ∧ e.val < 192 then
      argQ m c (ix4 ⟨p.val / 4352, h'.1⟩ ⟨p.val % 4352, h'.2.1⟩ h ⟨e.val, h'.2.2⟩) * scaleK else 0 := by
  rw [← sitofp_zero]
  unfold aq V argQ scaleK
  after_reads_at

theorem ak_at (c : Dev nD) (h : Fin 8) (p : Fin 8704) (e : Fin 256) :
    ak m c (ix3 h p e) = if h' : p.val / 4352 < 2 ∧ p.val % 4352 < 4112 ∧ e.val < 192 then
      argK m c (ix4 ⟨p.val / 4352, h'.1⟩ ⟨p.val % 4352, h'.2.1⟩ h ⟨e.val, h'.2.2⟩) else 0 := by
  rw [← sitofp_zero]
  unfold ak V argK
  after_reads_at

theorem av_at (c : Dev nD) (h : Fin 8) (p : Fin 34) (d : Fin 128) (e : Fin 256) :
    av' m c (ix4 h p d e) = if h' : p.val / 17 < 2 ∧ p.val % 17 * 256 + e.val < 4112 then
      argV m c (ix4 ⟨p.val / 17, h'.1⟩ ⟨p.val % 17 * 256 + e.val, h'.2⟩ h d) else 0 := by
  rw [← sitofp_zero]
  unfold av' V argV
  after_reads_at

/-- The result, as a plain function. -/
def res (c : Dev nD) : S2x4112x8x128.Idx → EReal := Pipeline.afterTail₀ cfgs (dats m) 0 (V0 m) [hostOps1] c main_v21

theorem res_at (c : Dev nD) (b : Fin 2) (t : Fin 4112) (h : Fin 8) (d : Fin 128) :
    res m c (ix4 b t h d) = outA m c h ⟨b.val * 17 + t.val / 256, by have := b.isLt; have := t.isLt; omega⟩ d ⟨t.val % 256, Nat.mod_lt _ (by decide)⟩ := by
  unfold res Pipeline.afterTail₀
  generalize hW : Pipeline.withArrays _ _ _ _ = W
  after_reads_at
  have e : W (Proc.tc.devRef main_v17) = (dats m 0 c).arrAt 3 cfg0.N := by
    rw [← hW]
    exact Pipeline.withArrays_arr (cfgs 0).spec launch0.win.arr_inj c (V0 m c) _ 3
  exact (congrFun (e.trans (arr_eq m c)) _)

end Cert.Flash
-- ==== Proof.FlashRef.lean ====
/- The attention reference read at one index: the values averaged with the weights `e ^ score` of the keys up to the query. -/
module

public import proofs.«01_k».proof.Proof.Gen.ReferenceIdeal.Run
public import proofs.«01_k».proof.Proof.Online
public import Idealize.ShloMosaic.Lib.WordCmp

@[expose] public section

set_option maxRecDepth 16384

noncomputable section

namespace Cert.RefSide

open Cert.Online Cert.ReferenceIdeal Cert.ReferenceIdeal.Gen Idealize.ShloMosaic Idealize.ShloMosaic.TcCoe Idealize.SL.Sem

/-- The causal scores of every query and key: minus infinity where the key comes after the query. -/
def sc (q k : S2x4112x8x192.Idx → EReal) : S2x8x4112x4112.Idx → EReal :=
  (select (α := Ideal .f32) (broadcastInDim S2x8x4112x4112 ![2, 3] bcast_S4112x4112_S2x8x4112x4112_2_3 (cmpi .sle (broadcastInDim S4112x4112 ![0, 1] bcast_S1x4112_S4112x4112_0_1 (broadcastInDim S1x4112 ![1] bcast_S4112_S1x4112_1 (iotaInDim S4112 32 0))) (broadcastInDim S4112x4112 ![0, 1] bcast_S4112x1_S4112x4112_0_1 (broadcastInDim S4112x1 ![0] bcast_S4112_S4112x1_0 (iotaInDim S4112 32 0))))) (mulf (Host.dotGeneral (F := Ideal) (φ₁ := .f32) (φ₂ := .f32) dot_S2x4112x8x192_S2x4112x8x192_S2x8x4112x4112_3_3_1_1_02_02 none q k) (broadcastInDim S2x8x4112x4112 ![] bcast_S_S2x8x4112x4112 (Host.rsqrt (constant S_ .f32 0x43400000#32)))) (broadcastInDim S2x8x4112x4112 ![] bcast_S_S2x8x4112x4112 (id (constant (F := Ideal) S_ .f32 0xFF800000#32 : FVec Ideal S_ .f32))))

/-- The maximum of every row of scores. -/
def top (s : S2x8x4112x4112.Idx → EReal) : S2x8x4112.Idx → EReal :=
  (maximumf (F := Ideal) (φ := .f32) (broadcastInDim S2x8x4112 ![] bcast_S_S2x8x4112 (constant S_ .f32 0xFF800000#32)) (Host.reduce (FloatOps.maximumf (F := Ideal) (φ := .f32)) s (constant (F := Ideal) S_ .f32 0xFF800000#32) reducesTo_S2x8x4112x4112_S2x8x4112_d3 h_S_))

/-- The exponentials of the scores less their row's maximum. -/
def ex (s : S2x8x4112x4112.Idx → EReal) (M : S2x8x4112.Idx → EReal) : S2x8x4112x4112.Idx → EReal :=
  Host.exp (F := Ideal) (φ := .f32) (subf s (broadcastInDim S2x8x4112x4112 ![0, 1, 2, 3] bcast_S2x8x4112x1_S2x8x4112x4112_0_1_2_3 (broadcastInDim S2x8x4112x1 ![0, 1, 2] bcast_S2x8x4112_S2x8x4112x1_0_1_2 M)))

/-- The values weighted by the normalised exponentials. -/
def mean (v : S2x4112x8x128.Idx → EReal) (e : S2x8x4112x4112.Idx → EReal) : S2x4112x8x128.Idx → EReal :=
  transpose S2x4112x8x128 [0, 3, 1, 2] (Host.dotGeneral (F := Ideal) (φ₁ := .f32) (φ₂ := .f32) dot_S2x4112x8x128_S2x8x4112x4112_S2x8x128x4112_1_3_3_2_02_01 none v (Host.divf e (broadcastInDim S2x8x4112x4112 ![0, 1, 2, 3] bcast_S2x8x4112x1_S2x8x4112x4112_0_1_2_3 (broadcastInDim S2x8x4112x1 ![0, 1, 2] bcast_S2x8x4112_S2x8x4112x1_0_1_2 (Host.reduceAdd (F := Ideal) (φ := .f32) e (constant S_ .f32 0x00000000#32) reducesTo_S2x8x4112x4112_S2x8x4112_d3 h_S_))))) transposes_S2x8x128x4112_S2x4112x8x128_0_3_1_2

variable (m : (ℓ : Loc nD τ sig) → Buf (Elt Ideal) ℓ)

def argQ (c : Dev nD) : S2x4112x8x192.Idx → EReal := m ((c.tc : Thread nD τ).loc main_arg0)
def argK (c : Dev nD) : S2x4112x8x192.Idx → EReal := m ((c.tc : Thread nD τ).loc main_arg1)
def argV (c : Dev nD) : S2x4112x8x128.Idx → EReal := m ((c.tc : Thread nD τ).loc main_arg2)
/-- The reference's result, as a plain function. -/
def res (c : Dev nD) : S2x4112x8x128.Idx → EReal := Value.res_main_v23 m c

theorem res_eq (c : Dev nD) : res m c =
    mean (argV m c) (ex (sc (argQ m c) (argK m c)) (top (sc (argQ m c) (argK m c)))) := rfl

theorem minf : Ideal.ofBits .f32 0xFF800000#32 = (⊥ : EReal) := by simp [Ideal.ofBits, Ideal.ieee]

theorem reduce_max {a b n k : ℕ} (s : (⟨4, ![a, b, n, k]⟩ : Shape).Idx → EReal) (i : S_.Idx → EReal) (h' : (⟨4, ![a, b, n, k]⟩ : Shape).ReducesTo [3] ⟨3, ![a, b, n]⟩) (hu : 0 < S_.numel)
    (x : Fin a) (y : Fin b) (z : Fin n) (h : (⟨4, ![a, b, n, k]⟩ : Shape).Reduces [3] ⟨3, ![a, b, n]⟩) :
    Host.reduce (FloatOps.maximumf (F := Ideal) (φ := .f32)) s i h' hu (ix3 x y z)
      = Finset.univ.fold max (i (Shape.Idx.first hu)) fun u : Fin k => s (ix4 x y z u) := by
  rw [Host.reduce_eq_fold_single (FloatOps.maximumf (F := Ideal) (φ := .f32)) s i h' h hu]
  have e : (s ∘ h.lift (ix3 x y z)) = fun u : Fin k => s (ix4 x y z u) := by
    funext u
    refine congrArg s ?_
    funext c; apply Fin.ext
    fin_cases c <;> rfl
  exact congrArg (fun f => Finset.fold max (i (Shape.Idx.first hu)) f (Finset.univ : Finset (Fin k))) e

theorem red : S2x8x4112x4112.Reduces [3] S2x8x4112 := by decide

theorem maxf_at {s : Shape} (X Y : s.Idx → EReal) (i : s.Idx) : maximumf (F := Ideal) (φ := .f32) X Y i = max (X i) (Y i) := rfl

theorem max_at (Y : S2x8x4112.Idx → EReal) (b : Fin 2) (h : Fin 8) (t : Fin 4112) :
    maximumf (F := Ideal) (φ := .f32) (broadcastInDim S2x8x4112 ![] bcast_S_S2x8x4112 (constant S_ .f32 0xFF800000#32)) Y (ix3 b h t) = max ⊥ (Y (ix3 b h t)) := by
  pointwise []
  rw [minf]

theorem top_at (s : S2x8x4112x4112.Idx → EReal) (b : Fin 2) (h : Fin 8) (t : Fin 4112) :
    top s (ix3 b h t) = max ⊥ (Finset.univ.fold max ⊥ fun u : Fin 4112 => s (ix4 b h t u)) := by
  have e := reduce_max s (constant (F := Ideal) S_ .f32 0xFF800000#32) reducesTo_S2x8x4112x4112_S2x8x4112_d3 h_S_ b h t red
  rw [show constant (F := Ideal) S_ .f32 0xFF800000#32 (Shape.Idx.first h_S_) = (⊥ : EReal) from minf] at e
  exact (max_at _ b h t).trans (congrArg (max ⊥) e)

theorem ex_at (s : S2x8x4112x4112.Idx → EReal) (M : S2x8x4112.Idx → EReal) (b : Fin 2) (h : Fin 8) (t u : Fin 4112) :
    ex s M (ix4 b h t u) = Ideal.exp (s (ix4 b h t u) - M (ix3 b h t)) := by
  pointwise [ex]

theorem mean_at (v : S2x4112x8x128.Idx → EReal) (e : S2x8x4112x4112.Idx → EReal) (b : Fin 2) (h : Fin 8) (t : Fin 4112) (d : Fin 128) :
    mean v e (ix4 b t h d) = ∑ u, v (ix4 b u h d) * Ideal.div (e (ix4 b h t u)) (∑ u, e (ix4 b h t u)) := by
  pointwise [mean]

/-- The factor of the scores: `1 / √192`. -/
def rs : EReal := Ideal.rsqrt (Ideal.ofBits FTy.f32 0x43400000#32)

/-- The scores of one query, by the key's position: minus infinity after the query. -/
def sN (q k : (⟨4, ![2, 4112, 8, 192]⟩ : Shape).Idx → EReal) (b : Fin 2) (h : Fin 8) (t : Fin 4112) (u : ℕ) : EReal :=
  if hu : u ≤ t.val then (∑ e : Fin 192, q (ix4 b t h e) * k (ix4 b ⟨u, hu.trans_lt t.isLt⟩ h e)) * rs else ⊥

/-- One column of the values, by the key's position. -/
def vN (v : (⟨4, ![2, 4112, 8, 128]⟩ : Shape).Idx → EReal) (b : Fin 2) (h : Fin 8) (d : Fin 128) (u : ℕ) : EReal :=
  if hu : u < 4112 then v (ix4 b ⟨u, hu⟩ h d) else 0

theorem sc_at (q k : S2x4112x8x192.Idx → EReal) (b : Fin 2) (h : Fin 8) (t u : Fin 4112) :
    sc q k (ix4 b h t u) = sN q k b h t u.val := by
  have e : sc q k (ix4 b h t u) = Scalar.select (IntOp.cmpi CmpIPredicate.sle (BitVec.ofNat 32 u.val) (BitVec.ofNat 32 t.val))
      ((∑ x, q (ix4 b t h x) * k (ix4 b u h x)) * rs) (id (constant (F := Ideal) S_ FTy.f32 0xFF800000#32) ix0) := by
    unfold rs
    pointwise [sc]
  rw [e]
  have hu := u.isLt
  have ht := t.isLt
  unfold sN
  rw [WordCmp.cmpi_sle_ofNat (by omega) (by omega), show id (constant (F := Ideal) S_ FTy.f32 0xFF800000#32) ix0 = (⊥ : EReal) from minf]
  by_cases c : u.val ≤ t.val
  · simp [c, Scalar.select]
  · simp [c, Scalar.select]

/-- The factor as a real number. -/
theorem rs_eq : rs = (((Real.sqrt 192)⁻¹ : ℝ) : EReal) := by
  have e : Ideal.ofBits FTy.f32 0x43400000#32 = ((192 : ℝ) : EReal) := by
    simp [Ideal.ofBits, Ideal.ieee]
    rw [← EReal.coe_mul]
    norm_num
  have n1 : ¬ (192 : ℝ) < 0 := by norm_num
  have n2 : ¬ (192 : ℝ) = 0 := by norm_num
  unfold rs
  rw [e]
  show (if (192 : ℝ) < 0 then (⊥ : EReal) else if (192 : ℝ) = 0 then ⊤ else ((Real.sqrt 192)⁻¹ : ℝ)) = _
  rw [if_neg n1, if_neg n2]

/-- The reference's result at an index, for real queries and keys. -/
theorem mean_eq (q k : S2x4112x8x192.Idx → ℝ) (v : S2x4112x8x128.Idx → EReal) (b : Fin 2) (t : Fin 4112) (h : Fin 8) (d : Fin 128) :
    mean v (ex (sc (fun i => (q i : EReal)) fun i => (k i : EReal)) (top (sc (fun i => (q i : EReal)) fun i => (k i : EReal)))) (ix4 b t h d)
      = (∑ u ∈ Finset.range 4112, vN v b h d u * ((we (sN (fun i => (q i : EReal)) (fun i => (k i : EReal)) b h t u) : ℝ) : EReal))
        * (((∑ u ∈ Finset.range 4112, we (sN (fun i => (q i : EReal)) (fun i => (k i : EReal)) b h t u))⁻¹ : ℝ) : EReal) := by
  generalize hQ : (fun i => (q i : EReal)) = Q
  generalize hK : (fun i => (k i : EReal)) = K
  have real : ∀ u : ℕ, u ≤ t.val → ∃ r : ℝ, sN Q K b h t u = (r : EReal) := fun u hu => by
    unfold sN
    rw [dif_pos hu, rs_eq, ← hQ, ← hK]
    refine ⟨(∑ e : Fin 192, q (ix4 b t h e) * k (ix4 b ⟨u, hu.trans_lt t.isLt⟩ h e)) * (Real.sqrt 192)⁻¹, ?_⟩
    rw [EReal.coe_mul, coe_sum]
    rfl
  have hS : ∀ u : ℕ, sN Q K b h t u ≠ ⊤ := fun u => by
    by_cases hu : u ≤ t.val
    · obtain ⟨r, hr⟩ := real u hu
      rw [hr]; exact EReal.coe_ne_top r
    · unfold sN; rw [dif_neg hu]; exact bot_ne_top
  rw [mean_at]
  simp only [ex_at, top_at, sc_at]
  have h0 : sN Q K b h t t.val ≠ ⊥ := by
    obtain ⟨r, hr⟩ := real t.val le_rfl
    rw [hr]; exact EReal.coe_ne_bot r
  rw [softmax_mean (fun u : Fin 4112 => sN Q K b h t u.val) (fun u : Fin 4112 => v (ix4 b u h d)) (fun u => hS _) t h0 _ rfl]
  rw [Finset.sum_range, Finset.sum_range]
  refine congrArg (fun x => x * _) (Finset.sum_congr rfl fun u _ => ?_)
  unfold vN
  rw [dif_pos u.isLt]

end Cert.RefSide

end

end
-- ==== Proof.FlashVal.lean ====
/- The attention kernel's result at an index is the reference's, for real queries and keys. -/
module

public import proofs.«01_k».proof.Proof.FlashEntry
public import proofs.«01_k».proof.Proof.FlashRef

@[expose] public section

set_option maxRecDepth 16384

noncomputable section

namespace Cert.Flash

open Cert.KernelIdeal Cert.KernelIdeal.Gen Cert.Online Cert.RefSide Idealize.ShloMosaic Idealize.ShloMosaic.TcCoe Idealize.SL.Sem

/-- The factor of the queries as a real number. -/
theorem scaleK_eq : scaleK = (((Real.sqrt 192)⁻¹ * (Real.log 2)⁻¹ : ℝ) : EReal) := by
  have e : Ideal.ofBits FTy.f32 0x40000000#32 = ((2 : ℝ) : EReal) := by
    simp [Ideal.ofBits, Ideal.ieee]
    rw [← EReal.coe_mul]
    norm_num
  have l : Ideal.log ((2 : ℝ) : EReal) = ((Real.log 2 : ℝ) : EReal) := by
    show (if (2 : ℝ) ≤ 0 then (⊥ : EReal) else (Real.log 2 : EReal)) = _
    rw [if_neg (by norm_num)]
  have p : Real.log 2 ≠ 0 := (Real.log_pos one_lt_two).ne'
  unfold scaleK
  rw [e, l, show Ideal.rsqrt (Ideal.ofBits FTy.f32 0x43400000#32) = rs from rfl, rs_eq]
  rw [Ideal.div, if_neg (by rw [EReal.coe_eq_zero]; exact p), ← EReal.coe_inv, ← EReal.coe_mul]

/-- A weight of the kernel, a power of two, is the exponential of the reference. -/
theorem w2_we (z : ℝ) : w2 ((z * ((Real.sqrt 192)⁻¹ * (Real.log 2)⁻¹) : ℝ) : EReal) = we ((z * (Real.sqrt 192)⁻¹ : ℝ) : EReal) := by
  have p : Real.log 2 ≠ 0 := (Real.log_pos one_lt_two).ne'
  rw [w2_coe, we_coe, Real.rpow_def_of_pos two_pos]
  congr 1
  field_simp

variable (m : (ℓ : Loc nD τ sig) → Buf (Elt Ideal) ℓ)

/-- A score of the kernel, for real queries and keys and a key up to the query. -/
theorem rawA_eq (q k : S2x4112x8x192.Idx → ℝ) (c : Dev nD) (hq : argQ m c = fun i => (q i : EReal)) (hk : argK m c = fun i => (k i : EReal))
    (b : Fin 2) (t : Fin 4112) (h : Fin 8) (j : ℕ) (r : Fin 256) (hu : 256 * j + r.val < 4112) :
    rawA m c h ⟨b.val * 17 + t.val / 256, by have := b.isLt; have := t.isLt; omega⟩ ⟨t.val % 256, Nat.mod_lt _ (by decide)⟩ j r
      = (((∑ e : Fin 192, q (ix4 b t h e) * k (ix4 b ⟨256 * j + r.val, hu⟩ h e)) * ((Real.sqrt 192)⁻¹ * (Real.log 2)⁻¹) : ℝ) : EReal) := by
  have hb := b.isLt
  have ht := t.isLt
  unfold rawA
  have key : ∀ e : Fin 256, ak m c (ix3 h ⟨(b.val * 17 + t.val / 256) / 17 * 4352 + (256 * j + r.val) % 4352, by omega⟩ e)
      * aq m c (ix3 h ⟨(b.val * 17 + t.val / 256) * 256 + t.val % 256, by omega⟩ e)
      = (((fun e : ℕ => if he : e < 192 then q (ix4 b t h ⟨e, he⟩) * k (ix4 b ⟨256 * j + r.val, hu⟩ h ⟨e, he⟩) * ((Real.sqrt 192)⁻¹ * (Real.log 2)⁻¹) else 0) e.val : ℝ) : EReal) := fun e => by
    rw [ak_at, aq_at]
    have g1 : ((b.val * 17 + t.val / 256) * 256 + t.val % 256) / 4352 = b.val := by omega
    have g2 : ((b.val * 17 + t.val / 256) * 256 + t.val % 256) % 4352 = t.val := by omega
    have g3 : ((b.val * 17 + t.val / 256) / 17 * 4352 + (256 * j + r.val) % 4352) / 4352 = b.val := by omega
    have g4 : ((b.val * 17 + t.val / 256) / 17 * 4352 + (256 * j + r.val) % 4352) % 4352 = 256 * j + r.val := by omega
    by_cases he : e.val < 192
    · rw [dif_pos ⟨by rw [g3]; exact hb, by rw [g4]; exact hu, he⟩, dif_pos ⟨by rw [g1]; exact hb, by rw [g2]; exact ht, he⟩, scaleK_eq, hq, hk]
      simp only [g1, g2, g3, g4, dif_pos he]
      rw [← EReal.coe_mul, ← EReal.coe_mul]
      congr 1
      ring
    · rw [dif_neg (fun x => he x.2.2), dif_neg (fun x => he x.2.2)]
      simp only [dif_neg he]
      simp
  rw [Finset.sum_congr rfl fun e _ => key e, ← coe_sum]
  congr 1
  rw [← Finset.sum_range (fun e : ℕ => if he : e < 192 then q (ix4 b t h ⟨e, he⟩) * k (ix4 b ⟨256 * j + r.val, hu⟩ h ⟨e, he⟩) * ((Real.sqrt 192)⁻¹ * (Real.log 2)⁻¹) else 0),
    sum_range_eq _ 191 256 192 (by decide) (by decide) (fun x hx => dif_neg (by omega)), Finset.sum_range, Finset.sum_mul]
  refine Finset.sum_congr rfl fun e _ => ?_
  rw [dif_pos e.isLt]

/-- The kernel's result at an index, in the reference's words. -/
theorem res_eq (q k : S2x4112x8x192.Idx → ℝ) (c : Dev nD) (hq : argQ m c = fun i => (q i : EReal)) (hk : argK m c = fun i => (k i : EReal))
    (b : Fin 2) (t : Fin 4112) (h : Fin 8) (d : Fin 128) :
    res m c (ix4 b t h d)
      = (∑ u ∈ Finset.range 4112, vN (argV m c) b h d u * ((we (sN (fun i => (q i : EReal)) (fun i => (k i : EReal)) b h t u) : ℝ) : EReal))
        * (((∑ u ∈ Finset.range 4112, we (sN (fun i => (q i : EReal)) (fun i => (k i : EReal)) b h t u))⁻¹ : ℝ) : EReal) := by
  have hb := b.isLt
  have ht := t.isLt
  rw [res_at]
  unfold outA
  have hp : (b.val * 17 + t.val / 256) % 17 = t.val / 256 := by omega
  generalize hR : rawA m c h ⟨b.val * 17 + t.val / 256, _⟩ ⟨t.val % 256, _⟩ = R
  have raw := fun (j : ℕ) (r : Fin 256) (hu : 256 * j + r.val < 4112) => (congrFun (congrFun hR.symm j) r).trans (rawA_eq m q k c hq hk b t h j r hu)
  generalize hS : sN (fun i => (q i : EReal)) (fun i => (k i : EReal)) b h t = S
  simp only [hp]
  -- a key up to the query is scored, a later one is not
  have mm : ∀ j, j < t.val / 256 + 1 → msk R (t.val / 256) ⟨t.val % 256, Nat.mod_lt _ (by decide)⟩ j = (fun j (r : Fin 256) => if 256 * j + r.val ≤ t.val then R j r else ⊥) j := fun j hj => by
    funext r
    have := r.isLt
    unfold msk
    by_cases hu : 256 * j + r.val ≤ t.val
    · rw [show (fun j (r : Fin 256) => if 256 * j + r.val ≤ t.val then R j r else ⊥) j r = R j r from if_pos hu]
      by_cases hj : j < t.val / 256
      · rw [if_pos hj]
      · rw [if_neg hj, if_pos (show r ≤ ⟨t.val % 256, Nat.mod_lt _ (by decide)⟩ from (show r.val ≤ t.val % 256 by omega))]
    · rw [show (fun j (r : Fin 256) => if 256 * j + r.val ≤ t.val then R j r else ⊥) j r = ⊥ from if_neg hu,
        if_neg (by omega), if_neg (show ¬ r ≤ ⟨t.val % 256, Nat.mod_lt _ (by decide)⟩ from (show ¬ r.val ≤ t.val % 256 by omega))]
  obtain ⟨-, c2, c3⟩ := run_congr (valsA m c h ⟨b.val * 17 + t.val / 256, by omega⟩ d) (t.val / 256 + 1) mm
  rw [c2, c3]
  have m1 : ∀ (j : ℕ) (r : Fin 256), 256 * j + r.val ≤ t.val → (fun j (r : Fin 256) => if 256 * j + r.val ≤ t.val then R j r else ⊥) j r = R j r := fun j r hu => if_pos hu
  have m2 : ∀ (j : ℕ) (r : Fin 256), t.val < 256 * j + r.val → (fun j (r : Fin 256) => if 256 * j + r.val ≤ t.val then R j r else ⊥) j r = ⊥ := fun j r hu => if_neg (by omega)
  clear mm c2 c3
  generalize (fun j (r : Fin 256) => if 256 * j + r.val ≤ t.val then R j r else ⊥) = M at m1 m2 ⊢
  have t1 : ∀ j r, M j r ≠ ⊤ := fun j r => by
    by_cases hu : 256 * j + r.val ≤ t.val
    · rw [m1 j r hu, raw j r (by omega)]; exact EReal.coe_ne_top _
    · rw [m2 j r (by omega)]; exact bot_ne_top
  have t2 : M 0 0 ≠ ⊥ := by
    rw [m1 0 0 (by simp), raw 0 0 (by simp)]; exact EReal.coe_ne_bot _
  rw [online _ t1 t2]
  have w : ∀ (j : ℕ) (r : Fin 256), w2 (M j r) = we (S (256 * j + r.val)) := fun j r => by
    by_cases hu : 256 * j + r.val ≤ t.val
    · rw [m1 j r hu, raw j r (by omega), w2_we, ← hS]
      unfold sN
      rw [dif_pos hu, rs_eq, EReal.coe_mul, coe_sum]
      rfl
    · rw [m2 j r (by omega), ← hS]
      unfold sN
      rw [dif_neg hu]
      rfl
  have z : ∀ u, t.val < u → we (S u) = 0 := fun u hu => by
    rw [← hS]
    unfold sN
    rw [dif_neg (by omega)]
    rfl
  have v : ∀ (j : ℕ) (r : Fin 256), valsA m c h ⟨b.val * 17 + t.val / 256, by omega⟩ d j r * ((w2 (M j r) : ℝ) : EReal)
      = (fun u => vN (argV m c) b h d u * ((we (S u) : ℝ) : EReal)) (256 * j + r.val) := fun j r => by
    rw [w]
    show _ = vN (argV m c) b h d (256 * j + r.val) * ((we (S (256 * j + r.val)) : ℝ) : EReal)
    by_cases hu : 256 * j + r.val ≤ t.val
    · have := r.isLt
      unfold valsA vN
      rw [av_at]
      have g1 : ((b.val * 17 + t.val / 256) / 17 * 17 + j % 17) / 17 = b.val := by omega
      have g2 : ((b.val * 17 + t.val / 256) / 17 * 17 + j % 17) % 17 * 256 + r.val = 256 * j + r.val := by omega
      rw [dif_pos ⟨by rw [g1]; exact hb, by rw [g2]; omega⟩, dif_pos (by omega)]
      simp only [g1, g2]
    · rw [z (256 * j + r.val) (by omega), EReal.coe_zero, mul_zero, mul_zero]
  have e1 := (Finset.sum_congr rfl fun j _ => Finset.sum_congr rfl fun r _ => v j r : (∑ j ∈ Finset.range (t.val / 256 + 1), ∑ r : Fin 256, _) = _).trans
    ((sum_blocks (fun u => vN (argV m c) b h d u * ((we (S u) : ℝ) : EReal)) (t.val / 256 + 1)).trans
      (sum_range_eq _ t.val _ 4112 (by omega) ht fun u hu => by rw [z u hu, EReal.coe_zero, mul_zero]))
  have e2 := (Finset.sum_congr rfl fun j _ => Finset.sum_congr rfl fun r _ => w j r : (∑ j ∈ Finset.range (t.val / 256 + 1), ∑ r : Fin 256, _) = _).trans
    ((sum_blocks (fun u => we (S u)) (t.val / 256 + 1)).trans (sum_range_eq _ t.val _ 4112 (by omega) ht z))
  rw [e1, e2]

end Cert.Flash

end

end
-- ==== Proof.FlashClaim.lean ====
/- The attention claim: what the precondition says, and the two runs side by side. -/
module

public import proofs.«01_k».proof.Defs
public import proofs.«01_k».proof.Proof.Gen.Pre_finite
public import proofs.«01_k».proof.Proof.FlashVal

@[expose] public section

set_option maxRecDepth 16384

noncomputable section

namespace Cert.Flash

open Idealize.ShloMosaic Idealize.ShloMosaic.TcCoe Idealize.SL.Sem

/-- A number whose absolute value is below infinity is real. -/
theorem real_of_abs {x : EReal} (h : Ideal.cmp .olt (FloatOps.hostAbsf (F := Ideal) (φ := .f32) x) (Ideal.ofBits FTy.f32 0x7F800000#32) = 1#1) : ∃ r : ℝ, x = (r : EReal) := by
  have e : Ideal.ofBits FTy.f32 0x7F800000#32 = (⊤ : EReal) := by simp [Ideal.ofBits, Ideal.ieee]
  rw [e] at h
  have lt : max x (-x) < (⊤ : EReal) := by
    by_contra hn
    have h0 : Ideal.cmp .olt (max x (-x)) (⊤ : EReal) = 0#1 := by
      show BitVec.ofBool (decide (max x (-x) < (⊤ : EReal))) = 0#1
      rw [decide_eq_false hn]; rfl
    exact absurd (h0.symm.trans h) (by decide)
  refine Cert.Online.real_of (fun hx => ?_) fun hx => ?_
  · exact (lt_of_le_of_lt (le_max_left x (-x)) lt).ne hx
  · exact (lt_of_le_of_lt (le_max_right x (-x)) lt).ne (by rw [hx]; rfl)

/-- The precondition gives real queries and keys. -/
theorem real_args (q k : Cert.Pre_finite.S2x4112x8x192.Idx → EReal) (v : Cert.Pre_finite.S2x4112x8x128.Idx → EReal)
    [self : Cert.Pre_finite.Facts] (h : Cert.Pre_finite.fn (F := Ideal) q k v = fun _ => 1#1) :
    (∃ r : Cert.Pre_finite.S2x4112x8x192.Idx → ℝ, q = fun i => (r i : EReal)) ∧ ∃ r : Cert.Pre_finite.S2x4112x8x192.Idx → ℝ, k = fun i => (r i : EReal) := by
  have both : ∀ i, (∃ r : ℝ, q i = (r : EReal)) ∧ ∃ r : ℝ, k i = (r : EReal) := fun i => by
    have hi := congrFun h i
    have a : IntOp.andi (Ideal.cmp .olt (FloatOps.hostAbsf (F := Ideal) (φ := .f32) (q i)) (Ideal.ofBits FTy.f32 0x7F800000#32))
        (Ideal.cmp .olt (FloatOps.hostAbsf (F := Ideal) (φ := .f32) (k i)) (Ideal.ofBits FTy.f32 0x7F800000#32)) = 1#1 := hi
    have bits : ∀ x y : BitVec 1, IntOp.andi x y = 1#1 → x = 1#1 ∧ y = 1#1 := by decide
    exact ⟨real_of_abs (bits _ _ a).1, real_of_abs (bits _ _ a).2⟩
  choose r hr using fun i => (both i).1
  choose s hs using fun i => (both i).2
  exact ⟨⟨r, funext hr⟩, s, funext hs⟩

theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hp hag
  refine ⟨fun c => res m c, ?_, ?_⟩
  · exact (θ_run Cert.KernelIdeal.defs _ _).mono (fun r h c => ⟨(h.1 c).2 Cert.KernelIdeal.main_v21 (Pipeline.mem_restRefs_of Cert.KernelIdeal.main_v21 (by decide) (by decide)), h.2 c⟩)
      (θ_run_and (Cert.KernelIdeal.Gen.run_main m g) (Cert.KernelIdeal.Gen.unchanged m g))
  · refine (θ_run Cert.ReferenceIdeal.defs _ _).mono (fun r h c => ⟨(h c).1.trans ?_, (h c).2⟩) (Cert.ReferenceIdeal.Value.run m' g')
    obtain ⟨a0, a1, a2⟩ := hag c
    obtain ⟨⟨q, hq⟩, k, hk⟩ := real_args (self := Cert.Pre_finite.Gen.facts) _ _ _ (hp c)
    show Cert.RefSide.res m' c = res m c
    funext ix
    rw [Cert.RefSide.res_eq, show Cert.RefSide.argQ m' c = fun i => (q i : EReal) from a0.trans hq, show Cert.RefSide.argK m' c = fun i => (k i : EReal) from a1.trans hk,
      show Cert.RefSide.argV m' c = argV m c from a2]
    have e := eq_ix4 ix
    rw [e]
    exact (Cert.RefSide.mean_eq q k (argV m c) _ _ _ _).trans (res_eq m q k c hq hk _ _ _ _).symm

end Cert.Flash

end

end
-- ==== Proof.FfnMath.lean ====
/- The half feed-forward block, one row at a time, and the two orders its products are added in. -/
module

public import proofs.«01_k».proof.Proof.Online
public import Idealize.ShloMosaic.PureOps.Ideal

@[expose] public section

noncomputable section

namespace Cert.FfnMath

open Idealize.ShloMosaic

/-- One half, as the programs write it. -/
def half : EReal := Ideal.ofBits FTy.f32 0x3F000000#32

/-- A row divided by the root of its mean square, times the gains. -/
def nrm (row g : Fin 2048 → EReal) (e : Fin 2048) : EReal :=
  row e * Ideal.rsqrt (Ideal.div (∑ k, row k * row k) (Ideal.ofBits FTy.f32 0x45000000#32) + Ideal.ofBits FTy.f32 0x358637BD#32) * g e

/-- One entry of a row times a matrix. -/
def dotc (h w : Fin 2048 → EReal) : EReal := ∑ k, h k * w k

/-- The hidden activation as the kernel takes it. -/
def act (a b : EReal) : EReal := half * a * Ideal.logistic a * b

theorem half_eq : half = (((1 : ℝ) / 2 : ℝ) : EReal) := by
  unfold half
  simp [Ideal.ofBits, Ideal.ieee]
  rw [← EReal.coe_mul]
  norm_num

/-- The half is taken before the last matrix product or after it. -/
theorem half_sum {ι : Type} (S : Finset ι) (a b d : ι → EReal) :
    ∑ f ∈ S, act (a f) (b f) * d f = half * ∑ f ∈ S, a f * Ideal.logistic (a f) * b f * d f := by
  rw [mul_comm half, half_eq, Online.sum_mul_coe S _ (by norm_num : (0 : ℝ) ≤ 1 / 2)]
  refine Finset.sum_congr rfl fun f _ => ?_
  unfold act
  rw [half_eq]
  generalize Ideal.logistic (a f) = l
  generalize (((1 : ℝ) / 2 : ℝ) : EReal) = k
  rw [mul_assoc k, mul_assoc k, mul_assoc k, mul_comm k]

end Cert.FfnMath

end

end
-- ==== Proof.FfnPoint.lean ====
/- What one point of the feed-forward kernel computes, entry by entry. -/
module

public import proofs.«01_k».proof.Proof.Gen.Kernel2Ideal.Frame
public import proofs.«01_k».proof.Proof.FfnMath

@[expose] public section

set_option maxRecDepth 16384

noncomputable section

namespace Cert.Ffn

open Cert.Kernel2Ideal Cert.Kernel2Ideal.Gen Idealize.ShloMosaic Idealize.ShloMosaic.TcCoe Idealize.SL.Sem Cert.FfnMath

/-- The copy of the rows the output starts from. -/
theorem pay1_at (x : S544x2048.Idx → EReal) (r : Fin 544) (e : Fin 2048) :
    k0_pay1 (F := Ideal) x (ix2 r e) = x (ix2 r e) := by
  pointwise [k0_pay1]

/-- The normalised rows. -/
theorem pay2_at (x : S544x2048.Idx → EReal) (g : S1x2048.Idx → EReal) (r : Fin 544) (e : Fin 2048) :
    k0_pay2 (F := Ideal) x g (ix2 r e) = nrm (fun k => x (ix2 r k)) (fun k => g (ix2 (0 : Fin 1) k)) e := by
  unfold nrm
  pointwise [k0_pay2, k0_pay1]

/-- The output with one block of hidden columns added. -/
theorem pay3_at (h : S544x2048.Idx → EReal) (wg wu : S2048x512.Idx → EReal) (o : S544x2048.Idx → EReal) (wd : S512x2048.Idx → EReal) (r : Fin 544) (e : Fin 2048) :
    k0_pay3 (F := Ideal) h wg wu o wd (ix2 r e)
      = o (ix2 r e) + ∑ f : Fin 512, act (dotc (fun k => h (ix2 r k)) fun k => wg (ix2 k f)) (dotc (fun k => h (ix2 r k)) fun k => wu (ix2 k f)) * wd (ix2 f e) := by
  unfold act dotc half
  pointwise [k0_pay3]

end Cert.Ffn

end

end
-- ==== Proof.FfnArr.lean ====
/- The array the feed-forward kernel writes, entry by entry, from the arrays it is launched on. -/
module

public import proofs.«01_k».proof.Proof.FfnPoint
public import Idealize.ShloMosaic.Lib.StableHlo.ReadAt

@[expose] public section

set_option maxRecDepth 16384

noncomputable section

namespace Cert.Ffn

open Cert.Kernel2Ideal Cert.Kernel2Ideal.Gen Idealize.ShloMosaic Idealize.ShloMosaic.TcCoe Idealize.SL.Sem Cert.FfnMath

variable (m : (ℓ : Loc nD τ sig) → Buf (Elt Ideal) ℓ)

theorem idx : ∀ t : Fin cfg0.N, win0_0.index t = ![t.val / 11, 0] ∧ win0_1.index t = ![0, 0] ∧ win0_2.index t = ![0, t.val % 11]
    ∧ win0_3.index t = ![0, t.val % 11] ∧ win0_4.index t = ![t.val % 11, 0] ∧ win0_5.index t = ![t.val / 11, 0] :=
  (by decide +kernel : ∀ t : Fin grid0.N, _)

/-- The five arrays the kernel is launched on, as plain functions. -/
def ax (c : Dev nD) : S8704x2048.Idx → EReal := V m c main_v1
def ag (c : Dev nD) : S1x2048.Idx → EReal := V m c main_v2
def awg (c : Dev nD) : S2048x5632.Idx → EReal := V m c main_v3
def awu (c : Dev nD) : S2048x5632.Idx → EReal := V m c main_v4
def awd (c : Dev nD) : S5632x2048.Idx → EReal := V m c main_v5

theorem V_heq (c : Dev nD) : ∀ {r r' : Ref sig .tc}, r = r' → HEq (V m c r) (V m c r')
  | _, _, rfl => HEq.rfl

theorem V_0 (c : Dev nD) : (show S8704x2048.Idx → EReal from V m c (Pipeline.arrRef spec0 0)) = ax m c :=
  eq_of_heq (V_heq m c (show Pipeline.arrRef spec0 0 = main_v1 from rfl))
theorem V_1 (c : Dev nD) : (show S1x2048.Idx → EReal from V m c (Pipeline.arrRef spec0 1)) = ag m c :=
  eq_of_heq (V_heq m c (show Pipeline.arrRef spec0 1 = main_v2 from rfl))
theorem V_2 (c : Dev nD) : (show S2048x5632.Idx → EReal from V m c (Pipeline.arrRef spec0 2)) = awg m c :=
  eq_of_heq (V_heq m c (show Pipeline.arrRef spec0 2 = main_v3 from rfl))
theorem V_3 (c : Dev nD) : (show S2048x5632.Idx → EReal from V m c (Pipeline.arrRef spec0 3)) = awu m c :=
  eq_of_heq (V_heq m c (show Pipeline.arrRef spec0 3 = main_v4 from rfl))
theorem V_4 (c : Dev nD) : (show S5632x2048.Idx → EReal from V m c (Pipeline.arrRef spec0 4)) = awd m c :=
  eq_of_heq (V_heq m c (show Pipeline.arrRef spec0 4 = main_v5 from rfl))

theorem ix (c : Dev nD) (t : Fin cfg0.N) (r : Fin 544) (e : Fin 2048) (p : Fin 8704) (hp : p.val = t.val / 11 * 544 + r.val) :
    iblk m c 0 t (ix2 r e) = ax m c (ix2 p e) := by
  obtain ⟨i0, i1, i2, i3, i4, i5⟩ := idx t
  have key : ∀ X : Buf (Elt Ideal) ((c : Thread nD τ).loc (Pipeline.arrRef spec0 0)),
      ((cfg0.win 0).blk t).view.read (Elt Ideal) X (ix2 r e) = (show S8704x2048.Idx → EReal from X) (ix2 p e) := by
    intro X
    have key' : ∀ Y : S8704x2048.Idx → EReal, Y (((cfg0.win 0).blk t).view.emb (ix2 r e)) = Y (ix2 p e) := by
      intro Y
      congr 1
      blk_ext [i0]
    exact key' X
  unfold iblk
  refine (key _).trans ?_
  exact congrFun (V_0 m c) (ix2 p e)

theorem ig (c : Dev nD) (t : Fin cfg0.N) (e : Fin 2048) : iblk m c 1 t (ix2 (0 : Fin 1) e) = ag m c (ix2 (0 : Fin 1) e) := by
  obtain ⟨i0, i1, i2, i3, i4, i5⟩ := idx t
  have key : ∀ X : Buf (Elt Ideal) ((c : Thread nD τ).loc (Pipeline.arrRef spec0 1)),
      ((cfg0.win 1).blk t).view.read (Elt Ideal) X (ix2 (0 : Fin 1) e) = (show S1x2048.Idx → EReal from X) (ix2 (0 : Fin 1) e) := by
    intro X
    have key' : ∀ Y : S1x2048.Idx → EReal, Y (((cfg0.win 1).blk t).view.emb (ix2 (0 : Fin 1) e)) = Y (ix2 (0 : Fin 1) e) := by
      intro Y
      congr 1
      blk_ext [i1]
    exact key' X
  unfold iblk
  refine (key _).trans ?_
  exact congrFun (V_1 m c) (ix2 (0 : Fin 1) e)

theorem iwg (c : Dev nD) (t : Fin cfg0.N) (k : Fin 2048) (f : Fin 512) (f' : Fin 5632) (hf : f'.val = t.val % 11 * 512 + f.val) :
    iblk m c 2 t (ix2 k f) = awg m c (ix2 k f') := by
  obtain ⟨i0, i1, i2, i3, i4, i5⟩ := idx t
  have key : ∀ X : Buf (Elt Ideal) ((c : Thread nD τ).loc (Pipeline.arrRef spec0 2)),
      ((cfg0.win 2).blk t).view.read (Elt Ideal) X (ix2 k f) = (show S2048x5632.Idx → EReal from X) (ix2 k f') := by
    intro X
    have key' : ∀ Y : S2048x5632.Idx → EReal, Y (((cfg0.win 2).blk t).view.emb (ix2 k f)) = Y (ix2 k f') := by
      intro Y
      congr 1
      blk_ext [i2]
    exact key' X
  unfold iblk
  refine (key _).trans ?_
  exact congrFun (V_2 m c) (ix2 k f')

theorem iwu (c : Dev nD) (t : Fin cfg0.N) (k : Fin 2048) (f : Fin 512) (f' : Fin 5632) (hf : f'.val = t.val % 11 * 512 + f.val) :
    iblk m c 3 t (ix2 k f) = awu m c (ix2 k f') := by
  obtain ⟨i0, i1, i2, i3, i4, i5⟩ := idx t
  have key : ∀ X : Buf (Elt Ideal) ((c : Thread nD τ).loc (Pipeline.arrRef spec0 3)),
      ((cfg0.win 3).blk t).view.read (Elt Ideal) X (ix2 k f) = (show S2048x5632.Idx → EReal from X) (ix2 k f') := by
    intro X
    have key' : ∀ Y : S2048x5632.Idx → EReal, Y (((cfg0.win 3).blk t).view.emb (ix2 k f)) = Y (ix2 k f') := by
      intro Y
      congr 1
      blk_ext [i3]
    exact key' X
  unfold iblk
  refine (key _).trans ?_
  exact congrFun (V_3 m c) (ix2 k f')

theorem iwd (c : Dev nD) (t : Fin cfg0.N) (f : Fin 512) (e : Fin 2048) (f' : Fin 5632) (hf : f'.val = t.val % 11 * 512 + f.val) :
    iblk m c 4 t (ix2 f e) = awd m c (ix2 f' e) := by
  obtain ⟨i0, i1, i2, i3, i4, i5⟩ := idx t
  have key : ∀ X : Buf (Elt Ideal) ((c : Thread nD τ).loc (Pipeline.arrRef spec0 4)),
      ((cfg0.win 4).blk t).view.read (Elt Ideal) X (ix2 f e) = (show S5632x2048.Idx → EReal from X) (ix2 f' e) := by
    intro X
    have key' : ∀ Y : S5632x2048.Idx → EReal, Y (((cfg0.win 4).blk t).view.emb (ix2 f e)) = Y (ix2 f' e) := by
      intro Y
      congr 1
      blk_ext [i4]
    exact key' X
  unfold iblk
  refine (key _).trans ?_
  exact congrFun (V_4 m c) (ix2 f' e)

/-- A row of the array, normalised. -/
def hrow (c : Dev nD) (p : Fin 8704) : Fin 2048 → EReal := nrm (fun k => ax m c (ix2 p k)) fun k => ag m c (ix2 (0 : Fin 1) k)

/-- What hidden column `f` adds to one entry of the output. -/
def term (c : Dev nD) (p : Fin 8704) (e : Fin 2048) (f : Fin 5632) : EReal :=
  act (dotc (hrow m c p) fun k => awg m c (ix2 k f)) (dotc (hrow m c p) fun k => awu m c (ix2 k f)) * awd m c (ix2 f e)

/-- What one block of hidden columns adds to it. -/
def part (c : Dev nD) (p : Fin 8704) (e : Fin 2048) (j : ℕ) : EReal :=
  ∑ f : Fin 512, term m c p e ⟨(j % 11) * 512 + f.val, by have := f.isLt; have := Nat.mod_lt j (show 0 < 11 by decide); omega⟩

/-- One entry of the array the kernel writes. -/
def outA (c : Dev nD) (p : Fin 8704) (e : Fin 2048) : EReal := ax m c (ix2 p e) + ∑ f : Fin 5632, term m c p e f

theorem N_eq : cfg0.N = 176 := by decide +kernel

/-- One point's update, from a row already normalised. -/
theorem step (c : Dev nD) (t : Fin cfg0.N) (h o : S544x2048.Idx → EReal) (r : Fin 544) (e : Fin 2048) (p : Fin 8704) (hh : ∀ k, h (ix2 r k) = hrow m c p k) :
    k0_pay3 (F := Ideal) h (iblk m c 2 t) (iblk m c 3 t) o (iblk m c 4 t) (ix2 r e) = o (ix2 r e) + part m c p e t.val := by
  refine (pay3_at h _ _ o _ r e).trans ?_
  rw [show (fun k => h (ix2 r k)) = hrow m c p from funext hh]
  unfold part term
  refine congrArg (o (ix2 r e) + ·) (Finset.sum_congr rfl fun f _ => ?_)
  have hf : t.val % 11 * 512 + f.val < 5632 := by have := f.isLt; have := Nat.mod_lt t.val (show 0 < 11 by decide); omega
  exact congrArg₂ (· * ·) (congrArg₂ act (congrArg (dotc _) (funext fun k => iwg m c t k f ⟨_, hf⟩ rfl)) (congrArg (dotc _) (funext fun k => iwu m c t k f ⟨_, hf⟩ rfl)))
    (iwd m c t f e ⟨_, hf⟩ rfl)

/-- A point that does not start a run keeps the normalised rows. -/
theorem kept (c : Dev nD) (t : Fin cfg0.N) (h0 : ¬t.val % 11 = 0) :
    (outsAt0 m c t.val t.isLt).2 = (outsAt0 m c (t.val - 1) (Nat.lt_of_le_of_lt (Nat.sub_le _ _) t.isLt)).2 := by
  rw [outsAt0_B m c t h0]
  dsimp only [sout0_B_0]

/-- The output after a point that does not start a run, over what the point before left. -/
theorem outB (c : Dev nD) (t : Fin cfg0.N) (h0 : ¬t.val % 11 = 0) (r : Fin 544) (e : Fin 2048) (S : Vec Ideal S544x2048 .f32 × Vec Ideal S544x2048 .bf16) (hS : outsAt0 m c (t.val - 1) (Nat.lt_of_le_of_lt (Nat.sub_le _ _) t.isLt) = S) :
    (outsAt0 m c t.val t.isLt).1 (ix2 r e) = k0_pay3 (F := Ideal) S.2 (iblk m c 2 t) (iblk m c 3 t) S.1 (iblk m c 4 t) (ix2 r e) := by
  rw [outsAt0_B m c t h0, hS]
  dsimp only
  frame_out
  rw [show (View.whole cc0_scratch0).read (Elt Ideal) _ = S.2 from Memref.IsWhole.read_unread _ _]

/-- After a point: the rows normalised, and the blocks of hidden columns so far added. -/
theorem after_at (c : Dev nD) : ∀ (n : ℕ) (hn : n < cfg0.N) (r : Fin 544) (p : Fin 8704) (hp : p.val = n / 11 * 544 + r.val),
    (∀ k, (outsAt0 m c n hn).2 (ix2 r k) = hrow m c p k)
      ∧ ∀ e, (outsAt0 m c n hn).1 (ix2 r e) = ax m c (ix2 p e) + ∑ j ∈ Finset.range (n % 11 + 1), part m c p e j := by
  intro n
  induction n using Nat.strong_induction_on with
  | _ n ih =>
    intro hn r p hp
    by_cases h0 : n % 11 = 0
    · rw [outsAt0_A m c ⟨n, hn⟩ h0]
      have hs : ∀ k, k0_pay2 (F := Ideal) (iblk m c 0 ⟨n, hn⟩) (iblk m c 1 ⟨n, hn⟩) (ix2 r k) = hrow m c p k := fun k => by
        refine (pay2_at _ _ r k).trans ?_
        unfold hrow
        rw [show (fun k => iblk m c 0 ⟨n, hn⟩ (ix2 r k)) = _ from funext fun k => ix m c ⟨n, hn⟩ r k p hp, show (fun k => iblk m c 1 ⟨n, hn⟩ (ix2 (0 : Fin 1) k)) = _ from funext fun k => ig m c ⟨n, hn⟩ k]
      constructor
      · intro k
        dsimp only
        frame_out
        exact hs k
      · intro e
        dsimp only
        frame_out
        refine (step m c ⟨n, hn⟩ _ _ r e p hs).trans ?_
        rw [pay1_at, ix m c ⟨n, hn⟩ r e p hp, h0, Finset.sum_range_one]
        unfold part
        simp only [h0]
    · have hlt : n - 1 < n := by omega
      obtain ⟨hs, ho⟩ := ih (n - 1) hlt (by omega) r p (by rw [hp]; congr 2; omega)
      refine ⟨fun k => (congrFun (kept m c ⟨n, hn⟩ h0) (ix2 r k)).trans (hs k), ?_⟩
      intro e
      refine (outB m c ⟨n, hn⟩ h0 r e _ rfl).trans ?_
      refine (step m c ⟨n, hn⟩ _ _ r e p hs).trans ?_
      rw [show ((outsAt0 m c (n - 1) (by omega)).1 (ix2 r e)) = _ from ho e, show (n - 1) % 11 + 1 = n % 11 by omega, Finset.sum_range_succ, add_assoc]
      unfold part
      simp only [Nat.mod_mod]

/-- The blocks of hidden columns together. -/
theorem sum_parts (c : Dev nD) (p : Fin 8704) (e : Fin 2048) : ∑ j ∈ Finset.range 11, part m c p e j = ∑ f : Fin 5632, term m c p e f := by
  rw [Finset.sum_range]
  unfold part
  refine Fin.sum_mul_add_congr (S := 11) (n := 512) (fun s k hl => ?_) (by decide)
  refine congrArg (term m c _ _) (Fin.ext ?_)
  show s.val % 11 * 512 + k.val = s.val * 512 + k.val
  rw [Nat.mod_eq_of_lt s.isLt]

theorem arr_eq (c : Dev nD) : (dats m 0 c).arrAt 5 cfg0.N = fun y : S8704x2048.Idx => outA m c (y 0) (y 1) := by
  refine (dats m 0 c).arrAt_eq_of_covers 5 _ (by decide +kernel) fun t ht y => ?_
  have h10 : t.val % 11 = 10 := (flush0_5 t).mp ht
  obtain ⟨i0, i1, i2, i3, i4, i5⟩ := idx t
  blk_simp
  rw [after0_5]
  have a : ∀ (r : Fin 544) (p : Fin 8704) (hp : p.val = t.val / 11 * 544 + r.val) (e : Fin 2048), (outsAt0 m c t.val t.isLt).1 (ix2 r e) = outA m c p e := fun r p hp e => by
    rw [(after_at m c t.val t.isLt r p hp).2 e, h10, sum_parts]
    rfl
  generalize outsAt0 m c t.val t.isLt = S at a ⊢
  have e0 : ((win0_5.blk t).view.emb y 0).val = t.val / 11 * 544 + (y 0).val := by blk_simp [i5]
  have e1 : (win0_5.blk t).view.emb y 1 = y 1 := Fin.ext (by blk_simp [i5])
  have b := a (y 0) ((win0_5.blk t).view.emb y 0) e0 (y 1)
  rw [e1]
  exact (congrArg S.1 (eq_ix2 y)).trans b

end Cert.Ffn

end

end
-- ==== Proof.FfnEntry.lean ====
/- The arrays the feed-forward kernel is launched on, from the arguments, and the result from the array it writes. -/
module

public import proofs.«01_k».proof.Proof.FfnArr

@[expose] public section

set_option maxRecDepth 16384

noncomputable section

namespace Cert.Ffn

open Cert.Kernel2Ideal Cert.Kernel2Ideal.Gen Idealize.ShloMosaic Idealize.ShloMosaic.TcCoe Idealize.SL.Sem Cert.FfnMath

variable (m : (ℓ : Loc nD τ sig) → Buf (Elt Ideal) ℓ)

/-- The arguments, as plain functions. -/
def argX (c : Dev nD) : S2x4112x2048.Idx → EReal := m ((c : Thread nD τ).loc main_arg0)
def argG (c : Dev nD) : S2048.Idx → EReal := m ((c : Thread nD τ).loc main_arg1)
def argWg (c : Dev nD) : S2048x5632.Idx → EReal := m ((c : Thread nD τ).loc main_arg2)
def argWu (c : Dev nD) : S2048x5632.Idx → EReal := m ((c : Thread nD τ).loc main_arg3)
def argWd (c : Dev nD) : S5632x2048.Idx → EReal := m ((c : Thread nD τ).loc main_arg4)

theorem sitofp_zero : (FloatOps.sitofp FTy.f32 (0#32 : BitVec 32) : Ideal .f32) = (0 : EReal) := by
  show (((0#32 : BitVec 32).toInt : ℝ) : EReal) = 0
  simp

theorem ax_at (c : Dev nD) (p : Fin 8704) (e : Fin 2048) :
    ax m c (ix2 p e) = if h' : p.val / 4352 < 2 ∧ p.val % 4352 < 4112 then argX m c (ix3 ⟨p.val / 4352, h'.1⟩ ⟨p.val % 4352, h'.2⟩ e) else 0 := by
  rw [← sitofp_zero]
  unfold ax V argX
  after_reads_at

theorem ag_at (c : Dev nD) (e : Fin 2048) : ag m c (ix2 (0 : Fin 1) e) = argG m c (ix1 e) := by
  unfold ag V argG
  after_reads_at

theorem awg_at (c : Dev nD) (k : Fin 2048) (f : Fin 5632) : awg m c (ix2 k f) = argWg m c (ix2 k f) := by
  unfold awg V argWg
  after_reads_at

theorem awu_at (c : Dev nD) (k : Fin 2048) (f : Fin 5632) : awu m c (ix2 k f) = argWu m c (ix2 k f) := by
  unfold awu V argWu
  after_reads_at

theorem awd_at (c : Dev nD) (f : Fin 5632) (e : Fin 2048) : awd m c (ix2 f e) = argWd m c (ix2 f e) := by
  unfold awd V argWd
  after_reads_at

/-- The result, as a plain function. -/
def res (c : Dev nD) : S2x4096x2048.Idx → EReal := Pipeline.afterTail₀ cfgs (dats m) 0 (V0 m) [hostOps1] c main_v8

theorem res_at (c : Dev nD) (b : Fin 2) (t : Fin 4096) (e : Fin 2048) :
    res m c (ix3 b t e) = outA m c ⟨b.val * 4352 + (16 + t.val), by have := b.isLt; have := t.isLt; omega⟩ e := by
  unfold res Pipeline.afterTail₀
  generalize hW : Pipeline.withArrays _ _ _ _ = W
  after_reads_at
  have e : W (Proc.tc.devRef main_v6) = (dats m 0 c).arrAt 5 cfg0.N := by
    rw [← hW]
    exact Pipeline.withArrays_arr (cfgs 0).spec launch0.win.arr_inj c (V0 m c) _ 5
  exact (congrFun (e.trans (arr_eq m c)) _)

/-- The result at an index, from the arguments. -/
theorem res_eq (c : Dev nD) (b : Fin 2) (t : Fin 4096) (e : Fin 2048) (t' : Fin 4112) (ht : t'.val = 16 + t.val) :
    res m c (ix3 b t e) = argX m c (ix3 b t' e) + ∑ f : Fin 5632, act (dotc (nrm (fun k => argX m c (ix3 b t' k)) fun k => argG m c (ix1 k)) fun k => argWg m c (ix2 k f))
          (dotc (nrm (fun k => argX m c (ix3 b t' k)) fun k => argG m c (ix1 k)) fun k => argWu m c (ix2 k f)) * argWd m c (ix2 f e) := by
  have hb := b.isLt
  have h4 := t'.isLt
  have hx : ∀ (q : Fin 8704) (hq : q.val = b.val * 4352 + (16 + t.val)) (k : Fin 2048), ax m c (ix2 q k) = argX m c (ix3 b t' k) := fun q hq k => by
    have d : q.val / 4352 = b.val := by omega
    have r : q.val % 4352 = t'.val := by omega
    rw [ax_at, dif_pos ⟨by omega, by omega⟩]
    exact congrArg (argX m c) (congrArg₂ (fun x y => ix3 x y k) (Fin.ext d) (Fin.ext r))
  rw [res_at]
  unfold outA term hrow
  simp only [hx ⟨b.val * 4352 + (16 + t.val), by have := t.isLt; omega⟩ rfl, ag_at, awg_at, awu_at, awd_at]

end Cert.Ffn

end

end
-- ==== Proof.FfnRef.lean ====
/- The feed-forward reference read at one index. -/
module

public import proofs.«01_k».proof.Proof.Gen.Reference2Ideal.Run
public import proofs.«01_k».proof.Proof.FfnMath

@[expose] public section

set_option maxRecDepth 16384

noncomputable section

namespace Cert.FfnRef

open Cert.FfnMath Cert.Reference2Ideal Cert.Reference2Ideal.Gen Idealize.ShloMosaic Idealize.ShloMosaic.TcCoe Idealize.SL.Sem

/-- The normalised rows. -/
def nx (x : S2x4112x2048.Idx → EReal) (g : S2048.Idx → EReal) : S2x4112x2048.Idx → EReal :=
  mulf (F := Ideal) (φ := .f32) (mulf (F := Ideal) (φ := .f32) x (broadcastInDim S2x4112x2048 ![0, 1, 2] bcast_S2x4112x1_S2x4112x2048_0_1_2 (Host.rsqrt (F := Ideal) (φ := .f32) (addf (Host.divf (broadcastInDim S2x4112x1 ![0, 1] bcast_S2x4112_S2x4112x1_0_1 (Host.reduceAdd (F := Ideal) (φ := .f32) (mulf (F := Ideal) (φ := .f32) x x) (constant S_ .f32 0x00000000#32) reducesTo_S2x4112x2048_S2x4112_d2 h_S_)) (broadcastInDim S2x4112x1 ![] bcast_S_S2x4112x1 (constant S_ .f32 0x45000000#32))) (broadcastInDim S2x4112x1 ![] bcast_S_S2x4112x1 (constant S_ .f32 0x358637BD#32)))))) (broadcastInDim S2x4112x2048 ![0, 1, 2] bcast_S1x1x2048_S2x4112x2048_0_1_2 (broadcastInDim S1x1x2048 ![2] bcast_S2048_S1x1x2048_2 g))

/-- The rows times a matrix of hidden columns. -/
def up (h : S2x4112x2048.Idx → EReal) (w : S2048x5632.Idx → EReal) : S2x4112x5632.Idx → EReal :=
  Host.dotGeneral (F := Ideal) (φ₁ := .f32) (φ₂ := .f32) dot_S2x4112x2048_S2048x5632_S2x4112x5632_2_0_01_1_n_n none h w

/-- The hidden activations. -/
def hid (a b : S2x4112x5632.Idx → EReal) : S2x4112x5632.Idx → EReal :=
  mulf (F := Ideal) (φ := .f32) (mulf (F := Ideal) (φ := .f32) a (Host.divf (F := Ideal) (φ := .f32) (broadcastInDim S2x4112x5632 ![] bcast_S_S2x4112x5632 (constant S_ .f32 0x3F800000#32)) (addf (F := Ideal) (φ := .f32) (broadcastInDim S2x4112x5632 ![] bcast_S_S2x4112x5632 (constant S_ .f32 0x3F800000#32)) (Host.exp (F := Ideal) (φ := .f32) (Host.negf (F := Ideal) (φ := .f32) a))))) b

/-- The rows with half the block's output added, the meta tokens dropped. -/
def fin (x : S2x4112x2048.Idx → EReal) (a : S2x4112x5632.Idx → EReal) (w : S5632x2048.Idx → EReal) : S2x4096x2048.Idx → EReal :=
  extractStridedSlice S2x4096x2048 ![0, 16, 0] (addf (F := Ideal) (φ := .f32) x (mulf (F := Ideal) (φ := .f32) (broadcastInDim S2x4112x2048 ![] bcast_S_S2x4112x2048 (constant S_ .f32 0x3F000000#32)) (Host.dotGeneral (F := Ideal) (φ₁ := .f32) (φ₂ := .f32) dot_S2x4112x5632_S5632x2048_S2x4112x2048_2_0_01_1_n_n none a w))) slices_S2x4112x2048_S2x4096x2048_0_16_0

theorem nx_at (x : S2x4112x2048.Idx → EReal) (g : S2048.Idx → EReal) (b : Fin 2) (t : Fin 4112) (e : Fin 2048) :
    nx x g (ix3 b t e) = nrm (fun k => x (ix3 b t k)) (fun k => g (ix1 k)) e := by
  unfold nrm
  pointwise [nx]

theorem up_at (h : S2x4112x2048.Idx → EReal) (w : S2048x5632.Idx → EReal) (b : Fin 2) (t : Fin 4112) (f : Fin 5632) :
    up h w (ix3 b t f) = dotc (fun k => h (ix3 b t k)) fun k => w (ix2 k f) := by
  unfold dotc
  pointwise [up]

theorem one : Ideal.ofBits FTy.f32 0x3F800000#32 = (1 : EReal) := by
  simp [Ideal.ofBits, Ideal.ieee]
  rw [← EReal.coe_mul]
  norm_num

theorem hid_at (a' b' : S2x4112x5632.Idx → EReal) (b : Fin 2) (t : Fin 4112) (f : Fin 5632) :
    hid a' b' (ix3 b t f) = a' (ix3 b t f) * Ideal.logistic (a' (ix3 b t f)) * b' (ix3 b t f) := by
  unfold Ideal.logistic
  rw [← one]
  pointwise [hid]

theorem fin_at (x : S2x4112x2048.Idx → EReal) (a : S2x4112x5632.Idx → EReal) (w : S5632x2048.Idx → EReal) (b : Fin 2) (t : Fin 4096) (e : Fin 2048) (t' : Fin 4112) (ht : t'.val = 16 + t.val) :
    fin x a w (ix3 b t e) = x (ix3 b t' e) + half * ∑ f : Fin 5632, a (ix3 b t' f) * w (ix2 f e) := by
  obtain ⟨n, hn⟩ := t'
  replace ht : n = 16 + t.val := ht
  subst ht
  unfold half
  pointwise [fin]

/-- The reference at an index. -/
theorem ref_at (x : S2x4112x2048.Idx → EReal) (g : S2048.Idx → EReal) (wg wu : S2048x5632.Idx → EReal) (wd : S5632x2048.Idx → EReal) (b : Fin 2) (t : Fin 4096) (e : Fin 2048) (t' : Fin 4112) (ht : t'.val = 16 + t.val) :
    fin x (hid (up (nx x g) wg) (up (nx x g) wu)) wd (ix3 b t e)
      = x (ix3 b t' e) + ∑ f : Fin 5632, act (dotc (nrm (fun k => x (ix3 b t' k)) fun k => g (ix1 k)) fun k => wg (ix2 k f))
          (dotc (nrm (fun k => x (ix3 b t' k)) fun k => g (ix1 k)) fun k => wu (ix2 k f)) * wd (ix2 f e) := by
  rw [fin_at x _ wd b t e t' ht, half_sum]
  simp only [hid_at, up_at, nx_at]

end Cert.FfnRef

end

end
-- ==== Proof.FfnClaim.lean ====
/- The feed-forward claim: the two runs side by side. -/
module

public import proofs.«01_k».proof.Defs
public import proofs.«01_k».proof.Proof.FfnEntry
public import proofs.«01_k».proof.Proof.FfnRef

@[expose] public section

set_option maxRecDepth 16384

noncomputable section

namespace Cert.Ffn

open Idealize.ShloMosaic Idealize.ShloMosaic.TcCoe Idealize.SL.Sem

theorem algebraic : Cert.algebraic_Kernel2Ideal_Reference2Ideal (hKernel2Ideal := Cert.Kernel2Ideal.Gen.facts)
    (hReference2Ideal := Cert.Reference2Ideal.Gen.facts) := by
  intro m g m' g' _ hag
  refine ⟨fun c => res m c, ?_, ?_⟩
  · exact (θ_run Cert.Kernel2Ideal.defs _ _).mono (fun r h c => ⟨(h.1 c).2 Cert.Kernel2Ideal.main_v8 (Pipeline.mem_restRefs_of Cert.Kernel2Ideal.main_v8 (by decide) (by decide)), h.2 c⟩)
      (θ_run_and (Cert.Kernel2Ideal.Gen.run_main m g) (Cert.Kernel2Ideal.Gen.unchanged m g))
  · refine (θ_run Cert.Reference2Ideal.defs _ _).mono (fun r h c => ⟨(h c).1.trans ?_, (h c).2⟩) (Cert.Reference2Ideal.Value.run m' g')
    obtain ⟨a0, a1, a2, a3, a4⟩ := hag c
    refine (show _ = Cert.FfnRef.fin (argX m c) (Cert.FfnRef.hid (Cert.FfnRef.up (Cert.FfnRef.nx (argX m c) (argG m c)) (argWg m c)) (Cert.FfnRef.up (Cert.FfnRef.nx (argX m c) (argG m c)) (argWu m c))) (argWd m c) from ?_).trans ?_
    · rw [a0, a1, a2, a3, a4]
      rfl
    · funext ix
      rw [eq_ix3 ix]
      have hlt : 16 + (ix 1).val < 4112 := by have : (ix 1).val < 4096 := (ix 1).isLt; omega
      exact (Cert.FfnRef.ref_at _ _ _ _ _ (ix 0) (ix 1) (ix 2) ⟨_, hlt⟩ rfl).trans (res_eq m c (ix 0) (ix 1) (ix 2) ⟨_, hlt⟩ rfl).symm

end Cert.Ffn

end

end
-- ==== Proof.SffnPoint.lean ====
/- What one point of the sample rows' feed-forward kernel computes, entry by entry. -/
module

public import proofs.«01_k».proof.Proof.Gen.Kernel3Ideal.Frame
public import proofs.«01_k».proof.Proof.FfnMath

@[expose] public section

set_option maxRecDepth 16384

noncomputable section

namespace Cert.Sffn

open Cert.Kernel3Ideal Cert.Kernel3Ideal.Gen Idealize.ShloMosaic Idealize.ShloMosaic.TcCoe Idealize.SL.Sem Cert.FfnMath

/-- The copy of the rows the output starts from. -/
theorem pay1_at (x : S512x2048.Idx → EReal) (r : Fin 512) (e : Fin 2048) :
    k0_pay1 (F := Ideal) x (ix2 r e) = x (ix2 r e) := by
  pointwise [k0_pay1]

/-- The normalised rows. -/
theorem pay2_at (x : S512x2048.Idx → EReal) (g : S1x2048.Idx → EReal) (r : Fin 512) (e : Fin 2048) :
    k0_pay2 (F := Ideal) x g (ix2 r e) = nrm (fun k => x (ix2 r k)) (fun k => g (ix2 (0 : Fin 1) k)) e := by
  unfold nrm
  pointwise [k0_pay2, k0_pay1]

/-- The output with one block of hidden columns added. -/
theorem pay6_at (h : S512x2048.Idx → EReal) (wg wu : S1x2048x512.Idx → EReal) (wd : S1x512x2048.Idx → EReal) (o : S512x2048.Idx → EReal) (r : Fin 512) (e : Fin 2048) :
    k0_pay6 (F := Ideal) h wg wu wd o (ix2 r e)
      = o (ix2 r e) + ∑ f : Fin 512, act (dotc (fun k => h (ix2 r k)) fun k => wg (ix3 (0 : Fin 1) k f)) (dotc (fun k => h (ix2 r k)) fun k => wu (ix3 (0 : Fin 1) k f)) * wd (ix3 (0 : Fin 1) f e) := by
  unfold act dotc half
  pointwise [k0_pay6, k0_pay3, k0_pay4, k0_pay5]

end Cert.Sffn

end

end
-- ==== Proof.SffnArr.lean ====
/- The array the sample rows' feed-forward kernel writes, entry by entry, from the arrays it is launched on. -/
module

public import proofs.«01_k».proof.Proof.SffnPoint
public import Idealize.ShloMosaic.Lib.StableHlo.ReadAt

@[expose] public section

set_option maxRecDepth 16384

noncomputable section

namespace Cert.Sffn

open Cert.Kernel3Ideal Cert.Kernel3Ideal.Gen Idealize.ShloMosaic Idealize.ShloMosaic.TcCoe Idealize.SL.Sem Cert.FfnMath

variable (m : (ℓ : Loc nD τ sig) → Buf (Elt Ideal) ℓ)

theorem idx : ∀ t : Fin cfg0.N, win0_0.index t = ![t.val / 11, 0] ∧ win0_1.index t = ![0, 0] ∧ win0_2.index t = ![1, 0, t.val % 11]
    ∧ win0_3.index t = ![1, 0, t.val % 11] ∧ win0_4.index t = ![1, t.val % 11, 0] ∧ win0_5.index t = ![t.val / 11, 0] :=
  (by decide +kernel : ∀ t : Fin grid0.N, _)

/-- The five arrays the kernel is launched on, as plain functions. -/
def ax (c : Dev nD) : S512x2048.Idx → EReal := V m c main_v1
def ag (c : Dev nD) : S1x2048.Idx → EReal := V m c main_v2
def awg (c : Dev nD) : S2x2048x5632.Idx → EReal := V m c main_arg2
def awu (c : Dev nD) : S2x2048x5632.Idx → EReal := V m c main_arg3
def awd (c : Dev nD) : S2x5632x2048.Idx → EReal := V m c main_arg4

theorem V_heq (c : Dev nD) : ∀ {r r' : Ref sig .tc}, r = r' → HEq (V m c r) (V m c r')
  | _, _, rfl => HEq.rfl

theorem V_0 (c : Dev nD) : (show S512x2048.Idx → EReal from V m c (Pipeline.arrRef spec0 0)) = ax m c :=
  eq_of_heq (V_heq m c (show Pipeline.arrRef spec0 0 = main_v1 from rfl))
theorem V_1 (c : Dev nD) : (show S1x2048.Idx → EReal from V m c (Pipeline.arrRef spec0 1)) = ag m c :=
  eq_of_heq (V_heq m c (show Pipeline.arrRef spec0 1 = main_v2 from rfl))
theorem V_2 (c : Dev nD) : (show S2x2048x5632.Idx → EReal from V m c (Pipeline.arrRef spec0 2)) = awg m c :=
  eq_of_heq (V_heq m c (show Pipeline.arrRef spec0 2 = main_arg2 from rfl))
theorem V_3 (c : Dev nD) : (show S2x2048x5632.Idx → EReal from V m c (Pipeline.arrRef spec0 3)) = awu m c :=
  eq_of_heq (V_heq m c (show Pipeline.arrRef spec0 3 = main_arg3 from rfl))
theorem V_4 (c : Dev nD) : (show S2x5632x2048.Idx → EReal from V m c (Pipeline.arrRef spec0 4)) = awd m c :=
  eq_of_heq (V_heq m c (show Pipeline.arrRef spec0 4 = main_arg4 from rfl))

theorem ix (c : Dev nD) (t : Fin cfg0.N) (r : Fin 512) (e : Fin 2048) (p : Fin 512) (hp : p.val = t.val / 11 * 512 + r.val) :
    iblk m c 0 t (ix2 r e) = ax m c (ix2 p e) := by
  obtain ⟨i0, i1, i2, i3, i4, i5⟩ := idx t
  have key : ∀ X : Buf (Elt Ideal) ((c : Thread nD τ).loc (Pipeline.arrRef spec0 0)),
      ((cfg0.win 0).blk t).view.read (Elt Ideal) X (ix2 r e) = (show S512x2048.Idx → EReal from X) (ix2 p e) := by
    intro X
    have key' : ∀ Y : S512x2048.Idx → EReal, Y (((cfg0.win 0).blk t).view.emb (ix2 r e)) = Y (ix2 p e) := by
      intro Y
      congr 1
      blk_ext [i0]
    exact key' X
  unfold iblk
  refine (key _).trans ?_
  exact congrFun (V_0 m c) (ix2 p e)

theorem ig (c : Dev nD) (t : Fin cfg0.N) (e : Fin 2048) : iblk m c 1 t (ix2 (0 : Fin 1) e) = ag m c (ix2 (0 : Fin 1) e) := by
  obtain ⟨i0, i1, i2, i3, i4, i5⟩ := idx t
  have key : ∀ X : Buf (Elt Ideal) ((c : Thread nD τ).loc (Pipeline.arrRef spec0 1)),
      ((cfg0.win 1).blk t).view.read (Elt Ideal) X (ix2 (0 : Fin 1) e) = (show S1x2048.Idx → EReal from X) (ix2 (0 : Fin 1) e) := by
    intro X
    have key' : ∀ Y : S1x2048.Idx → EReal, Y (((cfg0.win 1).blk t).view.emb (ix2 (0 : Fin 1) e)) = Y (ix2 (0 : Fin 1) e) := by
      intro Y
      congr 1
      blk_ext [i1]
    exact key' X
  unfold iblk
  refine (key _).trans ?_
  exact congrFun (V_1 m c) (ix2 (0 : Fin 1) e)

theorem iwg (c : Dev nD) (t : Fin cfg0.N) (k : Fin 2048) (f : Fin 512) (f' : Fin 5632) (hf : f'.val = t.val % 11 * 512 + f.val) :
    iblk m c 2 t (ix3 (0 : Fin 1) k f) = awg m c (ix3 (1 : Fin 2) k f') := by
  obtain ⟨i0, i1, i2, i3, i4, i5⟩ := idx t
  have key : ∀ X : Buf (Elt Ideal) ((c : Thread nD τ).loc (Pipeline.arrRef spec0 2)),
      ((cfg0.win 2).blk t).view.read (Elt Ideal) X (ix3 (0 : Fin 1) k f) = (show S2x2048x5632.Idx → EReal from X) (ix3 (1 : Fin 2) k f') := by
    intro X
    have key' : ∀ Y : S2x2048x5632.Idx → EReal, Y (((cfg0.win 2).blk t).view.emb (ix3 (0 : Fin 1) k f)) = Y (ix3 (1 : Fin 2) k f') := by
      intro Y
      congr 1
      blk_ext [i2]
    exact key' X
  unfold iblk
  refine (key _).trans ?_
  exact congrFun (V_2 m c) (ix3 (1 : Fin 2) k f')

theorem iwu (c : Dev nD) (t : Fin cfg0.N) (k : Fin 2048) (f : Fin 512) (f' : Fin 5632) (hf : f'.val = t.val % 11 * 512 + f.val) :
    iblk m c 3 t (ix3 (0 : Fin 1) k f) = awu m c (ix3 (1 : Fin 2) k f') := by
  obtain ⟨i0, i1, i2, i3, i4, i5⟩ := idx t
  have key : ∀ X : Buf (Elt Ideal) ((c : Thread nD τ).loc (Pipeline.arrRef spec0 3)),
      ((cfg0.win 3).blk t).view.read (Elt Ideal) X (ix3 (0 : Fin 1) k f) = (show S2x2048x5632.Idx → EReal from X) (ix3 (1 : Fin 2) k f') := by
    intro X
    have key' : ∀ Y : S2x2048x5632.Idx → EReal, Y (((cfg0.win 3).blk t).view.emb (ix3 (0 : Fin 1) k f)) = Y (ix3 (1 : Fin 2) k f') := by
      intro Y
      congr 1
      blk_ext [i3]
    exact key' X
  unfold iblk
  refine (key _).trans ?_
  exact congrFun (V_3 m c) (ix3 (1 : Fin 2) k f')

theorem iwd (c : Dev nD) (t : Fin cfg0.N) (f : Fin 512) (e : Fin 2048) (f' : Fin 5632) (hf : f'.val = t.val % 11 * 512 + f.val) :
    iblk m c 4 t (ix3 (0 : Fin 1) f e) = awd m c (ix3 (1 : Fin 2) f' e) := by
  obtain ⟨i0, i1, i2, i3, i4, i5⟩ := idx t
  have key : ∀ X : Buf (Elt Ideal) ((c : Thread nD τ).loc (Pipeline.arrRef spec0 4)),
      ((cfg0.win 4).blk t).view.read (Elt Ideal) X (ix3 (0 : Fin 1) f e) = (show S2x5632x2048.Idx → EReal from X) (ix3 (1 : Fin 2) f' e) := by
    intro X
    have key' : ∀ Y : S2x5632x2048.Idx → EReal, Y (((cfg0.win 4).blk t).view.emb (ix3 (0 : Fin 1) f e)) = Y (ix3 (1 : Fin 2) f' e) := by
      intro Y
      congr 1
      blk_ext [i4]
    exact key' X
  unfold iblk
  refine (key _).trans ?_
  exact congrFun (V_4 m c) (ix3 (1 : Fin 2) f' e)

/-- A row of the array, normalised. -/
def hrow (c : Dev nD) (p : Fin 512) : Fin 2048 → EReal := nrm (fun k => ax m c (ix2 p k)) fun k => ag m c (ix2 (0 : Fin 1) k)

/-- What hidden column `f` adds to one entry of the output. -/
def term (c : Dev nD) (p : Fin 512) (e : Fin 2048) (f : Fin 5632) : EReal :=
  act (dotc (hrow m c p) fun k => awg m c (ix3 (1 : Fin 2) k f)) (dotc (hrow m c p) fun k => awu m c (ix3 (1 : Fin 2) k f)) * awd m c (ix3 (1 : Fin 2) f e)

/-- What one block of hidden columns adds to it. -/
def part (c : Dev nD) (p : Fin 512) (e : Fin 2048) (j : ℕ) : EReal :=
  ∑ f : Fin 512, term m c p e ⟨(j % 11) * 512 + f.val, by have := f.isLt; have := Nat.mod_lt j (show 0 < 11 by decide); omega⟩

/-- One entry of the array the kernel writes. -/
def outA (c : Dev nD) (p : Fin 512) (e : Fin 2048) : EReal := ax m c (ix2 p e) + ∑ f : Fin 5632, term m c p e f

theorem N_eq : cfg0.N = 11 := by decide +kernel

/-- One point's update, from a row already normalised. -/
theorem step (c : Dev nD) (t : Fin cfg0.N) (h o : S512x2048.Idx → EReal) (r : Fin 512) (e : Fin 2048) (p : Fin 512) (hh : ∀ k, h (ix2 r k) = hrow m c p k) :
    k0_pay6 (F := Ideal) h (iblk m c 2 t) (iblk m c 3 t) (iblk m c 4 t) o (ix2 r e) = o (ix2 r e) + part m c p e t.val := by
  refine (pay6_at h _ _ _ o r e).trans ?_
  rw [show (fun k => h (ix2 r k)) = hrow m c p from funext hh]
  unfold part term
  refine congrArg (o (ix2 r e) + ·) (Finset.sum_congr rfl fun f _ => ?_)
  have hf : t.val % 11 * 512 + f.val < 5632 := by have := f.isLt; have := Nat.mod_lt t.val (show 0 < 11 by decide); omega
  exact congrArg₂ (· * ·) (congrArg₂ act (congrArg (dotc _) (funext fun k => iwg m c t k f ⟨_, hf⟩ rfl)) (congrArg (dotc _) (funext fun k => iwu m c t k f ⟨_, hf⟩ rfl)))
    (iwd m c t f e ⟨_, hf⟩ rfl)

/-- A point that does not start a run keeps the normalised rows. -/
theorem kept (c : Dev nD) (t : Fin cfg0.N) (h0 : ¬t.val % 11 = 0) :
    (outsAt0 m c t.val t.isLt).2.2.2.2 = (outsAt0 m c (t.val - 1) (Nat.lt_of_le_of_lt (Nat.sub_le _ _) t.isLt)).2.2.2.2 := by
  rw [outsAt0_B m c t h0]
  dsimp only [sout0_B_0]

/-- The output after a point that does not start a run, over what the point before left. -/
theorem outB (c : Dev nD) (t : Fin cfg0.N) (h0 : ¬t.val % 11 = 0) (r : Fin 512) (e : Fin 2048) (S : Vec Ideal S512x2048 .f32 × Vec Ideal S2048x512 .bf16 × Vec Ideal S2048x512 .bf16 × Vec Ideal S512x2048 .bf16 × Vec Ideal S512x2048 .bf16) (hS : outsAt0 m c (t.val - 1) (Nat.lt_of_le_of_lt (Nat.sub_le _ _) t.isLt) = S) :
    (outsAt0 m c t.val t.isLt).1 (ix2 r e) = k0_pay6 (F := Ideal) S.2.2.2.2 (iblk m c 2 t) (iblk m c 3 t) (iblk m c 4 t) S.1 (ix2 r e) := by
  rw [outsAt0_B m c t h0, hS]
  dsimp only
  frame_out
  rw [show (View.whole cc0_scratch0).read (Elt Ideal) _ = S.2.2.2.2 from Memref.IsWhole.read_unread _ _]

/-- After a point: the rows normalised, and the blocks of hidden columns so far added. -/
theorem after_at (c : Dev nD) : ∀ (n : ℕ) (hn : n < cfg0.N) (r : Fin 512) (p : Fin 512) (hp : p.val = n / 11 * 512 + r.val),
    (∀ k, (outsAt0 m c n hn).2.2.2.2 (ix2 r k) = hrow m c p k)
      ∧ ∀ e, (outsAt0 m c n hn).1 (ix2 r e) = ax m c (ix2 p e) + ∑ j ∈ Finset.range (n % 11 + 1), part m c p e j := by
  intro n
  induction n using Nat.strong_induction_on with
  | _ n ih =>
    intro hn r p hp
    by_cases h0 : n % 11 = 0
    · rw [outsAt0_A m c ⟨n, hn⟩ h0]
      have hs : ∀ k, k0_pay2 (F := Ideal) (iblk m c 0 ⟨n, hn⟩) (iblk m c 1 ⟨n, hn⟩) (ix2 r k) = hrow m c p k := fun k => by
        refine (pay2_at _ _ r k).trans ?_
        unfold hrow
        rw [show (fun k => iblk m c 0 ⟨n, hn⟩ (ix2 r k)) = _ from funext fun k => ix m c ⟨n, hn⟩ r k p hp, show (fun k => iblk m c 1 ⟨n, hn⟩ (ix2 (0 : Fin 1) k)) = _ from funext fun k => ig m c ⟨n, hn⟩ k]
      constructor
      · intro k
        dsimp only
        frame_out
        exact hs k
      · intro e
        dsimp only
        frame_out
        refine (step m c ⟨n, hn⟩ _ _ r e p hs).trans ?_
        rw [pay1_at, ix m c ⟨n, hn⟩ r e p hp, h0, Finset.sum_range_one]
        unfold part
        simp only [h0]
    · have hlt : n - 1 < n := by omega
      obtain ⟨hs, ho⟩ := ih (n - 1) hlt (by omega) r p (by rw [hp]; congr 2; omega)
      refine ⟨fun k => (congrFun (kept m c ⟨n, hn⟩ h0) (ix2 r k)).trans (hs k), ?_⟩
      intro e
      refine (outB m c ⟨n, hn⟩ h0 r e _ rfl).trans ?_
      refine (step m c ⟨n, hn⟩ _ _ r e p hs).trans ?_
      rw [show ((outsAt0 m c (n - 1) (by omega)).1 (ix2 r e)) = _ from ho e, show (n - 1) % 11 + 1 = n % 11 by omega, Finset.sum_range_succ, add_assoc]
      unfold part
      simp only [Nat.mod_mod]

/-- The blocks of hidden columns together. -/
theorem sum_parts (c : Dev nD) (p : Fin 512) (e : Fin 2048) : ∑ j ∈ Finset.range 11, part m c p e j = ∑ f : Fin 5632, term m c p e f := by
  rw [Finset.sum_range]
  unfold part
  refine Fin.sum_mul_add_congr (S := 11) (n := 512) (fun s k hl => ?_) (by decide)
  refine congrArg (term m c _ _) (Fin.ext ?_)
  show s.val % 11 * 512 + k.val = s.val * 512 + k.val
  rw [Nat.mod_eq_of_lt s.isLt]

theorem arr_eq (c : Dev nD) : (dats m 0 c).arrAt 5 cfg0.N = fun y : S512x2048.Idx => outA m c (y 0) (y 1) := by
  refine (dats m 0 c).arrAt_eq_of_covers 5 _ (by decide +kernel) fun t ht y => ?_
  have h10 : t.val % 11 = 10 := (flush0_5 t).mp ht
  obtain ⟨i0, i1, i2, i3, i4, i5⟩ := idx t
  blk_simp
  rw [after0_5]
  have a : ∀ (r : Fin 512) (p : Fin 512) (hp : p.val = t.val / 11 * 512 + r.val) (e : Fin 2048), (outsAt0 m c t.val t.isLt).1 (ix2 r e) = outA m c p e := fun r p hp e => by
    rw [(after_at m c t.val t.isLt r p hp).2 e, h10, sum_parts]
    rfl
  generalize outsAt0 m c t.val t.isLt = S at a ⊢
  have e0 : ((win0_5.blk t).view.emb y 0).val = t.val / 11 * 512 + (y 0).val := by blk_simp [i5]
  have e1 : (win0_5.blk t).view.emb y 1 = y 1 := Fin.ext (by blk_simp [i5])
  have b := a (y 0) ((win0_5.blk t).view.emb y 0) e0 (y 1)
  rw [e1]
  exact (congrArg S.1 (eq_ix2 y)).trans b

end Cert.Sffn

end

end
-- ==== Proof.SffnEntry.lean ====
/- The arrays the sample rows' feed-forward kernel is launched on, from the arguments, and the result from the array it writes. -/
module

public import proofs.«01_k».proof.Proof.SffnArr

@[expose] public section

set_option maxRecDepth 16384

noncomputable section

namespace Cert.Sffn

open Cert.Kernel3Ideal Cert.Kernel3Ideal.Gen Idealize.ShloMosaic Idealize.ShloMosaic.TcCoe Idealize.SL.Sem Cert.FfnMath

variable (m : (ℓ : Loc nD τ sig) → Buf (Elt Ideal) ℓ)

/-- The arguments, as plain functions. -/
def argX (c : Dev nD) : S128x4x2048.Idx → EReal := m ((c : Thread nD τ).loc main_arg0)
def argG (c : Dev nD) : S2048.Idx → EReal := m ((c : Thread nD τ).loc main_arg1)
def argWg (c : Dev nD) : S2x2048x5632.Idx → EReal := m ((c : Thread nD τ).loc main_arg2)
def argWu (c : Dev nD) : S2x2048x5632.Idx → EReal := m ((c : Thread nD τ).loc main_arg3)
def argWd (c : Dev nD) : S2x5632x2048.Idx → EReal := m ((c : Thread nD τ).loc main_arg4)

theorem ax_at (c : Dev nD) (p : Fin 512) (e : Fin 2048) :
    ax m c (ix2 p e) = argX m c (ix3 ⟨p.val % 128, Nat.mod_lt _ (by decide)⟩ ⟨p.val / 128, by have := p.isLt; omega⟩ e) := by
  unfold ax V argX
  after_reads_at

theorem ag_at (c : Dev nD) (e : Fin 2048) : ag m c (ix2 (0 : Fin 1) e) = argG m c (ix1 e) := by
  unfold ag V argG
  after_reads_at

theorem awg_at (c : Dev nD) (k : Fin 2048) (f : Fin 5632) : awg m c (ix3 (1 : Fin 2) k f) = argWg m c (ix3 (1 : Fin 2) k f) := by
  unfold awg V argWg
  after_reads_at

theorem awu_at (c : Dev nD) (k : Fin 2048) (f : Fin 5632) : awu m c (ix3 (1 : Fin 2) k f) = argWu m c (ix3 (1 : Fin 2) k f) := by
  unfold awu V argWu
  after_reads_at

theorem awd_at (c : Dev nD) (f : Fin 5632) (e : Fin 2048) : awd m c (ix3 (1 : Fin 2) f e) = argWd m c (ix3 (1 : Fin 2) f e) := by
  unfold awd V argWd
  after_reads_at

/-- The result, as a plain function. -/
def res (c : Dev nD) : S128x4x2048.Idx → EReal := Pipeline.afterTail₀ cfgs (dats m) 0 (V0 m) [hostOps1] c main_v5

theorem res_at (c : Dev nD) (b : Fin 128) (t : Fin 4) (e : Fin 2048) :
    res m c (ix3 b t e) = outA m c ⟨t.val * 128 + b.val, by have := b.isLt; have := t.isLt; omega⟩ e := by
  unfold res Pipeline.afterTail₀
  generalize hW : Pipeline.withArrays _ _ _ _ = W
  after_reads_at
  have e : W (Proc.tc.devRef main_v3_0) = (dats m 0 c).arrAt 5 cfg0.N := by
    rw [← hW]
    exact Pipeline.withArrays_arr (cfgs 0).spec launch0.win.arr_inj c (V0 m c) _ 5
  exact (congrFun (e.trans (arr_eq m c)) _)

/-- The result at an index, from the arguments. -/
theorem res_eq (c : Dev nD) (b : Fin 128) (t : Fin 4) (e : Fin 2048) :
    res m c (ix3 b t e) = argX m c (ix3 b t e) + ∑ f : Fin 5632, act (dotc (nrm (fun k => argX m c (ix3 b t k)) fun k => argG m c (ix1 k)) fun k => argWg m c (ix3 (1 : Fin 2) k f))
          (dotc (nrm (fun k => argX m c (ix3 b t k)) fun k => argG m c (ix1 k)) fun k => argWu m c (ix3 (1 : Fin 2) k f)) * argWd m c (ix3 (1 : Fin 2) f e) := by
  have hb := b.isLt
  have hx : ∀ (q : Fin 512) (hq : q.val = t.val * 128 + b.val) (k : Fin 2048), ax m c (ix2 q k) = argX m c (ix3 b t k) := fun q hq k => by
    have d : q.val / 128 = t.val := by omega
    have r : q.val % 128 = b.val := by omega
    rw [ax_at]
    exact congrArg (argX m c) (congrArg₂ (fun x y => ix3 x y k) (Fin.ext r) (Fin.ext d))
  rw [res_at]
  unfold outA term hrow
  simp only [hx ⟨t.val * 128 + b.val, by have := t.isLt; omega⟩ rfl, ag_at, awg_at, awu_at, awd_at]

end Cert.Sffn

end

end
-- ==== Proof.SffnRef.lean ====
/- The sample rows' feed-forward reference read at one index. -/
module

public import proofs.«01_k».proof.Proof.Gen.Reference3Ideal.Run
public import proofs.«01_k».proof.Proof.FfnMath

@[expose] public section

set_option maxRecDepth 16384

noncomputable section

namespace Cert.SffnRef

open Cert.FfnMath Cert.Reference3Ideal Cert.Reference3Ideal.Gen Idealize.ShloMosaic Idealize.ShloMosaic.TcCoe Idealize.SL.Sem

/-- The normalised rows. -/
def nx (x : S128x4x2048.Idx → EReal) (g : S2048.Idx → EReal) : S128x4x2048.Idx → EReal :=
  mulf (F := Ideal) (φ := .f32) (mulf (F := Ideal) (φ := .f32) x (broadcastInDim S128x4x2048 ![0, 1, 2] bcast_S128x4x1_S128x4x2048_0_1_2 (Host.rsqrt (F := Ideal) (φ := .f32) (addf (Host.divf (broadcastInDim S128x4x1 ![0, 1] bcast_S128x4_S128x4x1_0_1 (Host.reduceAdd (F := Ideal) (φ := .f32) (mulf (F := Ideal) (φ := .f32) x x) (constant S_ .f32 0x00000000#32) reducesTo_S128x4x2048_S128x4_d2 h_S_)) (broadcastInDim S128x4x1 ![] bcast_S_S128x4x1 (constant S_ .f32 0x45000000#32))) (broadcastInDim S128x4x1 ![] bcast_S_S128x4x1 (constant S_ .f32 0x358637BD#32)))))) (broadcastInDim S128x4x2048 ![0, 1, 2] bcast_S1x1x2048_S128x4x2048_0_1_2 (broadcastInDim S1x1x2048 ![2] bcast_S2048_S1x1x2048_2 g))

/-- The rows times a matrix of hidden columns. -/
def up (h : S128x4x2048.Idx → EReal) (w : S2048x5632.Idx → EReal) : S128x4x5632.Idx → EReal :=
  Host.dotGeneral (F := Ideal) (φ₁ := .f32) (φ₂ := .f32) dot_S128x4x2048_S2048x5632_S128x4x5632_2_0_01_1_n_n none h w

/-- The hidden activations. -/
def hid (a b : S128x4x5632.Idx → EReal) : S128x4x5632.Idx → EReal :=
  mulf (F := Ideal) (φ := .f32) (mulf (F := Ideal) (φ := .f32) a (Host.divf (F := Ideal) (φ := .f32) (broadcastInDim S128x4x5632 ![] bcast_S_S128x4x5632 (constant S_ .f32 0x3F800000#32)) (addf (F := Ideal) (φ := .f32) (broadcastInDim S128x4x5632 ![] bcast_S_S128x4x5632 (constant S_ .f32 0x3F800000#32)) (Host.exp (F := Ideal) (φ := .f32) (Host.negf (F := Ideal) (φ := .f32) a))))) b

/-- The second matrix of a pair, of either shape. -/
def w1 (w : S2x2048x5632.Idx → EReal) : S2048x5632.Idx → EReal :=
  shapeCast S2048x5632 (extractStridedSlice S1x2048x5632 ![1, 0, 0] w slices_S2x2048x5632_S1x2048x5632_1_0_0) shapeCasts_S1x2048x5632_S2048x5632
def w1d (w : S2x5632x2048.Idx → EReal) : S5632x2048.Idx → EReal :=
  shapeCast S5632x2048 (extractStridedSlice S1x5632x2048 ![1, 0, 0] w slices_S2x5632x2048_S1x5632x2048_1_0_0) shapeCasts_S1x5632x2048_S5632x2048

/-- The rows with half the block's output added. -/
def fin (x : S128x4x2048.Idx → EReal) (a : S128x4x5632.Idx → EReal) (w : S5632x2048.Idx → EReal) : S128x4x2048.Idx → EReal :=
  addf (F := Ideal) (φ := .f32) x (mulf (F := Ideal) (φ := .f32) (broadcastInDim S128x4x2048 ![] bcast_S_S128x4x2048 (constant S_ .f32 0x3F000000#32)) (Host.dotGeneral (F := Ideal) (φ₁ := .f32) (φ₂ := .f32) dot_S128x4x5632_S5632x2048_S128x4x2048_2_0_01_1_n_n none a w))

theorem w1_at (w : S2x2048x5632.Idx → EReal) (k : Fin 2048) (f : Fin 5632) : w1 w (ix2 k f) = w (ix3 (1 : Fin 2) k f) := by
  pointwise [w1]
theorem w1d_at (w : S2x5632x2048.Idx → EReal) (f : Fin 5632) (e : Fin 2048) : w1d w (ix2 f e) = w (ix3 (1 : Fin 2) f e) := by
  pointwise [w1d]

theorem nx_at (x : S128x4x2048.Idx → EReal) (g : S2048.Idx → EReal) (b : Fin 128) (t : Fin 4) (e : Fin 2048) :
    nx x g (ix3 b t e) = nrm (fun k => x (ix3 b t k)) (fun k => g (ix1 k)) e := by
  unfold nrm
  pointwise [nx]

theorem up_at (h : S128x4x2048.Idx → EReal) (w : S2048x5632.Idx → EReal) (b : Fin 128) (t : Fin 4) (f : Fin 5632) :
    up h w (ix3 b t f) = dotc (fun k => h (ix3 b t k)) fun k => w (ix2 k f) := by
  unfold dotc
  pointwise [up]

theorem one : Ideal.ofBits FTy.f32 0x3F800000#32 = (1 : EReal) := by
  simp [Ideal.ofBits, Ideal.ieee]
  rw [← EReal.coe_mul]
  norm_num

theorem hid_at (a' b' : S128x4x5632.Idx → EReal) (b : Fin 128) (t : Fin 4) (f : Fin 5632) :
    hid a' b' (ix3 b t f) = a' (ix3 b t f) * Ideal.logistic (a' (ix3 b t f)) * b' (ix3 b t f) := by
  unfold Ideal.logistic
  rw [← one]
  pointwise [hid]

theorem fin_at (x : S128x4x2048.Idx → EReal) (a : S128x4x5632.Idx → EReal) (w : S5632x2048.Idx → EReal) (b : Fin 128) (t : Fin 4) (e : Fin 2048) :
    fin x a w (ix3 b t e) = x (ix3 b t e) + half * ∑ f : Fin 5632, a (ix3 b t f) * w (ix2 f e) := by
  unfold half
  pointwise [fin]

/-- The reference at an index. -/
theorem ref_at (x : S128x4x2048.Idx → EReal) (g : S2048.Idx → EReal) (wg wu : S2x2048x5632.Idx → EReal) (wd : S2x5632x2048.Idx → EReal) (b : Fin 128) (t : Fin 4) (e : Fin 2048) :
    fin x (hid (up (nx x g) (w1 wg)) (up (nx x g) (w1 wu))) (w1d wd) (ix3 b t e)
      = x (ix3 b t e) + ∑ f : Fin 5632, act (dotc (nrm (fun k => x (ix3 b t k)) fun k => g (ix1 k)) fun k => wg (ix3 (1 : Fin 2) k f))
          (dotc (nrm (fun k => x (ix3 b t k)) fun k => g (ix1 k)) fun k => wu (ix3 (1 : Fin 2) k f)) * wd (ix3 (1 : Fin 2) f e) := by
  rw [fin_at x _ _ b t e, half_sum]
  simp only [hid_at, up_at, nx_at, w1_at, w1d_at]

end Cert.SffnRef

end

end
-- ==== Proof.SffnClaim.lean ====
/- The sample rows' feed-forward claim: the two runs side by side. -/
module

public import proofs.«01_k».proof.Defs
public import proofs.«01_k».proof.Proof.SffnEntry
public import proofs.«01_k».proof.Proof.SffnRef

@[expose] public section

set_option maxRecDepth 16384

noncomputable section

namespace Cert.Sffn

open Idealize.ShloMosaic Idealize.ShloMosaic.TcCoe Idealize.SL.Sem

theorem algebraic : Cert.algebraic_Kernel3Ideal_Reference3Ideal (hKernel3Ideal := Cert.Kernel3Ideal.Gen.facts)
    (hReference3Ideal := Cert.Reference3Ideal.Gen.facts) := by
  intro m g m' g' _ hag
  refine ⟨fun c => res m c, ?_, ?_⟩
  · exact (θ_run Cert.Kernel3Ideal.defs _ _).mono (fun r h c => ⟨(h.1 c).2 Cert.Kernel3Ideal.main_v5 (Pipeline.mem_restRefs_of Cert.Kernel3Ideal.main_v5 (by decide) (by decide)), h.2 c⟩)
      (θ_run_and (Cert.Kernel3Ideal.Gen.run_main m g) (Cert.Kernel3Ideal.Gen.unchanged m g))
  · refine (θ_run Cert.Reference3Ideal.defs _ _).mono (fun r h c => ⟨(h c).1.trans ?_, (h c).2⟩) (Cert.Reference3Ideal.Value.run m' g')
    obtain ⟨a0, a1, a2, a3, a4⟩ := hag c
    refine (show _ = Cert.SffnRef.fin (argX m c) (Cert.SffnRef.hid (Cert.SffnRef.up (Cert.SffnRef.nx (argX m c) (argG m c)) (Cert.SffnRef.w1 (argWg m c))) (Cert.SffnRef.up (Cert.SffnRef.nx (argX m c) (argG m c)) (Cert.SffnRef.w1 (argWu m c)))) (Cert.SffnRef.w1d (argWd m c)) from ?_).trans ?_
    · rw [a0, a1, a2, a3, a4]
      rfl
    · funext ix
      rw [eq_ix3 ix]
      exact (Cert.SffnRef.ref_at _ _ _ _ _ (ix 0) (ix 1) (ix 2)).trans (res_eq m c (ix 0) (ix 1) (ix 2)).symm

end Cert.Sffn

end

end
-- ==== Proof.InpMath.lean ====
/- The projections' rows: a row of 256 entries divided by its root mean square, and a row of real entries times a negated column. -/
module

public import proofs.«01_k».proof.Proof.FfnMath

@[expose] public section

noncomputable section

namespace Cert.InpMath

open Idealize.ShloMosaic Cert.FfnMath

/-- A row of 256 entries divided by the root of its mean square, times the gains. -/
def nrmc (row g : Fin 256 → EReal) (e : Fin 256) : EReal :=
  row e * Ideal.rsqrt (Ideal.div (∑ k, row k * row k) (Ideal.ofBits FTy.f32 0x43800000#32) + Ideal.ofBits FTy.f32 0x358637BD#32) * g e

theorem width_eq : Ideal.ofBits FTy.f32 0x45000000#32 = ((2048 : ℝ) : EReal) := by
  simp [Ideal.ofBits, Ideal.ieee]
  rw [← EReal.coe_mul]
  norm_num

theorem eps_eq : ∃ e : ℝ, 0 < e ∧ Ideal.ofBits FTy.f32 0x358637BD#32 = (e : EReal) := by
  simp only [Ideal.ofBits, Ideal.ieee]
  norm_num
  exact ⟨_, by positivity, (EReal.coe_mul _ _).symm⟩

/-- A normalised row of real entries is real. -/
theorem nrm_real (x g : Fin 2048 → ℝ) (e : Fin 2048) : ∃ r : ℝ, nrm (fun k => (x k : EReal)) (fun k => (g k : EReal)) e = (r : EReal) := by
  obtain ⟨ε, hε, he⟩ := eps_eq
  unfold nrm
  rw [he, width_eq]
  simp only [← EReal.coe_mul, ← Online.coe_sum]
  have hd : Ideal.div ((∑ k, x k * x k : ℝ) : EReal) ((2048 : ℝ) : EReal) = (((∑ k, x k * x k) * (2048 : ℝ)⁻¹ : ℝ) : EReal) := by
    unfold Ideal.div
    rw [if_neg (by norm_num), ← EReal.coe_inv, ← EReal.coe_mul]
  have hp : 0 < (∑ k, x k * x k) * (2048 : ℝ)⁻¹ + ε := by
    have : 0 ≤ ∑ k, x k * x k := Finset.sum_nonneg fun k _ => mul_self_nonneg (x k)
    positivity
  rw [hd, ← EReal.coe_add, Ideal.rsqrt_coe, if_neg (not_lt.mpr hp.le), if_neg hp.ne', ← EReal.coe_mul, ← EReal.coe_mul]
  exact ⟨_, rfl⟩

/-- A row of real entries times a negated column of real entries. -/
theorem dotc_neg (h w : Fin 2048 → EReal) (hh : ∀ k, ∃ r : ℝ, h k = (r : EReal)) (hw : ∀ k, ∃ r : ℝ, w k = (r : EReal)) :
    dotc h (fun k => -(w k)) = -(dotc h w) := by
  choose a ha using hh
  choose b hb using hw
  unfold dotc
  simp only [ha, hb, ← EReal.coe_neg, ← EReal.coe_mul, ← Online.coe_sum]
  norm_num

/-- The angle of a position in the rotation's column `i`. -/
def ang (p : BitVec 32) (i : ℕ) : EReal :=
  (FloatOps.sitofp FTy.f32 p : Ideal .f32) * Ideal.pow (Ideal.ofBits FTy.f32 1176256512#32)
    (Ideal.div (-(FloatOps.sitofp FTy.f32 (BitVec.ofNat 32 i) : Ideal .f32)) (Ideal.ofBits FTy.f32 1107296256#32))

/-- A row's rotated channels: the two halves turned by the position's angles. -/
def rot (h : Fin 2048 → EReal) (w : Fin 1856 → Fin 2048 → EReal) (p : BitVec 32) (l : Fin 64) : EReal :=
  if hl : l.val < 32 then
    dotc h (w ⟨1792 + l.val, by omega⟩) * Ideal.cos (ang p l.val) - dotc h (w ⟨1824 + l.val, by omega⟩) * Ideal.sin (ang p l.val)
  else
    dotc h (w ⟨1760 + l.val, by have := l.isLt; omega⟩) * Ideal.sin (ang p (l.val - 32)) + dotc h (w ⟨1792 + l.val, by have := l.isLt; omega⟩) * Ideal.cos (ang p (l.val - 32))

end Cert.InpMath

end

end
-- ==== Proof.InpPoint.lean ====
/- What one point of the projections' kernel computes, entry by entry. -/
module

public import proofs.«01_k».proof.Proof.Gen.Kernel4Ideal.Frame
public import proofs.«01_k».proof.Proof.InpMath

@[expose] public section

set_option maxRecDepth 16384

noncomputable section

namespace Cert.Inp

open Cert.Kernel4Ideal Cert.Kernel4Ideal.Gen Idealize.ShloMosaic Idealize.ShloMosaic.TcCoe Idealize.SL.Sem Cert.FfnMath Cert.InpMath

/-- The normalised rows times the input matrix. -/
theorem pay2_at (x : S256x2048.Idx → EReal) (g : S1x2048.Idx → EReal) (w : S1x1920x2048.Idx → EReal) (r : Fin 256) (j : Fin 1920) :
    k0_pay2 (F := Ideal) x g w (ix2 r j) = dotc (nrm (fun k => x (ix2 r k)) fun k => g (ix2 (0 : Fin 1) k)) fun k => w (ix3 (0 : Fin 1) j k) := by
  unfold dotc nrm
  pointwise [k0_pay2]

/-- The pool's channels. -/
theorem pay3_at (x : S256x2048.Idx → EReal) (g : S1x2048.Idx → EReal) (w : S1x1920x2048.Idx → EReal) (r : Fin 256) (j : Fin 1024) :
    k0_pay3 (F := Ideal) x g w (ix2 r j) = dotc (nrm (fun k => x (ix2 r k)) fun k => g (ix2 (0 : Fin 1) k)) fun k => w (ix3 (0 : Fin 1) (⟨j.val, by have := j.isLt; omega⟩ : Fin 1920) k) := by
  rw [← pay2_at]
  pointwise [k0_pay3]

/-- The latent channels. -/
theorem pay5_at (x : S256x2048.Idx → EReal) (g : S1x2048.Idx → EReal) (w : S1x1920x2048.Idx → EReal) (r : Fin 256) (j : Fin 256) :
    k0_pay5 (F := Ideal) x g w (ix2 r j) = dotc (nrm (fun k => x (ix2 r k)) fun k => g (ix2 (0 : Fin 1) k)) fun k => w (ix3 (0 : Fin 1) (⟨1536 + j.val, by have := j.isLt; omega⟩ : Fin 1920) k) := by
  rw [← pay2_at]
  pointwise [k0_pay5]

/-- The latent channels normalised. -/
theorem pay6_at (v : S256x256.Idx → EReal) (g : S1x256.Idx → EReal) (r : Fin 256) (j : Fin 256) :
    k0_pay6 (F := Ideal) v g (ix2 r j) = nrmc (fun k => v (ix2 r k)) (fun k => g (ix2 (0 : Fin 1) k)) j := by
  unfold nrmc
  pointwise [k0_pay6]

/-- The rotary key: a channel times its cosine, plus the rotated channel times its sine. -/
theorem pay9_at (z : S256x1920.Idx → EReal) (cs : S256x128.Idx → EReal) (r : Fin 256) (l : Fin 64) :
    k0_pay9 (F := Ideal) z cs (ix2 r (⟨l.val, by have := l.isLt; omega⟩ : Fin 128))
      = z (ix2 r (⟨1792 + l.val, by have := l.isLt; omega⟩ : Fin 1920)) * cs (ix2 r (⟨l.val, by have := l.isLt; omega⟩ : Fin 128))
        + z (ix2 r (⟨1856 + l.val, by have := l.isLt; omega⟩ : Fin 1920)) * cs (ix2 r (⟨64 + l.val, by have := l.isLt; omega⟩ : Fin 128)) := by
  have hl := l.isLt
  have hc : ∀ l : Fin 64, IntOp.cmpi CmpIPredicate.slt (BitVec.ofNat 32 l.val) 64#32 = 1#1 := by decide
  have e1 : (⟨1856 + l.val, by omega⟩ : Fin 1920) = ⟨1792 + (l.val + 128 - 64) % 128, by omega⟩ := Fin.ext (by show _ = _; simp only; omega)
  have e2 : (⟨64 + l.val, by omega⟩ : Fin 128) = ⟨(l.val + 128 - 64) % 128, by omega⟩ := Fin.ext (by show _ = _; simp only; omega)
  rw [e1, e2]
  pointwise [k0_pay9, k0_pay7, k0_pay8]
  rw [hc l]
  rfl

/-- The lanes after the rotary key's are zero. -/
theorem pay9_hi (z : S256x1920.Idx → EReal) (cs : S256x128.Idx → EReal) (r : Fin 256) (l : Fin 128) (h : 64 ≤ l.val) :
    k0_pay9 (F := Ideal) z cs (ix2 r l) = 0 := by
  have hc : ∀ l : Fin 128, 64 ≤ l.val → IntOp.cmpi CmpIPredicate.slt (BitVec.ofNat 32 l.val) 64#32 = 0#1 := by decide
  pointwise [k0_pay9, k0_pay7, k0_pay8]
  rw [hc l h]
  rfl

end Cert.Inp

end

end
-- ==== Proof.InpArr.lean ====
/- The arrays the projections' kernel writes, entry by entry, from the arrays it is launched on. -/
module

public import proofs.«01_k».proof.Proof.InpPoint
public import Idealize.ShloMosaic.Lib.StableHlo.ReadAt

@[expose] public section

set_option maxRecDepth 16384

noncomputable section

namespace Cert.Inp

open Cert.Kernel4Ideal Cert.Kernel4Ideal.Gen Idealize.ShloMosaic Idealize.ShloMosaic.TcCoe Idealize.SL.Sem Cert.FfnMath Cert.InpMath

variable (m : (ℓ : Loc nD τ sig) → Buf (Elt Ideal) ℓ)

theorem idx : ∀ t : Fin cfg0.N, win0_0.index t = ![t.val, 0] ∧ win0_1.index t = ![0, 0] ∧ win0_2.index t = ![1, 0, 0] ∧ win0_5.index t = ![0, 0]
    ∧ win0_8.index t = ![t.val, 0] ∧ win0_11.index t = ![t.val, 0] ∧ win0_12.index t = ![t.val, 0] ∧ win0_13.index t = ![t.val, 0] :=
  (by decide +kernel : ∀ t : Fin grid0.N, _)

theorem N_eq : cfg0.N = 34 := by decide +kernel

/-- The arrays the kernel is launched on that the results read, as plain functions. -/
def ax (c : Dev nD) : S8704x2048.Idx → EReal := V m c main_v33
def ag (c : Dev nD) : S1x2048.Idx → EReal := V m c main_v13
def aw (c : Dev nD) : S2x1920x2048.Idx → EReal := V m c main_v6
def agc (c : Dev nD) : S1x256.Idx → EReal := V m c main_v22
def acs (c : Dev nD) : S8704x128.Idx → EReal := V m c main_v52

theorem V_heq (c : Dev nD) : ∀ {r r' : Ref sig .tc}, r = r' → HEq (V m c r) (V m c r')
  | _, _, rfl => HEq.rfl

theorem V_0 (c : Dev nD) : (show S8704x2048.Idx → EReal from V m c (Pipeline.arrRef spec0 0)) = ax m c :=
  eq_of_heq (V_heq m c (show Pipeline.arrRef spec0 0 = main_v33 from rfl))
theorem V_1 (c : Dev nD) : (show S1x2048.Idx → EReal from V m c (Pipeline.arrRef spec0 1)) = ag m c :=
  eq_of_heq (V_heq m c (show Pipeline.arrRef spec0 1 = main_v13 from rfl))
theorem V_2 (c : Dev nD) : (show S2x1920x2048.Idx → EReal from V m c (Pipeline.arrRef spec0 2)) = aw m c :=
  eq_of_heq (V_heq m c (show Pipeline.arrRef spec0 2 = main_v6 from rfl))
theorem V_5 (c : Dev nD) : (show S1x256.Idx → EReal from V m c (Pipeline.arrRef spec0 5)) = agc m c :=
  eq_of_heq (V_heq m c (show Pipeline.arrRef spec0 5 = main_v22 from rfl))
theorem V_8 (c : Dev nD) : (show S8704x128.Idx → EReal from V m c (Pipeline.arrRef spec0 8)) = acs m c :=
  eq_of_heq (V_heq m c (show Pipeline.arrRef spec0 8 = main_v52 from rfl))

theorem ix (c : Dev nD) (t : Fin cfg0.N) (r : Fin 256) (e : Fin 2048) (p : Fin 8704) (hp : p.val = t.val * 256 + r.val) :
    iblk m c 0 t (ix2 r e) = ax m c (ix2 p e) := by
  obtain ⟨i0, i1, i2, i5, i8, i11, i12, i13⟩ := idx t
  have key : ∀ X : Buf (Elt Ideal) ((c : Thread nD τ).loc (Pipeline.arrRef spec0 0)),
      ((cfg0.win 0).blk t).view.read (Elt Ideal) X (ix2 r e) = (show S8704x2048.Idx → EReal from X) (ix2 p e) := by
    intro X
    have key' : ∀ Y : S8704x2048.Idx → EReal, Y (((cfg0.win 0).blk t).view.emb (ix2 r e)) = Y (ix2 p e) := by
      intro Y
      congr 1
      blk_ext [i0]
    exact key' X
  unfold iblk
  refine (key _).trans ?_
  exact congrFun (V_0 m c) (ix2 p e)

theorem ig (c : Dev nD) (t : Fin cfg0.N) (e : Fin 2048) :
    iblk m c 1 t (ix2 (0 : Fin 1) e) = ag m c (ix2 (0 : Fin 1) e) := by
  obtain ⟨i0, i1, i2, i5, i8, i11, i12, i13⟩ := idx t
  have key : ∀ X : Buf (Elt Ideal) ((c : Thread nD τ).loc (Pipeline.arrRef spec0 1)),
      ((cfg0.win 1).blk t).view.read (Elt Ideal) X (ix2 (0 : Fin 1) e) = (show S1x2048.Idx → EReal from X) (ix2 (0 : Fin 1) e) := by
    intro X
    have key' : ∀ Y : S1x2048.Idx → EReal, Y (((cfg0.win 1).blk t).view.emb (ix2 (0 : Fin 1) e)) = Y (ix2 (0 : Fin 1) e) := by
      intro Y
      congr 1
      blk_ext [i1]
    exact key' X
  unfold iblk
  refine (key _).trans ?_
  exact congrFun (V_1 m c) (ix2 (0 : Fin 1) e)

theorem iw (c : Dev nD) (t : Fin cfg0.N) (j : Fin 1920) (k : Fin 2048) :
    iblk m c 2 t (ix3 (0 : Fin 1) j k) = aw m c (ix3 (1 : Fin 2) j k) := by
  obtain ⟨i0, i1, i2, i5, i8, i11, i12, i13⟩ := idx t
  have key : ∀ X : Buf (Elt Ideal) ((c : Thread nD τ).loc (Pipeline.arrRef spec0 2)),
      ((cfg0.win 2).blk t).view.read (Elt Ideal) X (ix3 (0 : Fin 1) j k) = (show S2x1920x2048.Idx → EReal from X) (ix3 (1 : Fin 2) j k) := by
    intro X
    have key' : ∀ Y : S2x1920x2048.Idx → EReal, Y (((cfg0.win 2).blk t).view.emb (ix3 (0 : Fin 1) j k)) = Y (ix3 (1 : Fin 2) j k) := by
      intro Y
      congr 1
      blk_ext [i2]
    exact key' X
  unfold iblk
  refine (key _).trans ?_
  exact congrFun (V_2 m c) (ix3 (1 : Fin 2) j k)

theorem igc (c : Dev nD) (t : Fin cfg0.N) (e : Fin 256) :
    iblk m c 5 t (ix2 (0 : Fin 1) e) = agc m c (ix2 (0 : Fin 1) e) := by
  obtain ⟨i0, i1, i2, i5, i8, i11, i12, i13⟩ := idx t
  have key : ∀ X : Buf (Elt Ideal) ((c : Thread nD τ).loc (Pipeline.arrRef spec0 5)),
      ((cfg0.win 5).blk t).view.read (Elt Ideal) X (ix2 (0 : Fin 1) e) = (show S1x256.Idx → EReal from X) (ix2 (0 : Fin 1) e) := by
    intro X
    have key' : ∀ Y : S1x256.Idx → EReal, Y (((cfg0.win 5).blk t).view.emb (ix2 (0 : Fin 1) e)) = Y (ix2 (0 : Fin 1) e) := by
      intro Y
      congr 1
      blk_ext [i5]
    exact key' X
  unfold iblk
  refine (key _).trans ?_
  exact congrFun (V_5 m c) (ix2 (0 : Fin 1) e)

theorem ics (c : Dev nD) (t : Fin cfg0.N) (r : Fin 256) (e : Fin 128) (p : Fin 8704) (hp : p.val = t.val * 256 + r.val) :
    iblk m c 8 t (ix2 r e) = acs m c (ix2 p e) := by
  obtain ⟨i0, i1, i2, i5, i8, i11, i12, i13⟩ := idx t
  have key : ∀ X : Buf (Elt Ideal) ((c : Thread nD τ).loc (Pipeline.arrRef spec0 8)),
      ((cfg0.win 8).blk t).view.read (Elt Ideal) X (ix2 r e) = (show S8704x128.Idx → EReal from X) (ix2 p e) := by
    intro X
    have key' : ∀ Y : S8704x128.Idx → EReal, Y (((cfg0.win 8).blk t).view.emb (ix2 r e)) = Y (ix2 p e) := by
      intro Y
      congr 1
      blk_ext [i8]
    exact key' X
  unfold iblk
  refine (key _).trans ?_
  exact congrFun (V_8 m c) (ix2 p e)

/-- One channel of a row: the row normalised, times a row of the matrix. -/
def chan (c : Dev nD) (p : Fin 8704) (j : Fin 1920) : EReal :=
  dotc (nrm (fun k => ax m c (ix2 p k)) fun k => ag m c (ix2 (0 : Fin 1) k)) fun k => aw m c (ix3 (1 : Fin 2) j k)

/-- The latent row, normalised. -/
def lat (c : Dev nD) (p : Fin 8704) (j : Fin 256) : EReal :=
  nrmc (fun k => chan m c p ⟨1536 + k.val, by have := k.isLt; omega⟩) (fun k => agc m c (ix2 (0 : Fin 1) k)) j

/-- The rotary key. -/
def key (c : Dev nD) (p : Fin 8704) (l : Fin 64) : EReal :=
  chan m c p ⟨1792 + l.val, by have := l.isLt; omega⟩ * acs m c (ix2 p (⟨l.val, by have := l.isLt; omega⟩ : Fin 128))
    + chan m c p ⟨1856 + l.val, by have := l.isLt; omega⟩ * acs m c (ix2 p (⟨64 + l.val, by have := l.isLt; omega⟩ : Fin 128))

/-- A block's channels are the array's. -/
theorem chan_eq (c : Dev nD) (t : Fin cfg0.N) (r : Fin 256) (p : Fin 8704) (hp : p.val = t.val * 256 + r.val) (j : Fin 1920) :
    dotc (nrm (fun k => iblk m c 0 t (ix2 r k)) fun k => iblk m c 1 t (ix2 (0 : Fin 1) k)) (fun k => iblk m c 2 t (ix3 (0 : Fin 1) j k)) = chan m c p j := by
  unfold chan
  rw [show (fun k => iblk m c 0 t (ix2 r k)) = _ from funext fun k => ix m c t r k p hp, show (fun k => iblk m c 1 t (ix2 (0 : Fin 1) k)) = _ from funext fun k => ig m c t k,
    show (fun k => iblk m c 2 t (ix3 (0 : Fin 1) j k)) = _ from funext fun k => iw m c t j k]

/-- One of the pool's channels. -/
def pch (c : Dev nD) (p : Fin 8704) (j : Fin 1024) : EReal := chan m c p ⟨j.val, by have := j.isLt; omega⟩

/-- A lane of the rotary key's array. -/
def lane (c : Dev nD) (p : Fin 8704) (l : Fin 128) : EReal := if h : l.val < 64 then key m c p ⟨l.val, h⟩ else 0

theorem blk_u (c : Dev nD) (t : Fin cfg0.N) (r : Fin 256) (p : Fin 8704) (hp : p.val = t.val * 256 + r.val) (j : Fin 1024) :
    k0_pay3 (F := Ideal) (iblk m c 0 t) (iblk m c 1 t) (iblk m c 2 t) (ix2 r j) = pch m c p j :=
  (pay3_at (iblk m c 0 t) (iblk m c 1 t) (iblk m c 2 t) r j).trans (chan_eq m c t r p hp _)

theorem blk_c (c : Dev nD) (t : Fin cfg0.N) (r : Fin 256) (p : Fin 8704) (hp : p.val = t.val * 256 + r.val) (j : Fin 256) :
    k0_pay6 (F := Ideal) (k0_pay5 (F := Ideal) (iblk m c 0 t) (iblk m c 1 t) (iblk m c 2 t)) (iblk m c 5 t) (ix2 r j) = lat m c p j := by
  refine (pay6_at _ (iblk m c 5 t) r j).trans ?_
  unfold lat
  exact congrArg₂ (fun a b => nrmc a b j) (funext fun k => (pay5_at (iblk m c 0 t) (iblk m c 1 t) (iblk m c 2 t) r k).trans (chan_eq m c t r p hp _)) (funext fun k => igc m c t k)

theorem blk_k (c : Dev nD) (t : Fin cfg0.N) (r : Fin 256) (p : Fin 8704) (hp : p.val = t.val * 256 + r.val) (l : Fin 128) :
    k0_pay9 (F := Ideal) (k0_pay2 (F := Ideal) (iblk m c 0 t) (iblk m c 1 t) (iblk m c 2 t)) (iblk m c 8 t) (ix2 r l) = lane m c p l := by
  unfold lane
  by_cases h : l.val < 64
  · rw [dif_pos h]
    refine (pay9_at _ (iblk m c 8 t) r ⟨l.val, h⟩).trans ?_
    unfold key
    exact congrArg₂ (· + ·)
      (congrArg₂ (· * ·) ((pay2_at (iblk m c 0 t) (iblk m c 1 t) (iblk m c 2 t) r _).trans (chan_eq m c t r p hp _)) (ics m c t r _ p hp))
      (congrArg₂ (· * ·) ((pay2_at (iblk m c 0 t) (iblk m c 1 t) (iblk m c 2 t) r _).trans (chan_eq m c t r p hp _)) (ics m c t r _ p hp))
  · rw [dif_neg h]
    exact pay9_hi _ (iblk m c 8 t) r l (Nat.le_of_not_lt h)

theorem arr_u (c : Dev nD) : (dats m 0 c).arrAt 11 cfg0.N = fun y : S8704x1024.Idx => pch m c (y 0) (y 1) := by
  refine (dats m 0 c).arrAt_eq_of_covers 11 _ (by decide +kernel) fun t ht y => ?_
  obtain ⟨i0, i1, i2, i5, i8, i11, i12, i13⟩ := idx t
  have e0 : ((win0_11.blk t).view.emb y 0).val = t.val * 256 + (y 0).val := by blk_simp [i11]
  have e1 : (win0_11.blk t).view.emb y 1 = y 1 := Fin.ext (by blk_simp [i11])
  have b := blk_u m c t (y 0) ((win0_11.blk t).view.emb y 0) e0 (y 1)
  show _ = pch m c ((win0_11.blk t).view.emb y 0) ((win0_11.blk t).view.emb y 1)
  rw [e1, ← b]
  generalize (win0_11.blk t).view.emb y 0 = p
  blk_simp
  rw [after0_11]
  unfold_out out0_11
  frame_out
  exact congrArg _ (eq_ix2 y)

theorem arr_c (c : Dev nD) : (dats m 0 c).arrAt 12 cfg0.N = fun y : S8704x256.Idx => lat m c (y 0) (y 1) := by
  refine (dats m 0 c).arrAt_eq_of_covers 12 _ (by decide +kernel) fun t ht y => ?_
  obtain ⟨i0, i1, i2, i5, i8, i11, i12, i13⟩ := idx t
  have e0 : ((win0_12.blk t).view.emb y 0).val = t.val * 256 + (y 0).val := by blk_simp [i12]
  have e1 : (win0_12.blk t).view.emb y 1 = y 1 := Fin.ext (by blk_simp [i12])
  have b := blk_c m c t (y 0) ((win0_12.blk t).view.emb y 0) e0 (y 1)
  show _ = lat m c ((win0_12.blk t).view.emb y 0) ((win0_12.blk t).view.emb y 1)
  rw [e1, ← b]
  generalize (win0_12.blk t).view.emb y 0 = p
  blk_simp
  rw [after0_12]
  unfold_out out0_12
  frame_out
  exact congrArg _ (eq_ix2 y)

theorem arr_k (c : Dev nD) : (dats m 0 c).arrAt 13 cfg0.N = fun y : S8704x128.Idx => lane m c (y 0) (y 1) := by
  refine (dats m 0 c).arrAt_eq_of_covers 13 _ (by decide +kernel) fun t ht y => ?_
  obtain ⟨i0, i1, i2, i5, i8, i11, i12, i13⟩ := idx t
  have e0 : ((win0_13.blk t).view.emb y 0).val = t.val * 256 + (y 0).val := by blk_simp [i13]
  have e1 : (win0_13.blk t).view.emb y 1 = y 1 := Fin.ext (by blk_simp [i13])
  have b := blk_k m c t (y 0) ((win0_13.blk t).view.emb y 0) e0 (y 1)
  show _ = lane m c ((win0_13.blk t).view.emb y 0) ((win0_13.blk t).view.emb y 1)
  rw [e1, ← b]
  generalize (win0_13.blk t).view.emb y 0 = p
  blk_simp
  rw [after0_13]
  unfold_out out0_13
  frame_out
  exact congrArg _ (eq_ix2 y)

end Cert.Inp

end

end
-- ==== Proof.InpEntry.lean ====
/- The arrays the prompt's projections are launched on, from the arguments, and the results from the arrays they write. -/
module

public import proofs.«01_k».proof.Proof.InpArr

@[expose] public section

set_option maxRecDepth 16384

noncomputable section

namespace Cert.Inp

open Cert.Kernel4Ideal Cert.Kernel4Ideal.Gen Idealize.ShloMosaic Idealize.ShloMosaic.TcCoe Idealize.SL.Sem Cert.FfnMath Cert.InpMath

variable (m : (ℓ : Loc nD τ sig) → Buf (Elt Ideal) ℓ)

/-- The arguments the results read, as plain functions. -/
def argX (c : Dev nD) : S2x4112x2048.Idx → EReal := m ((c : Thread nD τ).loc main_arg0)
def argG (c : Dev nD) : S2048.Idx → EReal := m ((c : Thread nD τ).loc main_arg1)
def argW (c : Dev nD) : S2x2048x1856.Idx → EReal := m ((c : Thread nD τ).loc main_arg2)
def argC (c : Dev nD) : S256.Idx → EReal := m ((c : Thread nD τ).loc main_arg5)

theorem sitofp_zero : (FloatOps.sitofp FTy.f32 (0#32 : BitVec 32) : Ideal .f32) = (0 : EReal) := by
  show (((0#32 : BitVec 32).toInt : ℝ) : EReal) = 0
  simp

theorem ax_at (c : Dev nD) (p : Fin 8704) (e : Fin 2048) :
    ax m c (ix2 p e) = if h' : p.val / 4352 < 2 ∧ p.val % 4352 < 4112 then argX m c (ix3 ⟨p.val / 4352, h'.1⟩ ⟨p.val % 4352, h'.2⟩ e) else 0 := by
  rw [← sitofp_zero]
  unfold ax V argX
  after_reads_at

theorem ag_at (c : Dev nD) (e : Fin 2048) : ag m c (ix2 (0 : Fin 1) e) = argG m c (ix1 e) := by
  unfold ag V argG
  after_reads_at

theorem agc_at (c : Dev nD) (e : Fin 256) : agc m c (ix2 (0 : Fin 1) e) = argC m c (ix1 e) := by
  unfold agc V argC
  after_reads_at

theorem aw_at (c : Dev nD) (j : Fin 1920) (k : Fin 2048) (h : j.val < 1856) : aw m c (ix3 (1 : Fin 2) j k) = argW m c (ix3 (1 : Fin 2) k ⟨j.val, h⟩) := by
  unfold aw V argW
  after_reads_at
  rw [dif_pos h]
  after_reads_at

theorem aw_at1 (c : Dev nD) (j : Fin 1920) (k : Fin 2048) (i : Fin 1856) (h : j.val = 32 + i.val) (h1 : 1856 ≤ j.val) (h2 : j.val < 1888) :
    aw m c (ix3 (1 : Fin 2) j k) = -(argW m c (ix3 (1 : Fin 2) k i)) := by
  unfold aw V argW
  after_reads_at
  rw [dif_neg (by omega), dif_pos (by omega)]
  after_reads_at
  exact congrArg (fun x => -(argW m c (ix3 (1 : Fin 2) k x))) (Fin.ext (show 1792 + (32 + (j.val - 1856)) = i.val by omega))

theorem aw_at2 (c : Dev nD) (j : Fin 1920) (k : Fin 2048) (i : Fin 1856) (h : j.val = 96 + i.val) (h1 : 1888 ≤ j.val) :
    aw m c (ix3 (1 : Fin 2) j k) = argW m c (ix3 (1 : Fin 2) k i) := by
  unfold aw V argW
  after_reads_at
  rw [dif_neg (by omega), dif_neg (by omega)]
  after_reads_at
  exact congrArg (fun x => argW m c (ix3 (1 : Fin 2) k x)) (Fin.ext (show 1792 + (j.val - 1856 - 32) = i.val by omega))

theorem acs_at0 (c : Dev nD) (p : Fin 8704) (l : Fin 128) (h : l.val < 32) :
    acs m c (ix2 p l) = Ideal.cos (ang (BitVec.ofNat 32 (p.val % 4352)) l.val) := by
  unfold acs V ang
  after_reads_at
  rw [dif_pos (by omega)]
  after_reads_at

theorem acs_at1 (c : Dev nD) (p : Fin 8704) (l : Fin 128) (h : 32 ≤ l.val) (h' : l.val < 64) :
    acs m c (ix2 p l) = Ideal.cos (ang (BitVec.ofNat 32 (p.val % 4352)) (l.val - 32)) := by
  unfold acs V ang
  after_reads_at
  rw [dif_neg (by omega), dif_pos (by omega)]
  after_reads_at

theorem acs_at2 (c : Dev nD) (p : Fin 8704) (l : Fin 128) (h : 64 ≤ l.val) (h' : l.val < 96) :
    acs m c (ix2 p l) = Ideal.sin (ang (BitVec.ofNat 32 (p.val % 4352)) (l.val - 64)) := by
  unfold acs V ang
  after_reads_at
  rw [dif_neg (by omega), dif_neg (by omega), dif_pos (by omega)]
  after_reads_at
  rw [show l.val - 64 = l.val - 32 - 32 by omega]

theorem acs_at3 (c : Dev nD) (p : Fin 8704) (l : Fin 128) (h : 96 ≤ l.val) :
    acs m c (ix2 p l) = Ideal.sin (ang (BitVec.ofNat 32 (p.val % 4352)) (l.val - 96)) := by
  unfold acs V ang
  after_reads_at
  rw [dif_neg (by omega), dif_neg (by omega), dif_neg (by omega)]
  after_reads_at
  rw [show l.val - 96 = l.val - 32 - 32 - 32 by omega]

/-- A normalised row of the arguments, and a column of the second matrix. -/
def hrow (c : Dev nD) (b : Fin 2) (t : Fin 4112) : Fin 2048 → EReal := nrm (fun k => argX m c (ix3 b t k)) fun k => argG m c (ix1 k)
def wcol (c : Dev nD) (j : Fin 1856) (k : Fin 2048) : EReal := argW m c (ix3 (1 : Fin 2) k j)

theorem row_eq (c : Dev nD) (b : Fin 2) (t : Fin 4112) (q : Fin 8704) (hq : q.val = b.val * 4352 + t.val) :
    (fun k : Fin 2048 => ax m c (ix2 q k)) = fun k => argX m c (ix3 b t k) := by
  have hb := b.isLt
  have h4 := t.isLt
  funext k
  have d : q.val / 4352 = b.val := by omega
  have r : q.val % 4352 = t.val := by omega
  rw [ax_at, dif_pos ⟨by omega, by omega⟩]
  exact congrArg (argX m c) (congrArg₂ (fun x y => ix3 x y k) (Fin.ext d) (Fin.ext r))

theorem chan_at (c : Dev nD) (b : Fin 2) (t : Fin 4112) (q : Fin 8704) (hq : q.val = b.val * 4352 + t.val) (j : Fin 1920) :
    chan m c q j = dotc (hrow m c b t) fun k => aw m c (ix3 (1 : Fin 2) j k) := by
  unfold chan hrow
  rw [row_eq m c b t q hq]
  simp only [ag_at]

/-- A channel before the appended columns. -/
theorem chan_lo (c : Dev nD) (b : Fin 2) (t : Fin 4112) (q : Fin 8704) (hq : q.val = b.val * 4352 + t.val) (j : Fin 1920) (i : Fin 1856) (h : j.val = i.val) :
    chan m c q j = dotc (hrow m c b t) (wcol m c i) := by
  rw [chan_at m c b t q hq]
  refine congrArg (dotc _) (funext fun k => ?_)
  rw [aw_at m c j k (by have := i.isLt; omega)]
  exact congrArg (fun x => argW m c (ix3 (1 : Fin 2) k x)) (Fin.ext h)

/-- The appended columns: the second half of the rotated channels negated, then the first. -/
theorem chan_neg (c : Dev nD) (b : Fin 2) (t : Fin 4112) (q : Fin 8704) (hq : q.val = b.val * 4352 + t.val) (j : Fin 1920) (i : Fin 1856) (h : j.val = 32 + i.val) (h1 : 1856 ≤ j.val) (h2 : j.val < 1888)
    (hh : ∀ k, ∃ r : ℝ, hrow m c b t k = (r : EReal)) (hw : ∀ j k, ∃ r : ℝ, wcol m c j k = (r : EReal)) :
    chan m c q j = -(dotc (hrow m c b t) (wcol m c i)) := by
  rw [chan_at m c b t q hq, ← dotc_neg _ _ hh (hw i)]
  exact congrArg (dotc _) (funext fun k => aw_at1 m c j k i h h1 h2)

theorem chan_pos (c : Dev nD) (b : Fin 2) (t : Fin 4112) (q : Fin 8704) (hq : q.val = b.val * 4352 + t.val) (j : Fin 1920) (i : Fin 1856) (h : j.val = 96 + i.val) (h1 : 1888 ≤ j.val) :
    chan m c q j = dotc (hrow m c b t) (wcol m c i) := by
  rw [chan_at m c b t q hq]
  exact congrArg (dotc _) (funext fun k => aw_at2 m c j k i h h1)

theorem key_at (c : Dev nD) (b : Fin 2) (t : Fin 4112) (q : Fin 8704) (hq : q.val = b.val * 4352 + t.val) (l : Fin 64)
    (hh : ∀ k, ∃ r : ℝ, hrow m c b t k = (r : EReal)) (hw : ∀ j k, ∃ r : ℝ, wcol m c j k = (r : EReal)) :
    key m c q l = rot (hrow m c b t) (wcol m c) (BitVec.ofNat 32 t.val) l := by
  have hb := b.isLt
  have h4 := t.isLt
  have h6 := l.isLt
  have r : q.val % 4352 = t.val := by omega
  unfold key rot
  split
  · rename_i hl
    rw [chan_lo m c b t q hq _ ⟨1792 + l.val, by omega⟩ rfl, chan_neg m c b t q hq _ ⟨1824 + l.val, by omega⟩ (by simp only []; omega) (by simp only []; omega) (by simp only []; omega) hh hw,
      acs_at0 m c q _ hl, acs_at2 m c q _ (by simp only []; omega) (by simp only []; omega), r, EReal.neg_mul, sub_eq_add_neg]
    congr 5
    simp only []
    omega
  · rename_i hl
    rw [chan_lo m c b t q hq _ ⟨1792 + l.val, by omega⟩ rfl, chan_pos m c b t q hq _ ⟨1760 + l.val, by omega⟩ (by simp only []; omega) (by simp only []; omega),
      acs_at1 m c q _ (by simp only []; omega) (by simp only []; omega), acs_at3 m c q _ (by simp only []; omega), r, add_comm]
    congr 4
    simp only []
    omega

/-- The results, as plain functions. -/
def resU (c : Dev nD) : S2x4112x1024.Idx → EReal := Pipeline.afterTail₀ cfgs (dats m) 0 (V0 m) [hostOps1] c main_v59
def resC (c : Dev nD) : S2x4112x256.Idx → EReal := Pipeline.afterTail₀ cfgs (dats m) 0 (V0 m) [hostOps1] c main_v55
def resK (c : Dev nD) : S2x4112x64.Idx → EReal := Pipeline.afterTail₀ cfgs (dats m) 0 (V0 m) [hostOps1] c main_v57
def resP (c : Dev nD) : S2x15x1024.Idx → EReal := Pipeline.afterTail₀ cfgs (dats m) 0 (V0 m) [hostOps1] c main_v60

theorem resU_at (c : Dev nD) (b : Fin 2) (t : Fin 4112) (j : Fin 1024) :
    resU m c (ix3 b t j) = pch m c ⟨b.val * 4352 + t.val, by have := b.isLt; have := t.isLt; omega⟩ j := by
  unfold resU Pipeline.afterTail₀
  generalize hW : Pipeline.withArrays _ _ _ _ = W
  after_reads_at
  have e : W (Proc.tc.devRef main_v53_0) = (dats m 0 c).arrAt 11 cfg0.N := by
    rw [← hW]
    exact Pipeline.withArrays_arr (cfgs 0).spec launch0.win.arr_inj c (V0 m c) _ 11
  exact (congrFun (e.trans (arr_u m c)) _)

theorem resC_at (c : Dev nD) (b : Fin 2) (t : Fin 4112) (j : Fin 256) :
    resC m c (ix3 b t j) = lat m c ⟨b.val * 4352 + t.val, by have := b.isLt; have := t.isLt; omega⟩ j := by
  unfold resC Pipeline.afterTail₀
  generalize hW : Pipeline.withArrays _ _ _ _ = W
  after_reads_at
  have e : W (Proc.tc.devRef main_v53_1) = (dats m 0 c).arrAt 12 cfg0.N := by
    rw [← hW]
    exact Pipeline.withArrays_arr (cfgs 0).spec launch0.win.arr_inj c (V0 m c) _ 12
  exact (congrFun (e.trans (arr_c m c)) _)

theorem resK_at (c : Dev nD) (b : Fin 2) (t : Fin 4112) (l : Fin 64) :
    resK m c (ix3 b t l) = lane m c ⟨b.val * 4352 + t.val, by have := b.isLt; have := t.isLt; omega⟩ ⟨l.val, by have := l.isLt; omega⟩ := by
  unfold resK Pipeline.afterTail₀
  generalize hW : Pipeline.withArrays _ _ _ _ = W
  after_reads_at
  have e : W (Proc.tc.devRef main_v53_2) = (dats m 0 c).arrAt 13 cfg0.N := by
    rw [← hW]
    exact Pipeline.withArrays_arr (cfgs 0).spec launch0.win.arr_inj c (V0 m c) _ 13
  exact (congrFun (e.trans (arr_k m c)) _)

theorem resP_at (c : Dev nD) (b : Fin 2) (t : Fin 15) (j : Fin 1024) :
    resP m c (ix3 b t j) = pch m c ⟨b.val * 4352 + (4097 + t.val), by have := b.isLt; have := t.isLt; omega⟩ j := by
  unfold resP Pipeline.afterTail₀
  generalize hW : Pipeline.withArrays _ _ _ _ = W
  after_reads_at
  have e : W (Proc.tc.devRef main_v53_0) = (dats m 0 c).arrAt 11 cfg0.N := by
    rw [← hW]
    exact Pipeline.withArrays_arr (cfgs 0).spec launch0.win.arr_inj c (V0 m c) _ 11
  exact (congrFun (e.trans (arr_u m c)) _)

/-- The results at an index, from the arguments. -/
theorem resU_eq (c : Dev nD) (b : Fin 2) (t : Fin 4112) (j : Fin 1024) :
    resU m c (ix3 b t j) = dotc (hrow m c b t) (wcol m c ⟨j.val, by have := j.isLt; omega⟩) := by
  rw [resU_at]
  exact chan_lo m c b t _ rfl _ _ rfl

theorem resP_eq (c : Dev nD) (b : Fin 2) (t : Fin 15) (j : Fin 1024) :
    resP m c (ix3 b t j) = dotc (hrow m c b ⟨4097 + t.val, by have := t.isLt; omega⟩) (wcol m c ⟨j.val, by have := j.isLt; omega⟩) := by
  rw [resP_at]
  exact chan_lo m c b ⟨4097 + t.val, by have := t.isLt; omega⟩ _ rfl _ _ rfl

theorem resC_eq (c : Dev nD) (b : Fin 2) (t : Fin 4112) (j : Fin 256) :
    resC m c (ix3 b t j) = nrmc (fun i => dotc (hrow m c b t) (wcol m c ⟨1536 + i.val, by have := i.isLt; omega⟩)) (fun k => argC m c (ix1 k)) j := by
  rw [resC_at]
  unfold lat
  simp only [agc_at]
  refine congrArg (fun f => nrmc f _ j) (funext fun i => ?_)
  exact chan_lo m c b t _ rfl _ _ rfl

theorem resK_eq (c : Dev nD) (b : Fin 2) (t : Fin 4112) (l : Fin 64)
    (hh : ∀ k, ∃ r : ℝ, hrow m c b t k = (r : EReal)) (hw : ∀ j k, ∃ r : ℝ, wcol m c j k = (r : EReal)) :
    resK m c (ix3 b t l) = rot (hrow m c b t) (wcol m c) (BitVec.ofNat 32 t.val) l := by
  rw [resK_at]
  unfold lane
  rw [dif_pos l.isLt]
  exact key_at m c b t _ rfl l hh hw

end Cert.Inp

end

end
-- ==== Proof.InpRef.lean ====
/- The prompt's projections in the reference, read at one index. -/
module

public import proofs.«01_k».proof.Proof.Gen.Reference4Ideal.Run
public import proofs.«01_k».proof.Proof.InpMath

@[expose] public section

set_option maxRecDepth 16384

noncomputable section

namespace Cert.InpRef

open Cert.FfnMath Cert.InpMath Cert.Reference4Ideal Cert.Reference4Ideal.Gen Idealize.ShloMosaic Idealize.ShloMosaic.TcCoe Idealize.SL.Sem

/-- The normalised rows. -/
def nx (x : S2x4112x2048.Idx → EReal) (g : S2048.Idx → EReal) : S2x4112x2048.Idx → EReal :=
  mulf (F := Ideal) (φ := .f32) (mulf (F := Ideal) (φ := .f32) x (broadcastInDim S2x4112x2048 ![0, 1, 2] bcast_S2x4112x1_S2x4112x2048_0_1_2 (Host.rsqrt (F := Ideal) (φ := .f32) (addf (Host.divf (broadcastInDim S2x4112x1 ![0, 1] bcast_S2x4112_S2x4112x1_0_1 (Host.reduceAdd (F := Ideal) (φ := .f32) (mulf (F := Ideal) (φ := .f32) x x) (constant S_ .f32 0x00000000#32) reducesTo_S2x4112x2048_S2x4112_d2 h_S_)) (broadcastInDim S2x4112x1 ![] bcast_S_S2x4112x1 (constant S_ .f32 0x45000000#32))) (broadcastInDim S2x4112x1 ![] bcast_S_S2x4112x1 (constant S_ .f32 0x358637BD#32)))))) (broadcastInDim S2x4112x2048 ![0, 1, 2] bcast_S1x1x2048_S2x4112x2048_0_1_2 (broadcastInDim S1x1x2048 ![2] bcast_S2048_S1x1x2048_2 g))

/-- The second matrix of the pair. -/
def w1 (w : S2x2048x1856.Idx → EReal) : S2048x1856.Idx → EReal :=
  shapeCast S2048x1856 (extractStridedSlice S1x2048x1856 ![1, 0, 0] w slices_S2x2048x1856_S1x2048x1856_1_0_0) shapeCasts_S1x2048x1856_S2048x1856

/-- The rows' channels. -/
def proj (h : S2x4112x2048.Idx → EReal) (w : S2048x1856.Idx → EReal) : S2x4112x1856.Idx → EReal :=
  Host.dotGeneral (F := Ideal) (φ₁ := .f32) (φ₂ := .f32) dot_S2x4112x2048_S2048x1856_S2x4112x1856_2_0_01_1_n_n none h w

def chU (z : S2x4112x1856.Idx → EReal) : S2x4112x1024.Idx → EReal := extractStridedSlice S2x4112x1024 ![0, 0, 0] z slices_S2x4112x1856_S2x4112x1024_0_0_0
def chP (u : S2x4112x1024.Idx → EReal) : S2x15x1024.Idx → EReal := extractStridedSlice S2x15x1024 ![0, 4097, 0] u slices_S2x4112x1024_S2x15x1024_0_4097_0
def chC (z : S2x4112x1856.Idx → EReal) : S2x4112x256.Idx → EReal := extractStridedSlice S2x4112x256 ![0, 0, 1536] z slices_S2x4112x1856_S2x4112x256_0_0_1536
def chK (z : S2x4112x1856.Idx → EReal) : S2x4112x64.Idx → EReal := extractStridedSlice S2x4112x64 ![0, 0, 1792] z slices_S2x4112x1856_S2x4112x64_0_0_1792

/-- The normalised latent channels. -/
def nc (x : S2x4112x256.Idx → EReal) (g : S256.Idx → EReal) : S2x4112x256.Idx → EReal :=
  mulf (F := Ideal) (φ := .f32) (mulf (F := Ideal) (φ := .f32) x (broadcastInDim S2x4112x256 ![0, 1, 2] bcast_S2x4112x1_S2x4112x256_0_1_2 (Host.rsqrt (F := Ideal) (φ := .f32) (addf (Host.divf (broadcastInDim S2x4112x1 ![0, 1] bcast_S2x4112_S2x4112x1_0_1 (Host.reduceAdd (F := Ideal) (φ := .f32) (mulf (F := Ideal) (φ := .f32) x x) (constant S_ .f32 0x00000000#32) reducesTo_S2x4112x256_S2x4112_d2 h_S_)) (broadcastInDim S2x4112x1 ![] bcast_S_S2x4112x1 (constant S_ .f32 0x43800000#32))) (broadcastInDim S2x4112x1 ![] bcast_S_S2x4112x1 (constant S_ .f32 0x358637BD#32)))))) (broadcastInDim S2x4112x256 ![0, 1, 2] bcast_S1x1x256_S2x4112x256_0_1_2 (broadcastInDim S1x1x256 ![2] bcast_S256_S1x1x256_2 g))

/-- The angles of every position. -/
def angs : S4112x32.Idx → EReal :=
  mulf (F := Ideal) (φ := .f32) (broadcastInDim S4112x32 ![0, 1] bcast_S4112x1_S4112x32_0_1 (broadcastInDim S4112x1 ![0] bcast_S4112_S4112x1_0 (sitofp .f32 (iotaInDim S4112 32 0)))) (broadcastInDim S4112x32 ![0, 1] bcast_S1x32_S4112x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))

/-- A table of the positions repeated over the batch. -/
def rep (a : S4112x32.Idx → EReal) : S2x4112x32.Idx → EReal :=
  broadcastInDim S2x4112x32 ![0, 1, 2] bcast_S1x4112x32_S2x4112x32_0_1_2 (broadcastInDim S1x4112x32 ![1, 2] bcast_S4112x32_S1x4112x32_1_2 a)

def k1 (k : S2x4112x64.Idx → EReal) : S2x4112x32.Idx → EReal := extractStridedSlice S2x4112x32 ![0, 0, 0] k slices_S2x4112x64_S2x4112x32_0_0_0
def k2 (k : S2x4112x64.Idx → EReal) : S2x4112x32.Idx → EReal := extractStridedSlice S2x4112x32 ![0, 0, 32] k slices_S2x4112x64_S2x4112x32_0_0_32

/-- The two halves turned. -/
def turn (a b : S2x4112x32.Idx → EReal) (x : S4112x32.Idx → EReal) : S2x4112x64.Idx → EReal :=
  concatenate S2x4112x64 2 [⟨S2x4112x32, subf (F := Ideal) (φ := .f32) (mulf (F := Ideal) (φ := .f32) a (rep (Host.cos (F := Ideal) (φ := .f32) x))) (mulf (F := Ideal) (φ := .f32) b (rep (Host.sin (F := Ideal) (φ := .f32) x)))⟩,
    ⟨S2x4112x32, addf (F := Ideal) (φ := .f32) (mulf (F := Ideal) (φ := .f32) a (rep (Host.sin (F := Ideal) (φ := .f32) x))) (mulf (F := Ideal) (φ := .f32) b (rep (Host.cos (F := Ideal) (φ := .f32) x)))⟩] concatenates_S2x4112x32_S2x4112x32_S2x4112x64_d2

theorem nx_at (x : S2x4112x2048.Idx → EReal) (g : S2048.Idx → EReal) (b : Fin 2) (t : Fin 4112) (e : Fin 2048) :
    nx x g (ix3 b t e) = nrm (fun k => x (ix3 b t k)) (fun k => g (ix1 k)) e := by
  unfold nrm
  pointwise [nx]

theorem nc_at (x : S2x4112x256.Idx → EReal) (g : S256.Idx → EReal) (b : Fin 2) (t : Fin 4112) (e : Fin 256) :
    nc x g (ix3 b t e) = nrmc (fun k => x (ix3 b t k)) (fun k => g (ix1 k)) e := by
  unfold nrmc
  pointwise [nc]

theorem w1_at (w : S2x2048x1856.Idx → EReal) (k : Fin 2048) (j : Fin 1856) : w1 w (ix2 k j) = w (ix3 (1 : Fin 2) k j) := by
  pointwise [w1]

theorem proj_at (h : S2x4112x2048.Idx → EReal) (w : S2048x1856.Idx → EReal) (b : Fin 2) (t : Fin 4112) (j : Fin 1856) :
    proj h w (ix3 b t j) = dotc (fun k => h (ix3 b t k)) fun k => w (ix2 k j) := by
  unfold dotc
  pointwise [proj]

theorem chU_at (z : S2x4112x1856.Idx → EReal) (b : Fin 2) (t : Fin 4112) (j : Fin 1024) : chU z (ix3 b t j) = z (ix3 b t ⟨j.val, by have := j.isLt; omega⟩) := by
  pointwise [chU]

theorem chP_at (u : S2x4112x1024.Idx → EReal) (b : Fin 2) (t : Fin 15) (j : Fin 1024) : chP u (ix3 b t j) = u (ix3 b ⟨4097 + t.val, by have := t.isLt; omega⟩ j) := by
  pointwise [chP]

theorem chC_at (z : S2x4112x1856.Idx → EReal) (b : Fin 2) (t : Fin 4112) (j : Fin 256) : chC z (ix3 b t j) = z (ix3 b t ⟨1536 + j.val, by have := j.isLt; omega⟩) := by
  pointwise [chC]

theorem k1_at (z : S2x4112x1856.Idx → EReal) (b : Fin 2) (t : Fin 4112) (j : Fin 32) : k1 (chK z) (ix3 b t j) = z (ix3 b t ⟨1792 + j.val, by have := j.isLt; omega⟩) := by
  pointwise [k1, chK]

theorem k2_at (z : S2x4112x1856.Idx → EReal) (b : Fin 2) (t : Fin 4112) (j : Fin 32) : k2 (chK z) (ix3 b t j) = z (ix3 b t ⟨1792 + (32 + j.val), by have := j.isLt; omega⟩) := by
  pointwise [k2, chK]

theorem angs_at (t : Fin 4112) (i : Fin 32) : angs (ix2 t i) = ang (BitVec.ofNat 32 t.val) i.val := by
  unfold ang
  pointwise [angs]

theorem turn_lo (a b : S2x4112x32.Idx → EReal) (x : S4112x32.Idx → EReal) (n : Fin 2) (t : Fin 4112) (l : Fin 64) (h : l.val < 32) :
    turn a b x (ix3 n t l) = a (ix3 n t ⟨l.val, h⟩) * Ideal.cos (x (ix2 t ⟨l.val, h⟩)) - b (ix3 n t ⟨l.val, h⟩) * Ideal.sin (x (ix2 t ⟨l.val, h⟩)) := by
  pointwise [turn, rep]
  rw [dif_pos h]

theorem turn_hi (a b : S2x4112x32.Idx → EReal) (x : S4112x32.Idx → EReal) (n : Fin 2) (t : Fin 4112) (l : Fin 64) (i : Fin 32) (h : l.val = 32 + i.val) :
    turn a b x (ix3 n t l) = a (ix3 n t i) * Ideal.sin (x (ix2 t i)) + b (ix3 n t i) * Ideal.cos (x (ix2 t i)) := by
  have e : (⟨l.val - 32, by have := l.isLt; omega⟩ : Fin 32) = i := Fin.ext (by simp only []; omega)
  pointwise [turn, rep]
  rw [dif_neg (by omega)]
  simp only [e]

/-- The channels at an index. -/
theorem z_at (x : S2x4112x2048.Idx → EReal) (g : S2048.Idx → EReal) (w : S2x2048x1856.Idx → EReal) (b : Fin 2) (t : Fin 4112) (j : Fin 1856) :
    proj (nx x g) (w1 w) (ix3 b t j) = dotc (nrm (fun k => x (ix3 b t k)) fun k => g (ix1 k)) fun k => w (ix3 (1 : Fin 2) k j) := by
  rw [proj_at]
  simp only [nx_at, w1_at]

theorem u_at (x : S2x4112x2048.Idx → EReal) (g : S2048.Idx → EReal) (w : S2x2048x1856.Idx → EReal) (b : Fin 2) (t : Fin 4112) (j : Fin 1024) :
    chU (proj (nx x g) (w1 w)) (ix3 b t j) = dotc (nrm (fun k => x (ix3 b t k)) fun k => g (ix1 k)) fun k => w (ix3 (1 : Fin 2) k ⟨j.val, by have := j.isLt; omega⟩) :=
  (chU_at _ b t j).trans (z_at x g w b t _)

theorem p_at (x : S2x4112x2048.Idx → EReal) (g : S2048.Idx → EReal) (w : S2x2048x1856.Idx → EReal) (b : Fin 2) (t : Fin 15) (j : Fin 1024) :
    chP (chU (proj (nx x g) (w1 w))) (ix3 b t j) = dotc (nrm (fun k => x (ix3 b ⟨4097 + t.val, by have := t.isLt; omega⟩ k)) fun k => g (ix1 k)) fun k => w (ix3 (1 : Fin 2) k ⟨j.val, by have := j.isLt; omega⟩) :=
  (chP_at _ b t j).trans (u_at x g w b _ j)

theorem c_at (x : S2x4112x2048.Idx → EReal) (g : S2048.Idx → EReal) (w : S2x2048x1856.Idx → EReal) (gc : S256.Idx → EReal) (b : Fin 2) (t : Fin 4112) (j : Fin 256) :
    nc (chC (proj (nx x g) (w1 w))) gc (ix3 b t j) = nrmc (fun i => dotc (nrm (fun k => x (ix3 b t k)) fun k => g (ix1 k)) fun k => w (ix3 (1 : Fin 2) k ⟨1536 + i.val, by have := i.isLt; omega⟩)) (fun k => gc (ix1 k)) j := by
  rw [nc_at]
  simp only [chC_at, z_at]

theorem k_at (x : S2x4112x2048.Idx → EReal) (g : S2048.Idx → EReal) (w : S2x2048x1856.Idx → EReal) (b : Fin 2) (t : Fin 4112) (l : Fin 64) :
    turn (k1 (chK (proj (nx x g) (w1 w)))) (k2 (chK (proj (nx x g) (w1 w)))) angs (ix3 b t l)
      = rot (nrm (fun k => x (ix3 b t k)) fun k => g (ix1 k)) (fun j k => w (ix3 (1 : Fin 2) k j)) (BitVec.ofNat 32 t.val) l := by
  have h6 := l.isLt
  unfold rot
  split
  · rename_i hl
    rw [turn_lo _ _ _ b t l hl, k1_at, k2_at, z_at, z_at, angs_at]
    have e : (⟨1792 + (32 + l.val), by omega⟩ : Fin 1856) = ⟨1824 + l.val, by omega⟩ := Fin.ext (by simp only []; omega)
    simp only [e]
  · rename_i hl
    rw [turn_hi _ _ _ b t l ⟨l.val - 32, by omega⟩ (by simp only []; omega), k1_at, k2_at, z_at, z_at, angs_at]
    have e : (⟨1792 + (l.val - 32), by omega⟩ : Fin 1856) = ⟨1760 + l.val, by omega⟩ := Fin.ext (by simp only []; omega)
    have e' : (⟨1792 + (32 + (l.val - 32)), by omega⟩ : Fin 1856) = ⟨1792 + l.val, by omega⟩ := Fin.ext (by simp only []; omega)
    simp only [e, e']

end Cert.InpRef

end

end
-- ==== Proof.InpClaim.lean ====
/- The prompt's projections' claim: the two runs side by side. -/
module

public import proofs.«01_k».proof.Defs
public import proofs.«01_k».proof.Proof.Gen.Pre_finite4
public import proofs.«01_k».proof.Proof.FlashClaim
public import proofs.«01_k».proof.Proof.InpEntry
public import proofs.«01_k».proof.Proof.InpRef
public import Idealize.ShloMosaic.Lib.ReduceAll

@[expose] public section

set_option maxRecDepth 16384

noncomputable section

namespace Cert.Inp

open Idealize.ShloMosaic Idealize.ShloMosaic.TcCoe Idealize.SL.Sem Cert.FfnMath Cert.InpMath

/-- An `and` of two arrays that is 1 everywhere. -/
theorem and_split {s : Shape} {a b : s.Idx → BitVec 1} (h : andi a b = fun _ => 1#1) : (∀ i, a i = 1#1) ∧ ∀ i, b i = 1#1 := by
  have bits : ∀ p q : BitVec 1, IntOp.andi p q = 1#1 → p = 1#1 ∧ q = 1#1 := by decide
  exact ⟨fun i => (bits _ _ (congrFun h i)).1, fun i => (bits _ _ (congrFun h i)).2⟩

/-- A scalar repeated over an array that is 1 somewhere. -/
theorem scalar_one {s t : Shape} [Subsingleton s.Idx] {d : Fin s.rank → Fin t.rank} {hb : s.BroadcastsInDim t d} {v : s.Idx → BitVec 1} {i : t.Idx}
    (h : broadcastInDim t d hb v i = 1#1) (j : s.Idx) : v j = 1#1 := by
  rw [Subsingleton.elim j]
  exact h

section
open Cert.Pre_finite4 Cert.Pre_finite4.Facts

/-- The precondition gives real rows, gains and matrices. -/
theorem real_args [self : Cert.Pre_finite4.Facts] (x : S2x4112x2048.Idx → EReal) (g : S2048.Idx → EReal) (w : S2x2048x1856.Idx → EReal) (a3 : S512.Idx → EReal)
    (a4 : S512x1536.Idx → EReal) (a5 : S256.Idx → EReal) (a6 : S256x2048.Idx → EReal) (a7 : S128.Idx → EReal) (a8 : S32.Idx → EReal) (a9 : S128.Idx → EReal) (a10 : S32.Idx → EReal)
    (h : Cert.Pre_finite4.fn (F := Ideal) x g w a3 a4 a5 a6 a7 a8 a9 a10 = fun _ => 1#1) :
    (∀ i, ∃ r : ℝ, x i = (r : EReal)) ∧ (∀ i, ∃ r : ℝ, g i = (r : EReal)) ∧ ∀ i, ∃ r : ℝ, w i = (r : EReal) := by
  haveI : Subsingleton S_.Idx := ⟨fun a b => funext fun i => i.elim0⟩
  obtain ⟨i0⟩ : Nonempty S2x2048x1856.Idx := ⟨ix3 (0 : Fin 2) (0 : Fin 2048) (0 : Fin 1856)⟩
  obtain ⟨j0⟩ : Nonempty S2048.Idx := ⟨ix1 (0 : Fin 2048)⟩
  obtain ⟨z⟩ : Nonempty S_.Idx := ⟨fun i => i.elim0⟩
  unfold Cert.Pre_finite4.fn at h
  dsimp only at h
  obtain ⟨h9, hw⟩ := and_split h
  have hg' := Host.reduce_andi_all _ _ _ _ z (scalar_one (h9 i0) z)
  obtain ⟨h3, hg⟩ := and_split (funext hg')
  have hx := Host.reduce_andi_all _ _ _ _ z (scalar_one (h3 j0) z)
  exact ⟨fun i => Cert.Flash.real_of_abs (hx i), fun i => Cert.Flash.real_of_abs (hg i), fun i => Cert.Flash.real_of_abs (hw i)⟩
end

theorem algebraic : Cert.algebraic_Kernel4Ideal_Reference4Ideal_pre_finite4 (hKernel4Ideal := Cert.Kernel4Ideal.Gen.facts)
    (hReference4Ideal := Cert.Reference4Ideal.Gen.facts) (hPre_finite4 := Cert.Pre_finite4.Gen.facts) := by
  intro m g m' g' hp hag
  refine ⟨fun c => resU m c, fun c => resC m c, fun c => resK m c, fun c => resP m c, ?_, ?_⟩
  · exact (θ_run Cert.Kernel4Ideal.defs _ _).mono (fun r h c => ⟨(h.1 c).2 Cert.Kernel4Ideal.main_v59 (Pipeline.mem_restRefs_of Cert.Kernel4Ideal.main_v59 (by decide) (by decide)),
        (h.1 c).2 Cert.Kernel4Ideal.main_v55 (Pipeline.mem_restRefs_of Cert.Kernel4Ideal.main_v55 (by decide) (by decide)),
        (h.1 c).2 Cert.Kernel4Ideal.main_v57 (Pipeline.mem_restRefs_of Cert.Kernel4Ideal.main_v57 (by decide) (by decide)),
        (h.1 c).2 Cert.Kernel4Ideal.main_v60 (Pipeline.mem_restRefs_of Cert.Kernel4Ideal.main_v60 (by decide) (by decide)), h.2 c⟩)
      (θ_run_and (Cert.Kernel4Ideal.Gen.run_main m g) (Cert.Kernel4Ideal.Gen.unchanged m g))
  · refine (θ_run Cert.Reference4Ideal.defs _ _).mono (fun r h c => ⟨(h c).1.trans ?_, (h c).2.1.trans ?_, (h c).2.2.1.trans ?_, (h c).2.2.2.1.trans ?_, (h c).2.2.2.2⟩) (Cert.Reference4Ideal.Value.run m' g')
    all_goals obtain ⟨a0, a1, a2, a3, a4, a5, a6, a7, a8, a9, a10⟩ := hag c
    · refine (show _ = Cert.InpRef.chU (Cert.InpRef.proj (Cert.InpRef.nx (argX m c) (argG m c)) (Cert.InpRef.w1 (argW m c))) from ?_).trans ?_
      · rw [a0, a1, a2]
        rfl
      · funext ix
        rw [eq_ix3 ix]
        exact (Cert.InpRef.u_at _ _ _ (ix 0) (ix 1) (ix 2)).trans (resU_eq m c (ix 0) (ix 1) (ix 2)).symm
    · refine (show _ = Cert.InpRef.nc (Cert.InpRef.chC (Cert.InpRef.proj (Cert.InpRef.nx (argX m c) (argG m c)) (Cert.InpRef.w1 (argW m c)))) (argC m c) from ?_).trans ?_
      · rw [a0, a1, a2, a5]
        rfl
      · funext ix
        rw [eq_ix3 ix]
        exact (Cert.InpRef.c_at _ _ _ _ (ix 0) (ix 1) (ix 2)).trans (resC_eq m c (ix 0) (ix 1) (ix 2)).symm
    · refine (show _ = Cert.InpRef.turn (Cert.InpRef.k1 (Cert.InpRef.chK (Cert.InpRef.proj (Cert.InpRef.nx (argX m c) (argG m c)) (Cert.InpRef.w1 (argW m c)))))
          (Cert.InpRef.k2 (Cert.InpRef.chK (Cert.InpRef.proj (Cert.InpRef.nx (argX m c) (argG m c)) (Cert.InpRef.w1 (argW m c))))) Cert.InpRef.angs from ?_).trans ?_
      · unfold Cert.Reference4Ideal.Value.res_main_v63
        rw [a0, a1, a2]
        rfl
      · obtain ⟨hx, hg, hw⟩ := real_args (self := Cert.Pre_finite4.Gen.facts) _ _ _ _ _ _ _ _ _ _ _ (hp c)
        funext ix
        rw [eq_ix3 ix]
        refine (Cert.InpRef.k_at _ _ _ (ix 0) (ix 1) (ix 2)).trans (resK_eq m c (ix 0) (ix 1) (ix 2) (fun k => ?_) fun j k => hw _).symm
        choose x hx using hx
        choose v hv using hg
        have e1 : (fun k => argX m c (ix3 (ix 0) (ix 1) k)) = fun k => (x (ix3 (ix 0) (ix 1) k) : EReal) := funext fun k => hx _
        have e2 : (fun k => argG m c (ix1 k)) = fun k => (v (ix1 k) : EReal) := funext fun k => hv _
        unfold hrow
        rw [e1, e2]
        exact nrm_real _ _ k
    · refine (show _ = Cert.InpRef.chP (Cert.InpRef.chU (Cert.InpRef.proj (Cert.InpRef.nx (argX m c) (argG m c)) (Cert.InpRef.w1 (argW m c)))) from ?_).trans ?_
      · rw [a0, a1, a2]
        rfl
      · funext ix
        rw [eq_ix3 ix]
        exact (Cert.InpRef.p_at _ _ _ (ix 0) (ix 1) (ix 2)).trans (resP_eq m c (ix 0) (ix 1) (ix 2)).symm

end Cert.Inp

end

end
-- ==== Proof.SinpPoint.lean ====
/- What one point of the projections' kernel computes, entry by entry. -/
module

public import proofs.«01_k».proof.Proof.Gen.Kernel5Ideal.Frame
public import proofs.«01_k».proof.Proof.InpMath

@[expose] public section

set_option maxRecDepth 16384

noncomputable section

namespace Cert.Sinp

open Cert.Kernel5Ideal Cert.Kernel5Ideal.Gen Idealize.ShloMosaic Idealize.ShloMosaic.TcCoe Idealize.SL.Sem Cert.FfnMath Cert.InpMath

/-- The normalised rows times the input matrix. -/
theorem pay2_at (x : S256x2048.Idx → EReal) (g : S1x2048.Idx → EReal) (w : S1x1920x2048.Idx → EReal) (r : Fin 256) (j : Fin 1920) :
    k0_pay2 (F := Ideal) x g w (ix2 r j) = dotc (nrm (fun k => x (ix2 r k)) fun k => g (ix2 (0 : Fin 1) k)) fun k => w (ix3 (0 : Fin 1) j k) := by
  unfold dotc nrm
  pointwise [k0_pay2]

/-- The pool's channels. -/
theorem pay3_at (x : S256x2048.Idx → EReal) (g : S1x2048.Idx → EReal) (w : S1x1920x2048.Idx → EReal) (r : Fin 256) (j : Fin 1024) :
    k0_pay3 (F := Ideal) x g w (ix2 r j) = dotc (nrm (fun k => x (ix2 r k)) fun k => g (ix2 (0 : Fin 1) k)) fun k => w (ix3 (0 : Fin 1) (⟨j.val, by have := j.isLt; omega⟩ : Fin 1920) k) := by
  rw [← pay2_at]
  pointwise [k0_pay3]

/-- The latent channels. -/
theorem pay5_at (x : S256x2048.Idx → EReal) (g : S1x2048.Idx → EReal) (w : S1x1920x2048.Idx → EReal) (r : Fin 256) (j : Fin 256) :
    k0_pay5 (F := Ideal) x g w (ix2 r j) = dotc (nrm (fun k => x (ix2 r k)) fun k => g (ix2 (0 : Fin 1) k)) fun k => w (ix3 (0 : Fin 1) (⟨1536 + j.val, by have := j.isLt; omega⟩ : Fin 1920) k) := by
  rw [← pay2_at]
  pointwise [k0_pay5]

/-- The latent channels normalised. -/
theorem pay6_at (v : S256x256.Idx → EReal) (g : S1x256.Idx → EReal) (r : Fin 256) (j : Fin 256) :
    k0_pay6 (F := Ideal) v g (ix2 r j) = nrmc (fun k => v (ix2 r k)) (fun k => g (ix2 (0 : Fin 1) k)) j := by
  unfold nrmc
  pointwise [k0_pay6]

/-- The rotary key: a channel times its cosine, plus the rotated channel times its sine. -/
theorem pay9_at (z : S256x1920.Idx → EReal) (cs : S256x128.Idx → EReal) (r : Fin 256) (l : Fin 64) :
    k0_pay9 (F := Ideal) z cs (ix2 r (⟨l.val, by have := l.isLt; omega⟩ : Fin 128))
      = z (ix2 r (⟨1792 + l.val, by have := l.isLt; omega⟩ : Fin 1920)) * cs (ix2 r (⟨l.val, by have := l.isLt; omega⟩ : Fin 128))
        + z (ix2 r (⟨1856 + l.val, by have := l.isLt; omega⟩ : Fin 1920)) * cs (ix2 r (⟨64 + l.val, by have := l.isLt; omega⟩ : Fin 128)) := by
  have hl := l.isLt
  have hc : ∀ l : Fin 64, IntOp.cmpi CmpIPredicate.slt (BitVec.ofNat 32 l.val) 64#32 = 1#1 := by decide
  have e1 : (⟨1856 + l.val, by omega⟩ : Fin 1920) = ⟨1792 + (l.val + 128 - 64) % 128, by omega⟩ := Fin.ext (by show _ = _; simp only; omega)
  have e2 : (⟨64 + l.val, by omega⟩ : Fin 128) = ⟨(l.val + 128 - 64) % 128, by omega⟩ := Fin.ext (by show _ = _; simp only; omega)
  rw [e1, e2]
  pointwise [k0_pay9, k0_pay7, k0_pay8]
  rw [hc l]
  rfl

/-- The lanes after the rotary key's are zero. -/
theorem pay9_hi (z : S256x1920.Idx → EReal) (cs : S256x128.Idx → EReal) (r : Fin 256) (l : Fin 128) (h : 64 ≤ l.val) :
    k0_pay9 (F := Ideal) z cs (ix2 r l) = 0 := by
  have hc : ∀ l : Fin 128, 64 ≤ l.val → IntOp.cmpi CmpIPredicate.slt (BitVec.ofNat 32 l.val) 64#32 = 0#1 := by decide
  pointwise [k0_pay9, k0_pay7, k0_pay8]
  rw [hc l h]
  rfl

end Cert.Sinp

end

end
-- ==== Proof.SinpArr.lean ====
/- The arrays the projections' kernel writes for the sample, entry by entry, from the arrays it is launched on. -/
module

public import proofs.«01_k».proof.Proof.SinpPoint
public import Idealize.ShloMosaic.Lib.StableHlo.ReadAt

@[expose] public section

set_option maxRecDepth 16384

noncomputable section

namespace Cert.Sinp

open Cert.Kernel5Ideal Cert.Kernel5Ideal.Gen Idealize.ShloMosaic Idealize.ShloMosaic.TcCoe Idealize.SL.Sem Cert.FfnMath Cert.InpMath

variable (m : (ℓ : Loc nD τ sig) → Buf (Elt Ideal) ℓ)

theorem idx : ∀ t : Fin cfg0.N, win0_0.index t = ![t.val, 0] ∧ win0_1.index t = ![0, 0] ∧ win0_2.index t = ![1, 0, 0] ∧ win0_5.index t = ![0, 0]
    ∧ win0_8.index t = ![t.val, 0] ∧ win0_11.index t = ![t.val, 0] ∧ win0_12.index t = ![t.val, 0] ∧ win0_13.index t = ![t.val, 0] :=
  (by decide +kernel : ∀ t : Fin grid0.N, _)

theorem N_eq : cfg0.N = 2 := by decide +kernel

/-- The arrays the kernel is launched on that the results read, as plain functions. -/
def ax (c : Dev nD) : S512x2048.Idx → EReal := V m c main_v33
def ag (c : Dev nD) : S1x2048.Idx → EReal := V m c main_v13
def aw (c : Dev nD) : S2x1920x2048.Idx → EReal := V m c main_v6
def agc (c : Dev nD) : S1x256.Idx → EReal := V m c main_v22
def acs (c : Dev nD) : S512x128.Idx → EReal := V m c main_v53

theorem V_heq (c : Dev nD) : ∀ {r r' : Ref sig .tc}, r = r' → HEq (V m c r) (V m c r')
  | _, _, rfl => HEq.rfl

theorem V_0 (c : Dev nD) : (show S512x2048.Idx → EReal from V m c (Pipeline.arrRef spec0 0)) = ax m c :=
  eq_of_heq (V_heq m c (show Pipeline.arrRef spec0 0 = main_v33 from rfl))
theorem V_1 (c : Dev nD) : (show S1x2048.Idx → EReal from V m c (Pipeline.arrRef spec0 1)) = ag m c :=
  eq_of_heq (V_heq m c (show Pipeline.arrRef spec0 1 = main_v13 from rfl))
theorem V_2 (c : Dev nD) : (show S2x1920x2048.Idx → EReal from V m c (Pipeline.arrRef spec0 2)) = aw m c :=
  eq_of_heq (V_heq m c (show Pipeline.arrRef spec0 2 = main_v6 from rfl))
theorem V_5 (c : Dev nD) : (show S1x256.Idx → EReal from V m c (Pipeline.arrRef spec0 5)) = agc m c :=
  eq_of_heq (V_heq m c (show Pipeline.arrRef spec0 5 = main_v22 from rfl))
theorem V_8 (c : Dev nD) : (show S512x128.Idx → EReal from V m c (Pipeline.arrRef spec0 8)) = acs m c :=
  eq_of_heq (V_heq m c (show Pipeline.arrRef spec0 8 = main_v53 from rfl))

theorem ix (c : Dev nD) (t : Fin cfg0.N) (r : Fin 256) (e : Fin 2048) (p : Fin 512) (hp : p.val = t.val * 256 + r.val) :
    iblk m c 0 t (ix2 r e) = ax m c (ix2 p e) := by
  obtain ⟨i0, i1, i2, i5, i8, i11, i12, i13⟩ := idx t
  have key : ∀ X : Buf (Elt Ideal) ((c : Thread nD τ).loc (Pipeline.arrRef spec0 0)),
      ((cfg0.win 0).blk t).view.read (Elt Ideal) X (ix2 r e) = (show S512x2048.Idx → EReal from X) (ix2 p e) := by
    intro X
    have key' : ∀ Y : S512x2048.Idx → EReal, Y (((cfg0.win 0).blk t).view.emb (ix2 r e)) = Y (ix2 p e) := by
      intro Y
      congr 1
      blk_ext [i0]
    exact key' X
  unfold iblk
  refine (key _).trans ?_
  exact congrFun (V_0 m c) (ix2 p e)

theorem ig (c : Dev nD) (t : Fin cfg0.N) (e : Fin 2048) :
    iblk m c 1 t (ix2 (0 : Fin 1) e) = ag m c (ix2 (0 : Fin 1) e) := by
  obtain ⟨i0, i1, i2, i5, i8, i11, i12, i13⟩ := idx t
  have key : ∀ X : Buf (Elt Ideal) ((c : Thread nD τ).loc (Pipeline.arrRef spec0 1)),
      ((cfg0.win 1).blk t).view.read (Elt Ideal) X (ix2 (0 : Fin 1) e) = (show S1x2048.Idx → EReal from X) (ix2 (0 : Fin 1) e) := by
    intro X
    have key' : ∀ Y : S1x2048.Idx → EReal, Y (((cfg0.win 1).blk t).view.emb (ix2 (0 : Fin 1) e)) = Y (ix2 (0 : Fin 1) e) := by
      intro Y
      congr 1
      blk_ext [i1]
    exact key' X
  unfold iblk
  refine (key _).trans ?_
  exact congrFun (V_1 m c) (ix2 (0 : Fin 1) e)

theorem iw (c : Dev nD) (t : Fin cfg0.N) (j : Fin 1920) (k : Fin 2048) :
    iblk m c 2 t (ix3 (0 : Fin 1) j k) = aw m c (ix3 (1 : Fin 2) j k) := by
  obtain ⟨i0, i1, i2, i5, i8, i11, i12, i13⟩ := idx t
  have key : ∀ X : Buf (Elt Ideal) ((c : Thread nD τ).loc (Pipeline.arrRef spec0 2)),
      ((cfg0.win 2).blk t).view.read (Elt Ideal) X (ix3 (0 : Fin 1) j k) = (show S2x1920x2048.Idx → EReal from X) (ix3 (1 : Fin 2) j k) := by
    intro X
    have key' : ∀ Y : S2x1920x2048.Idx → EReal, Y (((cfg0.win 2).blk t).view.emb (ix3 (0 : Fin 1) j k)) = Y (ix3 (1 : Fin 2) j k) := by
      intro Y
      congr 1
      blk_ext [i2]
    exact key' X
  unfold iblk
  refine (key _).trans ?_
  exact congrFun (V_2 m c) (ix3 (1 : Fin 2) j k)

theorem igc (c : Dev nD) (t : Fin cfg0.N) (e : Fin 256) :
    iblk m c 5 t (ix2 (0 : Fin 1) e) = agc m c (ix2 (0 : Fin 1) e) := by
  obtain ⟨i0, i1, i2, i5, i8, i11, i12, i13⟩ := idx t
  have key : ∀ X : Buf (Elt Ideal) ((c : Thread nD τ).loc (Pipeline.arrRef spec0 5)),
      ((cfg0.win 5).blk t).view.read (Elt Ideal) X (ix2 (0 : Fin 1) e) = (show S1x256.Idx → EReal from X) (ix2 (0 : Fin 1) e) := by
    intro X
    have key' : ∀ Y : S1x256.Idx → EReal, Y (((cfg0.win 5).blk t).view.emb (ix2 (0 : Fin 1) e)) = Y (ix2 (0 : Fin 1) e) := by
      intro Y
      congr 1
      blk_ext [i5]
    exact key' X
  unfold iblk
  refine (key _).trans ?_
  exact congrFun (V_5 m c) (ix2 (0 : Fin 1) e)

theorem ics (c : Dev nD) (t : Fin cfg0.N) (r : Fin 256) (e : Fin 128) (p : Fin 512) (hp : p.val = t.val * 256 + r.val) :
    iblk m c 8 t (ix2 r e) = acs m c (ix2 p e) := by
  obtain ⟨i0, i1, i2, i5, i8, i11, i12, i13⟩ := idx t
  have key : ∀ X : Buf (Elt Ideal) ((c : Thread nD τ).loc (Pipeline.arrRef spec0 8)),
      ((cfg0.win 8).blk t).view.read (Elt Ideal) X (ix2 r e) = (show S512x128.Idx → EReal from X) (ix2 p e) := by
    intro X
    have key' : ∀ Y : S512x128.Idx → EReal, Y (((cfg0.win 8).blk t).view.emb (ix2 r e)) = Y (ix2 p e) := by
      intro Y
      congr 1
      blk_ext [i8]
    exact key' X
  unfold iblk
  refine (key _).trans ?_
  exact congrFun (V_8 m c) (ix2 p e)

/-- One channel of a row: the row normalised, times a row of the matrix. -/
def chan (c : Dev nD) (p : Fin 512) (j : Fin 1920) : EReal :=
  dotc (nrm (fun k => ax m c (ix2 p k)) fun k => ag m c (ix2 (0 : Fin 1) k)) fun k => aw m c (ix3 (1 : Fin 2) j k)

/-- The latent row, normalised. -/
def lat (c : Dev nD) (p : Fin 512) (j : Fin 256) : EReal :=
  nrmc (fun k => chan m c p ⟨1536 + k.val, by have := k.isLt; omega⟩) (fun k => agc m c (ix2 (0 : Fin 1) k)) j

/-- The rotary key. -/
def key (c : Dev nD) (p : Fin 512) (l : Fin 64) : EReal :=
  chan m c p ⟨1792 + l.val, by have := l.isLt; omega⟩ * acs m c (ix2 p (⟨l.val, by have := l.isLt; omega⟩ : Fin 128))
    + chan m c p ⟨1856 + l.val, by have := l.isLt; omega⟩ * acs m c (ix2 p (⟨64 + l.val, by have := l.isLt; omega⟩ : Fin 128))

/-- A block's channels are the array's. -/
theorem chan_eq (c : Dev nD) (t : Fin cfg0.N) (r : Fin 256) (p : Fin 512) (hp : p.val = t.val * 256 + r.val) (j : Fin 1920) :
    dotc (nrm (fun k => iblk m c 0 t (ix2 r k)) fun k => iblk m c 1 t (ix2 (0 : Fin 1) k)) (fun k => iblk m c 2 t (ix3 (0 : Fin 1) j k)) = chan m c p j := by
  unfold chan
  rw [show (fun k => iblk m c 0 t (ix2 r k)) = _ from funext fun k => ix m c t r k p hp, show (fun k => iblk m c 1 t (ix2 (0 : Fin 1) k)) = _ from funext fun k => ig m c t k,
    show (fun k => iblk m c 2 t (ix3 (0 : Fin 1) j k)) = _ from funext fun k => iw m c t j k]

/-- One of the pool's channels. -/
def pch (c : Dev nD) (p : Fin 512) (j : Fin 1024) : EReal := chan m c p ⟨j.val, by have := j.isLt; omega⟩

/-- A lane of the rotary key's array. -/
def lane (c : Dev nD) (p : Fin 512) (l : Fin 128) : EReal := if h : l.val < 64 then key m c p ⟨l.val, h⟩ else 0

theorem blk_u (c : Dev nD) (t : Fin cfg0.N) (r : Fin 256) (p : Fin 512) (hp : p.val = t.val * 256 + r.val) (j : Fin 1024) :
    k0_pay3 (F := Ideal) (iblk m c 0 t) (iblk m c 1 t) (iblk m c 2 t) (ix2 r j) = pch m c p j :=
  (pay3_at (iblk m c 0 t) (iblk m c 1 t) (iblk m c 2 t) r j).trans (chan_eq m c t r p hp _)

theorem blk_c (c : Dev nD) (t : Fin cfg0.N) (r : Fin 256) (p : Fin 512) (hp : p.val = t.val * 256 + r.val) (j : Fin 256) :
    k0_pay6 (F := Ideal) (k0_pay5 (F := Ideal) (iblk m c 0 t) (iblk m c 1 t) (iblk m c 2 t)) (iblk m c 5 t) (ix2 r j) = lat m c p j := by
  refine (pay6_at _ (iblk m c 5 t) r j).trans ?_
  unfold lat
  exact congrArg₂ (fun a b => nrmc a b j) (funext fun k => (pay5_at (iblk m c 0 t) (iblk m c 1 t) (iblk m c 2 t) r k).trans (chan_eq m c t r p hp _)) (funext fun k => igc m c t k)

theorem blk_k (c : Dev nD) (t : Fin cfg0.N) (r : Fin 256) (p : Fin 512) (hp : p.val = t.val * 256 + r.val) (l : Fin 128) :
    k0_pay9 (F := Ideal) (k0_pay2 (F := Ideal) (iblk m c 0 t) (iblk m c 1 t) (iblk m c 2 t)) (iblk m c 8 t) (ix2 r l) = lane m c p l := by
  unfold lane
  by_cases h : l.val < 64
  · rw [dif_pos h]
    refine (pay9_at _ (iblk m c 8 t) r ⟨l.val, h⟩).trans ?_
    unfold key
    exact congrArg₂ (· + ·)
      (congrArg₂ (· * ·) ((pay2_at (iblk m c 0 t) (iblk m c 1 t) (iblk m c 2 t) r _).trans (chan_eq m c t r p hp _)) (ics m c t r _ p hp))
      (congrArg₂ (· * ·) ((pay2_at (iblk m c 0 t) (iblk m c 1 t) (iblk m c 2 t) r _).trans (chan_eq m c t r p hp _)) (ics m c t r _ p hp))
  · rw [dif_neg h]
    exact pay9_hi _ (iblk m c 8 t) r l (Nat.le_of_not_lt h)

theorem arr_u (c : Dev nD) : (dats m 0 c).arrAt 11 cfg0.N = fun y : S512x1024.Idx => pch m c (y 0) (y 1) := by
  refine (dats m 0 c).arrAt_eq_of_covers 11 _ (by decide +kernel) fun t ht y => ?_
  obtain ⟨i0, i1, i2, i5, i8, i11, i12, i13⟩ := idx t
  have e0 : ((win0_11.blk t).view.emb y 0).val = t.val * 256 + (y 0).val := by blk_simp [i11]
  have e1 : (win0_11.blk t).view.emb y 1 = y 1 := Fin.ext (by blk_simp [i11])
  have b := blk_u m c t (y 0) ((win0_11.blk t).view.emb y 0) e0 (y 1)
  show _ = pch m c ((win0_11.blk t).view.emb y 0) ((win0_11.blk t).view.emb y 1)
  rw [e1, ← b]
  generalize (win0_11.blk t).view.emb y 0 = p
  blk_simp
  rw [after0_11]
  unfold_out out0_11
  frame_out
  exact congrArg _ (eq_ix2 y)

theorem arr_c (c : Dev nD) : (dats m 0 c).arrAt 12 cfg0.N = fun y : S512x256.Idx => lat m c (y 0) (y 1) := by
  refine (dats m 0 c).arrAt_eq_of_covers 12 _ (by decide +kernel) fun t ht y => ?_
  obtain ⟨i0, i1, i2, i5, i8, i11, i12, i13⟩ := idx t
  have e0 : ((win0_12.blk t).view.emb y 0).val = t.val * 256 + (y 0).val := by blk_simp [i12]
  have e1 : (win0_12.blk t).view.emb y 1 = y 1 := Fin.ext (by blk_simp [i12])
  have b := blk_c m c t (y 0) ((win0_12.blk t).view.emb y 0) e0 (y 1)
  show _ = lat m c ((win0_12.blk t).view.emb y 0) ((win0_12.blk t).view.emb y 1)
  rw [e1, ← b]
  generalize (win0_12.blk t).view.emb y 0 = p
  blk_simp
  rw [after0_12]
  unfold_out out0_12
  frame_out
  exact congrArg _ (eq_ix2 y)

theorem arr_k (c : Dev nD) : (dats m 0 c).arrAt 13 cfg0.N = fun y : S512x128.Idx => lane m c (y 0) (y 1) := by
  refine (dats m 0 c).arrAt_eq_of_covers 13 _ (by decide +kernel) fun t ht y => ?_
  obtain ⟨i0, i1, i2, i5, i8, i11, i12, i13⟩ := idx t
  have e0 : ((win0_13.blk t).view.emb y 0).val = t.val * 256 + (y 0).val := by blk_simp [i13]
  have e1 : (win0_13.blk t).view.emb y 1 = y 1 := Fin.ext (by blk_simp [i13])
  have b := blk_k m c t (y 0) ((win0_13.blk t).view.emb y 0) e0 (y 1)
  show _ = lane m c ((win0_13.blk t).view.emb y 0) ((win0_13.blk t).view.emb y 1)
  rw [e1, ← b]
  generalize (win0_13.blk t).view.emb y 0 = p
  blk_simp
  rw [after0_13]
  unfold_out out0_13
  frame_out
  exact congrArg _ (eq_ix2 y)

end Cert.Sinp

end

end
-- ==== Proof.SinpEntry.lean ====
/- The arrays the sample's projections are launched on, from the arguments, and the results from the arrays they write. -/
module

public import proofs.«01_k».proof.Proof.SinpArr

@[expose] public section

set_option maxRecDepth 16384

noncomputable section

namespace Cert.Sinp

open Cert.Kernel5Ideal Cert.Kernel5Ideal.Gen Idealize.ShloMosaic Idealize.ShloMosaic.TcCoe Idealize.SL.Sem Cert.FfnMath Cert.InpMath

variable (m : (ℓ : Loc nD τ sig) → Buf (Elt Ideal) ℓ)

/-- The arguments the results read, as plain functions. -/
def argX (c : Dev nD) : S128x4x2048.Idx → EReal := m ((c : Thread nD τ).loc main_arg0)
def argS (c : Dev nD) : S128x15x1024.Idx → EReal := m ((c : Thread nD τ).loc main_arg1)
def argG (c : Dev nD) : S2048.Idx → EReal := m ((c : Thread nD τ).loc main_arg2)
def argW (c : Dev nD) : S2x2048x1856.Idx → EReal := m ((c : Thread nD τ).loc main_arg3)
def argC (c : Dev nD) : S256.Idx → EReal := m ((c : Thread nD τ).loc main_arg6)

theorem ax_at (c : Dev nD) (p : Fin 512) (e : Fin 2048) :
    ax m c (ix2 p e) = argX m c (ix3 ⟨p.val % 128, by omega⟩ ⟨p.val / 128, by have := p.isLt; omega⟩ e) := by
  unfold ax V argX
  after_reads_at

theorem ag_at (c : Dev nD) (e : Fin 2048) : ag m c (ix2 (0 : Fin 1) e) = argG m c (ix1 e) := by
  unfold ag V argG
  after_reads_at

theorem agc_at (c : Dev nD) (e : Fin 256) : agc m c (ix2 (0 : Fin 1) e) = argC m c (ix1 e) := by
  unfold agc V argC
  after_reads_at

theorem aw_at (c : Dev nD) (j : Fin 1920) (k : Fin 2048) (h : j.val < 1856) : aw m c (ix3 (1 : Fin 2) j k) = argW m c (ix3 (1 : Fin 2) k ⟨j.val, h⟩) := by
  unfold aw V argW
  after_reads_at
  rw [dif_pos h]
  after_reads_at

theorem aw_at1 (c : Dev nD) (j : Fin 1920) (k : Fin 2048) (i : Fin 1856) (h : j.val = 32 + i.val) (h1 : 1856 ≤ j.val) (h2 : j.val < 1888) :
    aw m c (ix3 (1 : Fin 2) j k) = -(argW m c (ix3 (1 : Fin 2) k i)) := by
  unfold aw V argW
  after_reads_at
  rw [dif_neg (by omega), dif_pos (by omega)]
  after_reads_at
  exact congrArg (fun x => -(argW m c (ix3 (1 : Fin 2) k x))) (Fin.ext (show 1792 + (32 + (j.val - 1856)) = i.val by omega))

theorem aw_at2 (c : Dev nD) (j : Fin 1920) (k : Fin 2048) (i : Fin 1856) (h : j.val = 96 + i.val) (h1 : 1888 ≤ j.val) :
    aw m c (ix3 (1 : Fin 2) j k) = argW m c (ix3 (1 : Fin 2) k i) := by
  unfold aw V argW
  after_reads_at
  rw [dif_neg (by omega), dif_neg (by omega)]
  after_reads_at
  exact congrArg (fun x => argW m c (ix3 (1 : Fin 2) k x)) (Fin.ext (show 1792 + (j.val - 1856 - 32) = i.val by omega))

theorem acs_at0 (c : Dev nD) (p : Fin 512) (l : Fin 128) (h : l.val < 32) :
    acs m c (ix2 p l) = Ideal.cos (ang (IntOp.addi 8192#32 (BitVec.ofNat 32 (p.val / 128))) l.val) := by
  unfold acs V ang
  after_reads_at
  rw [dif_pos (by omega)]
  after_reads_at

theorem acs_at1 (c : Dev nD) (p : Fin 512) (l : Fin 128) (h : 32 ≤ l.val) (h' : l.val < 64) :
    acs m c (ix2 p l) = Ideal.cos (ang (IntOp.addi 8192#32 (BitVec.ofNat 32 (p.val / 128))) (l.val - 32)) := by
  unfold acs V ang
  after_reads_at
  rw [dif_neg (by omega), dif_pos (by omega)]
  after_reads_at

theorem acs_at2 (c : Dev nD) (p : Fin 512) (l : Fin 128) (h : 64 ≤ l.val) (h' : l.val < 96) :
    acs m c (ix2 p l) = Ideal.sin (ang (IntOp.addi 8192#32 (BitVec.ofNat 32 (p.val / 128))) (l.val - 64)) := by
  unfold acs V ang
  after_reads_at
  rw [dif_neg (by omega), dif_neg (by omega), dif_pos (by omega)]
  after_reads_at
  rw [show l.val - 64 = l.val - 32 - 32 by omega]

theorem acs_at3 (c : Dev nD) (p : Fin 512) (l : Fin 128) (h : 96 ≤ l.val) :
    acs m c (ix2 p l) = Ideal.sin (ang (IntOp.addi 8192#32 (BitVec.ofNat 32 (p.val / 128))) (l.val - 96)) := by
  unfold acs V ang
  after_reads_at
  rw [dif_neg (by omega), dif_neg (by omega), dif_neg (by omega)]
  after_reads_at
  rw [show l.val - 96 = l.val - 32 - 32 - 32 by omega]

/-- A normalised row of the arguments, and a column of the second matrix. -/
def hrow (c : Dev nD) (b : Fin 128) (t : Fin 4) : Fin 2048 → EReal := nrm (fun k => argX m c (ix3 b t k)) fun k => argG m c (ix1 k)
def wcol (c : Dev nD) (j : Fin 1856) (k : Fin 2048) : EReal := argW m c (ix3 (1 : Fin 2) k j)

theorem row_eq (c : Dev nD) (b : Fin 128) (t : Fin 4) (q : Fin 512) (hq : q.val = t.val * 128 + b.val) :
    (fun k : Fin 2048 => ax m c (ix2 q k)) = fun k => argX m c (ix3 b t k) := by
  have hb := b.isLt
  have h4 := t.isLt
  funext k
  have d : q.val / 128 = t.val := by omega
  have r : q.val % 128 = b.val := by omega
  rw [ax_at]
  exact congrArg (argX m c) (congrArg₂ (fun x y => ix3 x y k) (Fin.ext r) (Fin.ext d))

theorem chan_at (c : Dev nD) (b : Fin 128) (t : Fin 4) (q : Fin 512) (hq : q.val = t.val * 128 + b.val) (j : Fin 1920) :
    chan m c q j = dotc (hrow m c b t) fun k => aw m c (ix3 (1 : Fin 2) j k) := by
  unfold chan hrow
  rw [row_eq m c b t q hq]
  simp only [ag_at]

/-- A channel before the appended columns. -/
theorem chan_lo (c : Dev nD) (b : Fin 128) (t : Fin 4) (q : Fin 512) (hq : q.val = t.val * 128 + b.val) (j : Fin 1920) (i : Fin 1856) (h : j.val = i.val) :
    chan m c q j = dotc (hrow m c b t) (wcol m c i) := by
  rw [chan_at m c b t q hq]
  refine congrArg (dotc _) (funext fun k => ?_)
  rw [aw_at m c j k (by have := i.isLt; omega)]
  exact congrArg (fun x => argW m c (ix3 (1 : Fin 2) k x)) (Fin.ext h)

/-- The appended columns: the second half of the rotated channels negated, then the first. -/
theorem chan_neg (c : Dev nD) (b : Fin 128) (t : Fin 4) (q : Fin 512) (hq : q.val = t.val * 128 + b.val) (j : Fin 1920) (i : Fin 1856) (h : j.val = 32 + i.val) (h1 : 1856 ≤ j.val) (h2 : j.val < 1888)
    (hh : ∀ k, ∃ r : ℝ, hrow m c b t k = (r : EReal)) (hw : ∀ j k, ∃ r : ℝ, wcol m c j k = (r : EReal)) :
    chan m c q j = -(dotc (hrow m c b t) (wcol m c i)) := by
  rw [chan_at m c b t q hq, ← dotc_neg _ _ hh (hw i)]
  exact congrArg (dotc _) (funext fun k => aw_at1 m c j k i h h1 h2)

theorem chan_pos (c : Dev nD) (b : Fin 128) (t : Fin 4) (q : Fin 512) (hq : q.val = t.val * 128 + b.val) (j : Fin 1920) (i : Fin 1856) (h : j.val = 96 + i.val) (h1 : 1888 ≤ j.val) :
    chan m c q j = dotc (hrow m c b t) (wcol m c i) := by
  rw [chan_at m c b t q hq]
  exact congrArg (dotc _) (funext fun k => aw_at2 m c j k i h h1)

theorem key_at (c : Dev nD) (b : Fin 128) (t : Fin 4) (q : Fin 512) (hq : q.val = t.val * 128 + b.val) (l : Fin 64)
    (hh : ∀ k, ∃ r : ℝ, hrow m c b t k = (r : EReal)) (hw : ∀ j k, ∃ r : ℝ, wcol m c j k = (r : EReal)) :
    key m c q l = rot (hrow m c b t) (wcol m c) (IntOp.addi 8192#32 (BitVec.ofNat 32 t.val)) l := by
  have hb := b.isLt
  have h4 := t.isLt
  have h6 := l.isLt
  have r : q.val / 128 = t.val := by omega
  unfold key rot
  split
  · rename_i hl
    rw [chan_lo m c b t q hq _ ⟨1792 + l.val, by omega⟩ rfl, chan_neg m c b t q hq _ ⟨1824 + l.val, by omega⟩ (by simp only []; omega) (by simp only []; omega) (by simp only []; omega) hh hw,
      acs_at0 m c q _ hl, acs_at2 m c q _ (by simp only []; omega) (by simp only []; omega), r, EReal.neg_mul, sub_eq_add_neg]
    congr 5
    simp only []
    omega
  · rename_i hl
    rw [chan_lo m c b t q hq _ ⟨1792 + l.val, by omega⟩ rfl, chan_pos m c b t q hq _ ⟨1760 + l.val, by omega⟩ (by simp only []; omega) (by simp only []; omega),
      acs_at1 m c q _ (by simp only []; omega) (by simp only []; omega), acs_at3 m c q _ (by simp only []; omega), r, add_comm]
    congr 4
    simp only []
    omega

/-- The results, as plain functions. -/
def resU (c : Dev nD) : S128x4x1024.Idx → EReal := Pipeline.afterTail₀ cfgs (dats m) 0 (V0 m) [hostOps1] c main_v65
def resC (c : Dev nD) : S128x4x256.Idx → EReal := Pipeline.afterTail₀ cfgs (dats m) 0 (V0 m) [hostOps1] c main_v56
def resK (c : Dev nD) : S128x4x64.Idx → EReal := Pipeline.afterTail₀ cfgs (dats m) 0 (V0 m) [hostOps1] c main_v59
def resP (c : Dev nD) : S128x15x1024.Idx → EReal := Pipeline.afterTail₀ cfgs (dats m) 0 (V0 m) [hostOps1] c main_v64

theorem resU_at (c : Dev nD) (b : Fin 128) (t : Fin 4) (j : Fin 1024) :
    resU m c (ix3 b t j) = pch m c ⟨t.val * 128 + b.val, by have := b.isLt; have := t.isLt; omega⟩ j := by
  unfold resU Pipeline.afterTail₀
  generalize hW : Pipeline.withArrays _ _ _ _ = W
  after_reads_at
  have e : W (Proc.tc.devRef main_v54_0) = (dats m 0 c).arrAt 11 cfg0.N := by
    rw [← hW]
    exact Pipeline.withArrays_arr (cfgs 0).spec launch0.win.arr_inj c (V0 m c) _ 11
  exact (congrFun (e.trans (arr_u m c)) _)

theorem resC_at (c : Dev nD) (b : Fin 128) (t : Fin 4) (j : Fin 256) :
    resC m c (ix3 b t j) = lat m c ⟨t.val * 128 + b.val, by have := b.isLt; have := t.isLt; omega⟩ j := by
  unfold resC Pipeline.afterTail₀
  generalize hW : Pipeline.withArrays _ _ _ _ = W
  after_reads_at
  have e : W (Proc.tc.devRef main_v54_1) = (dats m 0 c).arrAt 12 cfg0.N := by
    rw [← hW]
    exact Pipeline.withArrays_arr (cfgs 0).spec launch0.win.arr_inj c (V0 m c) _ 12
  exact (congrFun (e.trans (arr_c m c)) _)

theorem resK_at (c : Dev nD) (b : Fin 128) (t : Fin 4) (l : Fin 64) :
    resK m c (ix3 b t l) = lane m c ⟨t.val * 128 + b.val, by have := b.isLt; have := t.isLt; omega⟩ ⟨l.val, by have := l.isLt; omega⟩ := by
  unfold resK Pipeline.afterTail₀
  generalize hW : Pipeline.withArrays _ _ _ _ = W
  after_reads_at
  have e : W (Proc.tc.devRef main_v54_2) = (dats m 0 c).arrAt 13 cfg0.N := by
    rw [← hW]
    exact Pipeline.withArrays_arr (cfgs 0).spec launch0.win.arr_inj c (V0 m c) _ 13
  exact (congrFun (e.trans (arr_k m c)) _)

/-- The state's rows: those kept, then the new ones. -/
theorem resP_old (c : Dev nD) (b : Fin 128) (i : Fin 15) (j : Fin 1024) (s : Fin 15) (h : s.val = 4 + i.val) :
    resP m c (ix3 b i j) = argS m c (ix3 b s j) := by
  have hs := s.isLt
  unfold resP argS Pipeline.afterTail₀
  generalize hW : Pipeline.withArrays _ _ _ _ = W
  after_reads_at
  rw [dif_pos (by omega)]
  after_reads_at
  have e : W (Proc.tc.devRef main_arg1) = V0 m c (Proc.tc.devRef main_arg1) := by
    rw [← hW]
    exact Pipeline.withArrays_of_ne _ c (V0 m c) _ main_arg1 (by exact (by decide : ∀ w, Pipeline.arrRef spec0 w ≠ main_arg1))
  have e' : V0 m c (Proc.tc.devRef main_arg1) = m ((c : Thread nD τ).loc main_arg1) := V_main_arg1 m c
  rw [e.trans e']
  exact congrArg (fun x => argS m c (ix3 b x j)) (Fin.ext h.symm)

theorem resP_new (c : Dev nD) (b : Fin 128) (i : Fin 15) (j : Fin 1024) (t : Fin 4) (h : i.val = 11 + t.val) :
    resP m c (ix3 b i j) = pch m c ⟨t.val * 128 + b.val, by have := b.isLt; have := t.isLt; omega⟩ j := by
  unfold resP Pipeline.afterTail₀
  generalize hW : Pipeline.withArrays _ _ _ _ = W
  after_reads_at
  rw [dif_neg (by omega)]
  after_reads_at
  have e : W (Proc.tc.devRef main_v54_0) = (dats m 0 c).arrAt 11 cfg0.N := by
    rw [← hW]
    exact Pipeline.withArrays_arr (cfgs 0).spec launch0.win.arr_inj c (V0 m c) _ 11
  refine (congrFun (e.trans (arr_u m c)) _).trans ?_
  exact congrArg (fun x => pch m c x j) (Fin.ext (show (i.val - 11) * 128 + b.val = t.val * 128 + b.val by omega))

/-- The results at an index, from the arguments. -/
theorem resU_eq (c : Dev nD) (b : Fin 128) (t : Fin 4) (j : Fin 1024) :
    resU m c (ix3 b t j) = dotc (hrow m c b t) (wcol m c ⟨j.val, by have := j.isLt; omega⟩) := by
  rw [resU_at]
  exact chan_lo m c b t _ rfl _ _ rfl

theorem resP_eq (c : Dev nD) (b : Fin 128) (i : Fin 15) (j : Fin 1024) (t : Fin 4) (h : i.val = 11 + t.val) :
    resP m c (ix3 b i j) = dotc (hrow m c b t) (wcol m c ⟨j.val, by have := j.isLt; omega⟩) := by
  rw [resP_new m c b i j t h]
  exact chan_lo m c b t _ rfl _ _ rfl

theorem resC_eq (c : Dev nD) (b : Fin 128) (t : Fin 4) (j : Fin 256) :
    resC m c (ix3 b t j) = nrmc (fun i => dotc (hrow m c b t) (wcol m c ⟨1536 + i.val, by have := i.isLt; omega⟩)) (fun k => argC m c (ix1 k)) j := by
  rw [resC_at]
  unfold lat
  simp only [agc_at]
  refine congrArg (fun f => nrmc f _ j) (funext fun i => ?_)
  exact chan_lo m c b t _ rfl _ _ rfl

theorem resK_eq (c : Dev nD) (b : Fin 128) (t : Fin 4) (l : Fin 64)
    (hh : ∀ k, ∃ r : ℝ, hrow m c b t k = (r : EReal)) (hw : ∀ j k, ∃ r : ℝ, wcol m c j k = (r : EReal)) :
    resK m c (ix3 b t l) = rot (hrow m c b t) (wcol m c) (IntOp.addi 8192#32 (BitVec.ofNat 32 t.val)) l := by
  rw [resK_at]
  unfold lane
  rw [dif_pos l.isLt]
  exact key_at m c b t _ rfl l hh hw

end Cert.Sinp

end

end
-- ==== Proof.SinpRef.lean ====
/- The sample's projections in the reference, read at one index. -/
module

public import proofs.«01_k».proof.Proof.Gen.Reference5Ideal.Run
public import proofs.«01_k».proof.Proof.InpMath

@[expose] public section

set_option maxRecDepth 16384

noncomputable section

namespace Cert.SinpRef

open Cert.FfnMath Cert.InpMath Cert.Reference5Ideal Cert.Reference5Ideal.Gen Idealize.ShloMosaic Idealize.ShloMosaic.TcCoe Idealize.SL.Sem

/-- The normalised rows. -/
def nx (x : S128x4x2048.Idx → EReal) (g : S2048.Idx → EReal) : S128x4x2048.Idx → EReal :=
  mulf (F := Ideal) (φ := .f32) (mulf (F := Ideal) (φ := .f32) x (broadcastInDim S128x4x2048 ![0, 1, 2] bcast_S128x4x1_S128x4x2048_0_1_2 (Host.rsqrt (F := Ideal) (φ := .f32) (addf (Host.divf (broadcastInDim S128x4x1 ![0, 1] bcast_S128x4_S128x4x1_0_1 (Host.reduceAdd (F := Ideal) (φ := .f32) (mulf (F := Ideal) (φ := .f32) x x) (constant S_ .f32 0x00000000#32) reducesTo_S128x4x2048_S128x4_d2 h_S_)) (broadcastInDim S128x4x1 ![] bcast_S_S128x4x1 (constant S_ .f32 0x45000000#32))) (broadcastInDim S128x4x1 ![] bcast_S_S128x4x1 (constant S_ .f32 0x358637BD#32)))))) (broadcastInDim S128x4x2048 ![0, 1, 2] bcast_S1x1x2048_S128x4x2048_0_1_2 (broadcastInDim S1x1x2048 ![2] bcast_S2048_S1x1x2048_2 g))

/-- The second matrix of the pair. -/
def w1 (w : S2x2048x1856.Idx → EReal) : S2048x1856.Idx → EReal :=
  shapeCast S2048x1856 (extractStridedSlice S1x2048x1856 ![1, 0, 0] w slices_S2x2048x1856_S1x2048x1856_1_0_0) shapeCasts_S1x2048x1856_S2048x1856

/-- The rows' channels. -/
def proj (h : S128x4x2048.Idx → EReal) (w : S2048x1856.Idx → EReal) : S128x4x1856.Idx → EReal :=
  Host.dotGeneral (F := Ideal) (φ₁ := .f32) (φ₂ := .f32) dot_S128x4x2048_S2048x1856_S128x4x1856_2_0_01_1_n_n none h w

def chU (z : S128x4x1856.Idx → EReal) : S128x4x1024.Idx → EReal := extractStridedSlice S128x4x1024 ![0, 0, 0] z slices_S128x4x1856_S128x4x1024_0_0_0
/-- The last rows of the state followed by the new ones. -/
def chP (st : S128x15x1024.Idx → EReal) (u : S128x4x1024.Idx → EReal) : S128x15x1024.Idx → EReal :=
  extractStridedSlice S128x15x1024 ![0, 4, 0] (concatenate S128x19x1024 1 [⟨S128x15x1024, st⟩, ⟨S128x4x1024, u⟩] concatenates_S128x15x1024_S128x4x1024_S128x19x1024_d1) slices_S128x19x1024_S128x15x1024_0_4_0
def chC (z : S128x4x1856.Idx → EReal) : S128x4x256.Idx → EReal := extractStridedSlice S128x4x256 ![0, 0, 1536] z slices_S128x4x1856_S128x4x256_0_0_1536
def chK (z : S128x4x1856.Idx → EReal) : S128x4x64.Idx → EReal := extractStridedSlice S128x4x64 ![0, 0, 1792] z slices_S128x4x1856_S128x4x64_0_0_1792

/-- The normalised latent channels. -/
def nc (x : S128x4x256.Idx → EReal) (g : S256.Idx → EReal) : S128x4x256.Idx → EReal :=
  mulf (F := Ideal) (φ := .f32) (mulf (F := Ideal) (φ := .f32) x (broadcastInDim S128x4x256 ![0, 1, 2] bcast_S128x4x1_S128x4x256_0_1_2 (Host.rsqrt (F := Ideal) (φ := .f32) (addf (Host.divf (broadcastInDim S128x4x1 ![0, 1] bcast_S128x4_S128x4x1_0_1 (Host.reduceAdd (F := Ideal) (φ := .f32) (mulf (F := Ideal) (φ := .f32) x x) (constant S_ .f32 0x00000000#32) reducesTo_S128x4x256_S128x4_d2 h_S_)) (broadcastInDim S128x4x1 ![] bcast_S_S128x4x1 (constant S_ .f32 0x43800000#32))) (broadcastInDim S128x4x1 ![] bcast_S_S128x4x1 (constant S_ .f32 0x358637BD#32)))))) (broadcastInDim S128x4x256 ![0, 1, 2] bcast_S1x1x256_S128x4x256_0_1_2 (broadcastInDim S1x1x256 ![2] bcast_S256_S1x1x256_2 g))

/-- The angles of every position. -/
def angs : S4x32.Idx → EReal :=
  mulf (F := Ideal) (φ := .f32) (broadcastInDim S4x32 ![0, 1] bcast_S4x1_S4x32_0_1 (broadcastInDim S4x1 ![0] bcast_S4_S4x1_0 (sitofp .f32 (addi (broadcastInDim S4 ![] bcast_S_S4 (constantI S_ 32 8192#32)) (iotaInDim S4 32 0))))) (broadcastInDim S4x32 ![0, 1] bcast_S1x32_S4x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))

/-- A table of the positions repeated over the batch. -/
def rep (a : S4x32.Idx → EReal) : S128x4x32.Idx → EReal :=
  broadcastInDim S128x4x32 ![0, 1, 2] bcast_S1x4x32_S128x4x32_0_1_2 (broadcastInDim S1x4x32 ![1, 2] bcast_S4x32_S1x4x32_1_2 a)

def k1 (k : S128x4x64.Idx → EReal) : S128x4x32.Idx → EReal := extractStridedSlice S128x4x32 ![0, 0, 0] k slices_S128x4x64_S128x4x32_0_0_0
def k2 (k : S128x4x64.Idx → EReal) : S128x4x32.Idx → EReal := extractStridedSlice S128x4x32 ![0, 0, 32] k slices_S128x4x64_S128x4x32_0_0_32

/-- The two halves turned. -/
def turn (a b : S128x4x32.Idx → EReal) (x : S4x32.Idx → EReal) : S128x4x64.Idx → EReal :=
  concatenate S128x4x64 2 [⟨S128x4x32, subf (F := Ideal) (φ := .f32) (mulf (F := Ideal) (φ := .f32) a (rep (Host.cos (F := Ideal) (φ := .f32) x))) (mulf (F := Ideal) (φ := .f32) b (rep (Host.sin (F := Ideal) (φ := .f32) x)))⟩,
    ⟨S128x4x32, addf (F := Ideal) (φ := .f32) (mulf (F := Ideal) (φ := .f32) a (rep (Host.sin (F := Ideal) (φ := .f32) x))) (mulf (F := Ideal) (φ := .f32) b (rep (Host.cos (F := Ideal) (φ := .f32) x)))⟩] concatenates_S128x4x32_S128x4x32_S128x4x64_d2

theorem nx_at (x : S128x4x2048.Idx → EReal) (g : S2048.Idx → EReal) (b : Fin 128) (t : Fin 4) (e : Fin 2048) :
    nx x g (ix3 b t e) = nrm (fun k => x (ix3 b t k)) (fun k => g (ix1 k)) e := by
  unfold nrm
  pointwise [nx]

theorem nc_at (x : S128x4x256.Idx → EReal) (g : S256.Idx → EReal) (b : Fin 128) (t : Fin 4) (e : Fin 256) :
    nc x g (ix3 b t e) = nrmc (fun k => x (ix3 b t k)) (fun k => g (ix1 k)) e := by
  unfold nrmc
  pointwise [nc]

theorem w1_at (w : S2x2048x1856.Idx → EReal) (k : Fin 2048) (j : Fin 1856) : w1 w (ix2 k j) = w (ix3 (1 : Fin 2) k j) := by
  pointwise [w1]

theorem proj_at (h : S128x4x2048.Idx → EReal) (w : S2048x1856.Idx → EReal) (b : Fin 128) (t : Fin 4) (j : Fin 1856) :
    proj h w (ix3 b t j) = dotc (fun k => h (ix3 b t k)) fun k => w (ix2 k j) := by
  unfold dotc
  pointwise [proj]

theorem chU_at (z : S128x4x1856.Idx → EReal) (b : Fin 128) (t : Fin 4) (j : Fin 1024) : chU z (ix3 b t j) = z (ix3 b t ⟨j.val, by have := j.isLt; omega⟩) := by
  pointwise [chU]

theorem chP_old (st : S128x15x1024.Idx → EReal) (u : S128x4x1024.Idx → EReal) (b : Fin 128) (i : Fin 15) (j : Fin 1024) (s : Fin 15) (h : s.val = 4 + i.val) :
    chP st u (ix3 b i j) = st (ix3 b s j) := by
  have hs := s.isLt
  pointwise [chP]
  rw [dif_pos (by omega)]
  exact congrArg (fun x => st (ix3 b x j)) (Fin.ext h.symm)

theorem chP_new (st : S128x15x1024.Idx → EReal) (u : S128x4x1024.Idx → EReal) (b : Fin 128) (i : Fin 15) (j : Fin 1024) (t : Fin 4) (h : i.val = 11 + t.val) :
    chP st u (ix3 b i j) = u (ix3 b t j) := by
  pointwise [chP]
  rw [dif_neg (by omega)]
  exact congrArg (fun x => u (ix3 b x j)) (Fin.ext (show 4 + i.val - 15 = t.val by omega))

theorem chC_at (z : S128x4x1856.Idx → EReal) (b : Fin 128) (t : Fin 4) (j : Fin 256) : chC z (ix3 b t j) = z (ix3 b t ⟨1536 + j.val, by have := j.isLt; omega⟩) := by
  pointwise [chC]

theorem k1_at (z : S128x4x1856.Idx → EReal) (b : Fin 128) (t : Fin 4) (j : Fin 32) : k1 (chK z) (ix3 b t j) = z (ix3 b t ⟨1792 + j.val, by have := j.isLt; omega⟩) := by
  pointwise [k1, chK]

theorem k2_at (z : S128x4x1856.Idx → EReal) (b : Fin 128) (t : Fin 4) (j : Fin 32) : k2 (chK z) (ix3 b t j) = z (ix3 b t ⟨1792 + (32 + j.val), by have := j.isLt; omega⟩) := by
  pointwise [k2, chK]

theorem angs_at (t : Fin 4) (i : Fin 32) : angs (ix2 t i) = ang (IntOp.addi 8192#32 (BitVec.ofNat 32 t.val)) i.val := by
  unfold ang
  pointwise [angs]

theorem turn_lo (a b : S128x4x32.Idx → EReal) (x : S4x32.Idx → EReal) (n : Fin 128) (t : Fin 4) (l : Fin 64) (h : l.val < 32) :
    turn a b x (ix3 n t l) = a (ix3 n t ⟨l.val, h⟩) * Ideal.cos (x (ix2 t ⟨l.val, h⟩)) - b (ix3 n t ⟨l.val, h⟩) * Ideal.sin (x (ix2 t ⟨l.val, h⟩)) := by
  pointwise [turn, rep]
  rw [dif_pos h]

theorem turn_hi (a b : S128x4x32.Idx → EReal) (x : S4x32.Idx → EReal) (n : Fin 128) (t : Fin 4) (l : Fin 64) (i : Fin 32) (h : l.val = 32 + i.val) :
    turn a b x (ix3 n t l) = a (ix3 n t i) * Ideal.sin (x (ix2 t i)) + b (ix3 n t i) * Ideal.cos (x (ix2 t i)) := by
  have e : (⟨l.val - 32, by have := l.isLt; omega⟩ : Fin 32) = i := Fin.ext (by simp only []; omega)
  pointwise [turn, rep]
  rw [dif_neg (by omega)]
  simp only [e]

/-- The channels at an index. -/
theorem z_at (x : S128x4x2048.Idx → EReal) (g : S2048.Idx → EReal) (w : S2x2048x1856.Idx → EReal) (b : Fin 128) (t : Fin 4) (j : Fin 1856) :
    proj (nx x g) (w1 w) (ix3 b t j) = dotc (nrm (fun k => x (ix3 b t k)) fun k => g (ix1 k)) fun k => w (ix3 (1 : Fin 2) k j) := by
  rw [proj_at]
  simp only [nx_at, w1_at]

theorem u_at (x : S128x4x2048.Idx → EReal) (g : S2048.Idx → EReal) (w : S2x2048x1856.Idx → EReal) (b : Fin 128) (t : Fin 4) (j : Fin 1024) :
    chU (proj (nx x g) (w1 w)) (ix3 b t j) = dotc (nrm (fun k => x (ix3 b t k)) fun k => g (ix1 k)) fun k => w (ix3 (1 : Fin 2) k ⟨j.val, by have := j.isLt; omega⟩) :=
  (chU_at _ b t j).trans (z_at x g w b t _)

theorem c_at (x : S128x4x2048.Idx → EReal) (g : S2048.Idx → EReal) (w : S2x2048x1856.Idx → EReal) (gc : S256.Idx → EReal) (b : Fin 128) (t : Fin 4) (j : Fin 256) :
    nc (chC (proj (nx x g) (w1 w))) gc (ix3 b t j) = nrmc (fun i => dotc (nrm (fun k => x (ix3 b t k)) fun k => g (ix1 k)) fun k => w (ix3 (1 : Fin 2) k ⟨1536 + i.val, by have := i.isLt; omega⟩)) (fun k => gc (ix1 k)) j := by
  rw [nc_at]
  simp only [chC_at, z_at]

theorem k_at (x : S128x4x2048.Idx → EReal) (g : S2048.Idx → EReal) (w : S2x2048x1856.Idx → EReal) (b : Fin 128) (t : Fin 4) (l : Fin 64) :
    turn (k1 (chK (proj (nx x g) (w1 w)))) (k2 (chK (proj (nx x g) (w1 w)))) angs (ix3 b t l)
      = rot (nrm (fun k => x (ix3 b t k)) fun k => g (ix1 k)) (fun j k => w (ix3 (1 : Fin 2) k j)) (IntOp.addi 8192#32 (BitVec.ofNat 32 t.val)) l := by
  have h6 := l.isLt
  unfold rot
  split
  · rename_i hl
    rw [turn_lo _ _ _ b t l hl, k1_at, k2_at, z_at, z_at, angs_at]
    have e : (⟨1792 + (32 + l.val), by omega⟩ : Fin 1856) = ⟨1824 + l.val, by omega⟩ := Fin.ext (by simp only []; omega)
    simp only [e]
  · rename_i hl
    rw [turn_hi _ _ _ b t l ⟨l.val - 32, by omega⟩ (by simp only []; omega), k1_at, k2_at, z_at, z_at, angs_at]
    have e : (⟨1792 + (l.val - 32), by omega⟩ : Fin 1856) = ⟨1760 + l.val, by omega⟩ := Fin.ext (by simp only []; omega)
    have e' : (⟨1792 + (32 + (l.val - 32)), by omega⟩ : Fin 1856) = ⟨1792 + l.val, by omega⟩ := Fin.ext (by simp only []; omega)
    simp only [e, e']

end Cert.SinpRef

end

end
-- ==== Proof.SinpClaim.lean ====
/- The sample's projections' claim: the two runs side by side. -/
module

public import proofs.«01_k».proof.Defs
public import proofs.«01_k».proof.Proof.Gen.Pre_finite5
public import proofs.«01_k».proof.Proof.InpClaim
public import proofs.«01_k».proof.Proof.SinpEntry
public import proofs.«01_k».proof.Proof.SinpRef
public import Idealize.ShloMosaic.Lib.ReduceAll

@[expose] public section

set_option maxRecDepth 16384

noncomputable section

namespace Cert.Sinp

open Idealize.ShloMosaic Idealize.ShloMosaic.TcCoe Idealize.SL.Sem Cert.FfnMath Cert.InpMath

section
open Cert.Pre_finite5 Cert.Pre_finite5.Facts

/-- The precondition gives real rows, gains and matrices. -/
theorem real_args [self : Cert.Pre_finite5.Facts] (x : S128x4x2048.Idx → EReal) (st : S128x15x1024.Idx → EReal) (g : S2048.Idx → EReal) (w : S2x2048x1856.Idx → EReal) (a3 : S512.Idx → EReal)
    (a4 : S512x1536.Idx → EReal) (a5 : S256.Idx → EReal) (a6 : S256x2048.Idx → EReal) (a7 : S128.Idx → EReal) (a8 : S32.Idx → EReal) (a9 : S128.Idx → EReal) (a10 : S32.Idx → EReal)
    (h : Cert.Pre_finite5.fn (F := Ideal) x st g w a3 a4 a5 a6 a7 a8 a9 a10 = fun _ => 1#1) :
    (∀ i, ∃ r : ℝ, x i = (r : EReal)) ∧ (∀ i, ∃ r : ℝ, g i = (r : EReal)) ∧ ∀ i, ∃ r : ℝ, w i = (r : EReal) := by
  haveI : Subsingleton S_.Idx := ⟨fun a b => funext fun i => i.elim0⟩
  obtain ⟨i0⟩ : Nonempty S2x2048x1856.Idx := ⟨ix3 (0 : Fin 2) (0 : Fin 2048) (0 : Fin 1856)⟩
  obtain ⟨j0⟩ : Nonempty S2048.Idx := ⟨ix1 (0 : Fin 2048)⟩
  obtain ⟨z⟩ : Nonempty S_.Idx := ⟨fun i => i.elim0⟩
  unfold Cert.Pre_finite5.fn at h
  dsimp only at h
  obtain ⟨h9, hw⟩ := Cert.Inp.and_split h
  have hg' := Host.reduce_andi_all _ _ _ _ z (Cert.Inp.scalar_one (h9 i0) z)
  obtain ⟨h3, hg⟩ := Cert.Inp.and_split (funext hg')
  have hx := Host.reduce_andi_all _ _ _ _ z (Cert.Inp.scalar_one (h3 j0) z)
  exact ⟨fun i => Cert.Flash.real_of_abs (hx i), fun i => Cert.Flash.real_of_abs (hg i), fun i => Cert.Flash.real_of_abs (hw i)⟩
end

theorem algebraic : Cert.algebraic_Kernel5Ideal_Reference5Ideal_pre_finite5 (hKernel5Ideal := Cert.Kernel5Ideal.Gen.facts)
    (hReference5Ideal := Cert.Reference5Ideal.Gen.facts) (hPre_finite5 := Cert.Pre_finite5.Gen.facts) := by
  intro m g m' g' hp hag
  refine ⟨fun c => resU m c, fun c => resC m c, fun c => resK m c, fun c => resP m c, ?_, ?_⟩
  · exact (θ_run Cert.Kernel5Ideal.defs _ _).mono (fun r h c => ⟨(h.1 c).2 Cert.Kernel5Ideal.main_v65 (Pipeline.mem_restRefs_of Cert.Kernel5Ideal.main_v65 (by decide) (by decide)),
        (h.1 c).2 Cert.Kernel5Ideal.main_v56 (Pipeline.mem_restRefs_of Cert.Kernel5Ideal.main_v56 (by decide) (by decide)),
        (h.1 c).2 Cert.Kernel5Ideal.main_v59 (Pipeline.mem_restRefs_of Cert.Kernel5Ideal.main_v59 (by decide) (by decide)),
        (h.1 c).2 Cert.Kernel5Ideal.main_v64 (Pipeline.mem_restRefs_of Cert.Kernel5Ideal.main_v64 (by decide) (by decide)), h.2 c⟩)
      (θ_run_and (Cert.Kernel5Ideal.Gen.run_main m g) (Cert.Kernel5Ideal.Gen.unchanged m g))
  · refine (θ_run Cert.Reference5Ideal.defs _ _).mono (fun r h c => ⟨(h c).1.trans ?_, (h c).2.1.trans ?_, (h c).2.2.1.trans ?_, (h c).2.2.2.1.trans ?_, (h c).2.2.2.2⟩) (Cert.Reference5Ideal.Value.run m' g')
    all_goals obtain ⟨a0, a1, a2, a3, a4, a5, a6, a7, a8, a9, a10, a11⟩ := hag c
    · refine (show _ = Cert.SinpRef.chU (Cert.SinpRef.proj (Cert.SinpRef.nx (argX m c) (argG m c)) (Cert.SinpRef.w1 (argW m c))) from ?_).trans ?_
      · rw [a0, a2, a3]
        rfl
      · funext ix
        rw [eq_ix3 ix]
        exact (Cert.SinpRef.u_at _ _ _ (ix 0) (ix 1) (ix 2)).trans (resU_eq m c (ix 0) (ix 1) (ix 2)).symm
    · refine (show _ = Cert.SinpRef.nc (Cert.SinpRef.chC (Cert.SinpRef.proj (Cert.SinpRef.nx (argX m c) (argG m c)) (Cert.SinpRef.w1 (argW m c)))) (argC m c) from ?_).trans ?_
      · rw [a0, a2, a3, a6]
        rfl
      · funext ix
        rw [eq_ix3 ix]
        exact (Cert.SinpRef.c_at _ _ _ _ (ix 0) (ix 1) (ix 2)).trans (resC_eq m c (ix 0) (ix 1) (ix 2)).symm
    · refine (show _ = Cert.SinpRef.turn (Cert.SinpRef.k1 (Cert.SinpRef.chK (Cert.SinpRef.proj (Cert.SinpRef.nx (argX m c) (argG m c)) (Cert.SinpRef.w1 (argW m c)))))
          (Cert.SinpRef.k2 (Cert.SinpRef.chK (Cert.SinpRef.proj (Cert.SinpRef.nx (argX m c) (argG m c)) (Cert.SinpRef.w1 (argW m c))))) Cert.SinpRef.angs from ?_).trans ?_
      · unfold Cert.Reference5Ideal.Value.res_main_v65
        rw [a0, a2, a3]
        rfl
      · obtain ⟨hx, hg, hw⟩ := real_args (self := Cert.Pre_finite5.Gen.facts) _ _ _ _ _ _ _ _ _ _ _ _ (hp c)
        funext ix
        rw [eq_ix3 ix]
        refine (Cert.SinpRef.k_at _ _ _ (ix 0) (ix 1) (ix 2)).trans (resK_eq m c (ix 0) (ix 1) (ix 2) (fun k => ?_) fun j k => hw _).symm
        choose x hx using hx
        choose v hv using hg
        have e1 : (fun k => argX m c (ix3 (ix 0) (ix 1) k)) = fun k => (x (ix3 (ix 0) (ix 1) k) : EReal) := funext fun k => hx _
        have e2 : (fun k => argG m c (ix1 k)) = fun k => (v (ix1 k) : EReal) := funext fun k => hv _
        unfold hrow
        rw [e1, e2]
        exact nrm_real _ _ k
    · refine (show _ = Cert.SinpRef.chP (argS m c) (Cert.SinpRef.chU (Cert.SinpRef.proj (Cert.SinpRef.nx (argX m c) (argG m c)) (Cert.SinpRef.w1 (argW m c)))) from ?_).trans ?_
      · rw [a0, a1, a2, a3]
        rfl
      · funext ix
        rw [eq_ix3 ix]
        have h1 : (ix 1).val < 15 := (ix 1).isLt
        by_cases hi : (ix 1).val < 11
        · exact (Cert.SinpRef.chP_old _ _ (ix 0) (ix 1) (ix 2) ⟨4 + (ix 1).val, by omega⟩ rfl).trans (resP_old m c (ix 0) (ix 1) (ix 2) ⟨4 + (ix 1).val, by omega⟩ rfl).symm
        · have ht : (ix 1).val = 11 + ((ix 1).val - 11) := by omega
          exact ((Cert.SinpRef.chP_new _ _ (ix 0) (ix 1) (ix 2) ⟨(ix 1).val - 11, by omega⟩ ht).trans (Cert.SinpRef.u_at _ _ _ (ix 0) _ (ix 2))).trans
            (resP_eq m c (ix 0) (ix 1) (ix 2) ⟨(ix 1).val - 11, by omega⟩ ht).symm

end Cert.Sinp

end

end
-- ==== Proof.MrgMath.lean ====
/- The pool's trailing means and the merge of the two mixers, one row at a time. -/
module

public import proofs.«01_k».proof.Proof.InpMath
public import Idealize.ShloMosaic.PureOps.Ideal
public import Idealize.ShloMosaic.Lib.Routing.OpsOne

@[expose] public section

noncomputable section

namespace Cert.MrgMath

open Idealize.ShloMosaic

/-- A row of 1024 entries divided by the root of its mean square, times the gains. -/
def nrmm (row g : Fin 1024 → EReal) (e : Fin 1024) : EReal :=
  row e * Ideal.rsqrt (Ideal.div (∑ k, row k * row k) (Ideal.ofBits FTy.f32 0x44800000#32) + Ideal.ofBits FTy.f32 0x358637BD#32) * g e

/-- Four groups of 256 side by side. -/
def four (p : Fin 4 → Fin 256 → EReal) (j : Fin 1024) : EReal :=
  p ⟨j.val / 256, by have := j.isLt; omega⟩ ⟨j.val % 256, by omega⟩

/-- The pool's mixed channels: each group times its matrix, times the scale. -/
def pooled (d : Fin 4 → Fin 256 → EReal) (w : Fin 4 → Fin 256 → Fin 256 → EReal) (s : Fin 1024 → EReal) (j : Fin 1024) : EReal :=
  four (fun g l => ∑ k, d g k * w g k l) j * s j

/-- Two rows of 1024 side by side. -/
def two (a b : Fin 1024 → EReal) (k : Fin 2048) : EReal :=
  if h : k.val < 1024 then a ⟨k.val, h⟩ else b ⟨k.val - 1024, by have := k.isLt; omega⟩

/-- The first terms of a sequence, added in order. -/
def wsum (f : ℕ → EReal) : ℕ → EReal
  | 0 => f 0
  | n + 1 => wsum f n + f (n + 1)

/-- The number of positions a trailing mean covers. -/
def cnt (w t : ℕ) : EReal := (((min (t + 1) w : ℕ) : ℝ) : EReal)

/-- A column's entry `k` rows before row `t`, zero before the first row. -/
def back (u : Fin 4112 → EReal) (t : Fin 4112) (k : ℕ) : EReal :=
  if k ≤ t.val then u ⟨t.val - k, by have := t.isLt; omega⟩ else 0

/-- The trailing mean of `n + 1` rows less the row itself. -/
def dif (u : Fin 4112 → EReal) (t : Fin 4112) (n : ℕ) : EReal :=
  Ideal.div (wsum (back u t) n) (cnt (n + 1) t.val) - u t

/-- The four groups' window lengths, less one. -/
def win : Fin 4 → ℕ := ![1, 3, 7, 15]

/-- Channel `l` of group `g`. -/
def chn (g : Fin 4) (l : Fin 256) : Fin 1024 := ⟨256 * g.val + l.val, by have := g.isLt; have := l.isLt; omega⟩

theorem four_chn (p : Fin 4 → Fin 256 → EReal) (g : Fin 4) (l : Fin 256) : four p (chn g l) = p g l := by
  have hl := l.isLt
  have e1 : (⟨(chn g l).val / 256, by have := (chn g l).isLt; omega⟩ : Fin 4) = g := Fin.ext (by show (256 * g.val + l.val) / 256 = g.val; omega)
  have e2 : (⟨(chn g l).val % 256, by omega⟩ : Fin 256) = l := Fin.ext (by show (256 * g.val + l.val) % 256 = l.val; omega)
  unfold four
  rw [e1, e2]

/-- A merged row's entry. -/
def merged (x : EReal) (p pn a an : Fin 1024 → EReal) (w : Fin 2048 → EReal) : EReal :=
  x + ∑ k, two (nrmm p pn) (nrmm a an) k * w k

theorem four_ite (p : Fin 4 → Fin 256 → EReal) (j : Fin 1024) :
    (if h : j.val < 256 then p 0 ⟨j.val, h⟩ else if h : j.val - 256 < 256 then p 1 ⟨j.val - 256, h⟩
      else if h : j.val - 256 - 256 < 256 then p 2 ⟨j.val - 256 - 256, h⟩ else p 3 ⟨j.val - 256 - 256 - 256, by have := j.isLt; omega⟩) = four p j := by
  have hj := j.isLt
  unfold four
  have key : ∀ (g g' : Fin 4) (l l' : Fin 256), g.val = g'.val → l.val = l'.val → p g l = p g' l' := fun g g' l l' h h' => by
    rw [Fin.ext h, Fin.ext h']
  split
  · exact key _ _ _ _ (by show 0 = j.val / 256; omega) (by show j.val = j.val % 256; omega)
  split
  · exact key _ _ _ _ (by show 1 = j.val / 256; omega) (by show j.val - 256 = j.val % 256; omega)
  split
  · exact key _ _ _ _ (by show 2 = j.val / 256; omega) (by show j.val - 256 - 256 = j.val % 256; omega)
  · exact key _ _ _ _ (by show 3 = j.val / 256; omega) (by show j.val - 256 - 256 - 256 = j.val % 256; omega)

theorem window_real (U : ℕ → ℝ) (t w : ℕ) :
    ∑ k ∈ Finset.range w, (if k ≤ t then U (t - k) else 0) + ∑ s ∈ Finset.range (t + 1 - w), U s = ∑ s ∈ Finset.range (t + 1), U s := by
  induction w with
  | zero => simp
  | succ w ih =>
    rw [← ih, Finset.sum_range_succ]
    by_cases h : w ≤ t
    · rw [if_pos h, show t + 1 - w = (t - w) + 1 by omega, Finset.sum_range_succ, show t + 1 - (w + 1) = t - w by omega]
      ring
    · rw [if_neg h, show t + 1 - w = 0 by omega, show t + 1 - (w + 1) = 0 by omega, add_zero]

theorem wsum_coe (f : ℕ → ℝ) (n : ℕ) : wsum (fun k => (f k : EReal)) n = ((∑ k ∈ Finset.range (n + 1), f k : ℝ) : EReal) := by
  induction n with
  | zero => simp [wsum]
  | succ n ih => rw [wsum, ih, Finset.sum_range_succ _ (n + 1), EReal.coe_add]

/-- The sum of a column's rows up to row `t`. -/
def upto (u : Fin 4112 → EReal) (t : Fin 4112) : EReal := ∑ i, if i ≤ t then u i else 0

theorem upto_coe (u : Fin 4112 → ℝ) (t : Fin 4112) :
    upto (fun i => (u i : EReal)) t = ((∑ s ∈ Finset.range (t.val + 1), (if h : s < 4112 then u ⟨s, h⟩ else 0) : ℝ) : EReal) := by
  unfold upto
  have ht := t.isLt
  have e : ∀ i : Fin 4112, (if i ≤ t then (u i : EReal) else 0) = (((fun n : ℕ => if n ≤ t.val then (if h : n < 4112 then u ⟨n, h⟩ else 0) else 0) i.val : ℝ) : EReal) := fun i => by
    show _ = ((if i.val ≤ t.val then (if h : i.val < 4112 then u ⟨i.val, h⟩ else 0) else 0 : ℝ) : EReal)
    rw [dif_pos i.isLt]
    by_cases h : i ≤ t
    · rw [if_pos h, if_pos (show i.val ≤ t.val from h)]
    · rw [if_neg h, if_neg (show ¬ i.val ≤ t.val from h), EReal.coe_zero]
  rw [Finset.sum_congr rfl fun i _ => e i, ← Online.coe_sum, Fin.sum_univ_eq_sum_range (fun n : ℕ => if n ≤ t.val then (if h : n < 4112 then u ⟨n, h⟩ else 0) else (0 : ℝ)) 4112, ← Finset.sum_filter]
  congr 1
  refine Finset.sum_congr (Finset.ext fun n => ?_) fun _ _ => rfl
  rw [Finset.mem_range, Finset.mem_filter, Finset.mem_range]
  omega

/-- The rows up to `t` less the rows up to `t - w` are the last `w` rows, when the column is real. -/
theorem window (u : Fin 4112 → EReal) (hu : ∀ i, ∃ r : ℝ, u i = (r : EReal)) (t : Fin 4112) (n : ℕ) :
    upto u t - (if h : n + 1 ≤ t.val then upto u ⟨t.val - (n + 1), by have := t.isLt; omega⟩ else 0) = wsum (back u t) n := by
  choose v hv using hu
  obtain rfl : u = fun i => (v i : EReal) := funext hv
  have ht := t.isLt
  set U : ℕ → ℝ := fun s => if h : s < 4112 then v ⟨s, h⟩ else 0 with hU
  have hb : back (fun i => (v i : EReal)) t = fun k => ((if k ≤ t.val then U (t.val - k) else 0 : ℝ) : EReal) := by
    funext k
    unfold back
    by_cases h : k ≤ t.val
    · rw [if_pos h, if_pos h, hU]
      simp only []
      rw [dif_pos (show t.val - k < 4112 by omega)]
    · rw [if_neg h, if_neg h, EReal.coe_zero]
  have hs : (if h : n + 1 ≤ t.val then upto (fun i => (v i : EReal)) ⟨t.val - (n + 1), by have := t.isLt; omega⟩ else 0) = ((∑ s ∈ Finset.range (t.val + 1 - (n + 1)), U s : ℝ) : EReal) := by
    by_cases h : n + 1 ≤ t.val
    · rw [dif_pos h, upto_coe]
      show ((∑ s ∈ Finset.range (t.val - (n + 1) + 1), U s : ℝ) : EReal) = _
      rw [show t.val - (n + 1) + 1 = t.val + 1 - (n + 1) by omega]
    · rw [dif_neg h, show t.val + 1 - (n + 1) = 0 by omega, Finset.sum_range_zero, EReal.coe_zero]
  rw [hs, hb, wsum_coe, upto_coe, ← EReal.coe_sub]
  congr 1
  have := window_real U t.val (n + 1)
  show (∑ s ∈ Finset.range (t.val + 1), U s) - _ = _
  linarith

end Cert.MrgMath

end

end
-- ==== Proof.MrgSum.lean ====
/- The running sum down a sequence, as a sum over the rows up to each one. -/
module

public import proofs.«01_k».proof.Proof.MrgMath
public import Idealize.ShloMosaic.Lib.StableHlo.ReadAt

@[expose] public section

set_option maxRecDepth 16384

noncomputable section

namespace Cert.MrgMath

open Idealize.ShloMosaic

theorem upto_range (u : Fin 4112 → EReal) (t : Fin 4112) :
    upto u t = ∑ s ∈ Finset.range (t.val + 1), if h : s < 4112 then u ⟨s, h⟩ else 0 := by
  unfold upto
  have ht := t.isLt
  have e : ∀ i : Fin 4112, (if i ≤ t then u i else 0) = (fun n : ℕ => if n ≤ t.val then (if h : n < 4112 then u ⟨n, h⟩ else 0) else 0) i.val := fun i => by
    show _ = (if i.val ≤ t.val then (if h : i.val < 4112 then u ⟨i.val, h⟩ else 0) else 0)
    rw [dif_pos i.isLt]
    rfl
  rw [Finset.sum_congr rfl fun i _ => e i, Fin.sum_univ_eq_sum_range (fun n : ℕ => if n ≤ t.val then (if h : n < 4112 then u ⟨n, h⟩ else 0) else (0 : EReal)) 4112, ← Finset.sum_filter]
  refine Finset.sum_congr (Finset.ext fun n => ?_) fun _ _ => rfl
  rw [Finset.mem_range, Finset.mem_filter, Finset.mem_range]
  omega

theorem foldl_sum {N : ℕ} (g : Fin N → EReal) (l : List (Fin N)) (v : EReal) : l.foldl (fun r n => r + g n) v = v + (l.map g).sum := by
  induction l generalizing v with
  | nil => simp
  | cons a l ih => rw [List.foldl_cons, ih, List.map_cons, List.sum_cons, add_assoc]

theorem numel_win : (⟨3, ![1, 4112, 1]⟩ : Shape).numel = 4112 := (Shape.numel_rank3 _).trans (by norm_num; rfl)

theorem symm_win (n : Fin (⟨3, ![1, 4112, 1]⟩ : Shape).numel) :
    (⟨3, ![1, 4112, 1]⟩ : Shape).rowMajor.symm n = ix3 (0 : Fin 1) (n.cast numel_win) (0 : Fin 1) :=
  ((⟨3, ![1, 4112, 1]⟩ : Shape).rowMajor.symm_apply_eq).2 (Fin.ext (by
    rw [Shape.rowMajor_val_three]
    show n.val = (0 * 4112 + n.val) * 1 + 0
    omega))

/-- The running sum at row `t` is the sum of the rows up to `t`. -/
theorem cumsum_at (x : (⟨3, ![2, 4112, 1024]⟩ : Shape).Idx → EReal) (v : (⟨0, ![]⟩ : Shape).Idx → EReal) (hv : ∀ i, v i = 0)
    (h : (⟨3, ![2, 4112, 1024]⟩ : Shape).ReduceWindows ![1, 4112, 1] ![1, 1, 1] ![0, 4111, 0] ![0, 0, 0] ⟨3, ![2, 4112, 1024]⟩) (hu : 0 < (⟨0, ![]⟩ : Shape).numel)
    (b : Fin 2) (t : Fin 4112) (j : Fin 1024) :
    Host.reduceWindow (· + ·) ![1, 4112, 1] ![1, 1, 1] ![0, 4111, 0] ![0, 0, 0] x v h hu (ix3 b t j) = upto (fun i => x (ix3 b i j)) t := by
  have ht := t.isLt
  have hb := b.isLt
  have hj := j.isLt
  unfold Host.reduceWindow
  refine (foldl_sum _ _ _).trans ?_
  rw [hv, zero_add, ← Fin.sum_univ_def]
  refine (Finset.sum_congr rfl fun n _ => (?_ : _ = (fun n : ℕ => if 4111 ≤ t.val + n then (if h : t.val + n - 4111 < 4112 then x (ix3 b ⟨t.val + n - 4111, h⟩ j) else 0) else 0) n.val)).trans ?_
  · have hn : n.val < 4112 := (n.cast numel_win).isLt
    have w0 : ((⟨3, ![1, 4112, 1]⟩ : Shape).rowMajor.symm n 0).val = 0 := by rw [symm_win]; rfl
    have w1 : ((⟨3, ![1, 4112, 1]⟩ : Shape).rowMajor.symm n 1).val = n.val := by rw [symm_win]; rfl
    have w2 : ((⟨3, ![1, 4112, 1]⟩ : Shape).rowMajor.symm n 2).val = 0 := by rw [symm_win]; rfl
    dsimp only
    split
    · next hin =>
      have h1 := hin 1
      change 4111 ≤ t.val * 1 + ((⟨3, ![1, 4112, 1]⟩ : Shape).rowMajor.symm n 1).val ∧ t.val * 1 + ((⟨3, ![1, 4112, 1]⟩ : Shape).rowMajor.symm n 1).val - 4111 < 4112 at h1
      rw [w1] at h1
      rw [if_pos (by omega), dif_pos (by omega)]
      refine congrArg x (funext fun a => Fin.ext ?_)
      match a with
      | ⟨0, _⟩ =>
        show b.val * 1 + ((⟨3, ![1, 4112, 1]⟩ : Shape).rowMajor.symm n 0).val - 0 = b.val
        rw [w0]
        omega
      | ⟨1, _⟩ =>
        show t.val * 1 + ((⟨3, ![1, 4112, 1]⟩ : Shape).rowMajor.symm n 1).val - 4111 = t.val + n.val - 4111
        rw [w1, Nat.mul_one]
      | ⟨2, _⟩ =>
        show j.val * 1 + ((⟨3, ![1, 4112, 1]⟩ : Shape).rowMajor.symm n 2).val - 0 = j.val
        rw [w2]
        omega
    · next hin =>
      rw [if_neg fun hle => hin fun a => by
        match a with
        | ⟨0, _⟩ =>
          show 0 ≤ b.val * 1 + ((⟨3, ![1, 4112, 1]⟩ : Shape).rowMajor.symm n 0).val ∧ b.val * 1 + ((⟨3, ![1, 4112, 1]⟩ : Shape).rowMajor.symm n 0).val - 0 < 2
          rw [w0]
          omega
        | ⟨1, _⟩ =>
          show 4111 ≤ t.val * 1 + ((⟨3, ![1, 4112, 1]⟩ : Shape).rowMajor.symm n 1).val ∧ t.val * 1 + ((⟨3, ![1, 4112, 1]⟩ : Shape).rowMajor.symm n 1).val - 4111 < 4112
          rw [w1]
          omega
        | ⟨2, _⟩ =>
          show 0 ≤ j.val * 1 + ((⟨3, ![1, 4112, 1]⟩ : Shape).rowMajor.symm n 2).val ∧ j.val * 1 + ((⟨3, ![1, 4112, 1]⟩ : Shape).rowMajor.symm n 2).val - 0 < 1024
          rw [w2]
          omega]
  rw [Fin.sum_univ_eq_sum_range (fun n : ℕ => if 4111 ≤ t.val + n then (if h : t.val + n - 4111 < 4112 then x (ix3 b ⟨t.val + n - 4111, h⟩ j) else 0) else 0), numel_win,
    upto_range, ← Finset.sum_filter]
  refine Finset.sum_nbij' (fun n => t.val + n - 4111) (fun s => s + 4111 - t.val) ?_ ?_ ?_ ?_ ?_
  · intro n hn
    rw [Finset.mem_filter, Finset.mem_range] at hn
    rw [Finset.mem_range]
    omega
  · intro s hs
    rw [Finset.mem_range] at hs
    rw [Finset.mem_filter, Finset.mem_range]
    omega
  · intro n hn
    rw [Finset.mem_filter, Finset.mem_range] at hn
    show t.val + n - 4111 + 4111 - t.val = n
    omega
  · intro s hs
    rw [Finset.mem_range] at hs
    show t.val + (s + 4111 - t.val) - 4111 = s
    omega
  · intro n hn
    rfl

/-- The number of positions as the kernel counts them. -/
theorem count_word (i r w : ℕ) (hi : i < 17) (hr : r < 256) (hw : w < 256) :
    (FloatOps.sitofp FTy.f32 (IntOp.minsi (BitVec.ofNat 32 i * 256#32 + BitVec.ofNat 32 r + 1#32) (BitVec.ofNat 32 w)) : Ideal .f32) = cnt w (i * 256 + r) := by
  have e : BitVec.ofNat 32 i * 256#32 + BitVec.ofNat 32 r + 1#32 = BitVec.ofNat 32 (i * 256 + r + 1) := by
    apply BitVec.eq_of_toNat_eq
    simp only [BitVec.toNat_add, BitVec.toNat_mul, BitVec.toNat_ofNat]
    omega
  have small : ∀ n : ℕ, n < 8192 → (BitVec.ofNat 32 n).toInt = (n : ℤ) := by
    intro n hn
    rw [BitVec.toInt_eq_toNat_of_lt (by rw [BitVec.toNat_ofNat]; omega), BitVec.toNat_ofNat]
    omega
  have s1 := small (i * 256 + r + 1) (by omega)
  have s2 := small w (by omega)
  rw [e]
  unfold cnt IntOp.minsi
  show (((if (BitVec.ofNat 32 (i * 256 + r + 1)).slt (BitVec.ofNat 32 w) then BitVec.ofNat 32 (i * 256 + r + 1) else BitVec.ofNat 32 w).toInt : ℝ) : EReal) = _
  have hs : (BitVec.ofNat 32 (i * 256 + r + 1)).slt (BitVec.ofNat 32 w) = decide (((i * 256 + r + 1 : ℕ) : ℤ) < (w : ℤ)) := by
    rw [BitVec.slt, s1, s2]
  rw [hs]
  by_cases h : i * 256 + r + 1 < w
  · rw [if_pos (by simpa using (by exact_mod_cast h : ((i * 256 + r + 1 : ℕ) : ℤ) < (w : ℤ))), s1, Nat.min_eq_left h.le, Int.cast_natCast]
  · rw [if_neg (by simpa using (by exact_mod_cast Nat.le_of_not_lt h : (w : ℤ) ≤ ((i * 256 + r + 1 : ℕ) : ℤ))), s2, Nat.min_eq_right (Nat.le_of_not_lt h), Int.cast_natCast]

/-- The number of positions as the reference counts them. -/
theorem count_float (t w : ℕ) (ht : t < 8192) (c : EReal) (hc : c = ((w : ℝ) : EReal)) :
    min (Ideal.ofBits FTy.f32 0x3F800000#32 + (FloatOps.sitofp FTy.f32 (BitVec.ofNat 32 t) : Ideal .f32)) c = cnt w t := by
  have s1 : (BitVec.ofNat 32 t).toInt = (t : ℤ) := by
    rw [BitVec.toInt_eq_toNat_of_lt (by rw [BitVec.toNat_ofNat]; omega), BitVec.toNat_ofNat]
    omega
  have one : Ideal.ofBits FTy.f32 0x3F800000#32 = ((1 : ℝ) : EReal) := by
    simp [Ideal.ofBits, Ideal.ieee]
    rw [← EReal.coe_mul]
    norm_num
  have st : (FloatOps.sitofp FTy.f32 (BitVec.ofNat 32 t) : Ideal .f32) = (((t : ℕ) : ℝ) : EReal) := by
    show (((BitVec.ofNat 32 t).toInt : ℝ) : EReal) = _
    rw [s1, Int.cast_natCast]
  rw [one, st, hc, ← EReal.coe_add]
  unfold cnt
  rw [Nat.cast_min, (show Monotone (fun r : ℝ => (r : EReal)) from EReal.coe_strictMono.monotone).map_min, Nat.cast_add, Nat.cast_one, add_comm (1 : ℝ)]

theorem two_eq : Ideal.ofBits FTy.f32 0x40000000#32 = (((2 : ℕ) : ℝ) : EReal) := by
  simp [Ideal.ofBits, Ideal.ieee]
  rw [← EReal.coe_mul]
  norm_num
theorem four_eq : Ideal.ofBits FTy.f32 0x40800000#32 = (((4 : ℕ) : ℝ) : EReal) := by
  simp [Ideal.ofBits, Ideal.ieee]
  rw [← EReal.coe_mul]
  norm_num
theorem eight_eq : Ideal.ofBits FTy.f32 0x41000000#32 = (((8 : ℕ) : ℝ) : EReal) := by
  simp [Ideal.ofBits, Ideal.ieee]
  rw [← EReal.coe_mul]
  norm_num
theorem sixteen_eq : Ideal.ofBits FTy.f32 0x41800000#32 = (((16 : ℕ) : ℝ) : EReal) := by
  simp [Ideal.ofBits, Ideal.ieee]
  rw [← EReal.coe_mul]
  norm_num

end Cert.MrgMath

end

end
-- ==== Proof.MrgPoint.lean ====
/- What one point of the merge's kernel computes, entry by entry. -/
module

public import proofs.«01_k».proof.Proof.Gen.Kernel6Ideal.Frame
public import proofs.«01_k».proof.Proof.MrgSum

@[expose] public section

set_option maxRecDepth 16384

noncomputable section

namespace Cert.Mrg

open Cert.Kernel6Ideal Cert.Kernel6Ideal.Gen Idealize.ShloMosaic Idealize.ShloMosaic.TcCoe Idealize.SL.Sem Cert.MrgMath

theorem eight_ite (p : Fin 8 → Fin 128 → EReal) (j : Fin 1024) :
    (if h : j.val < 128 then p 0 ⟨j.val, h⟩ else if h : j.val - 128 < 128 then p 1 ⟨j.val - 128, h⟩ else if h : j.val - 128 - 128 < 128 then p 2 ⟨j.val - 128 - 128, h⟩ else if h : j.val - 128 - 128 - 128 < 128 then p 3 ⟨j.val - 128 - 128 - 128, h⟩ else if h : j.val - 128 - 128 - 128 - 128 < 128 then p 4 ⟨j.val - 128 - 128 - 128 - 128, h⟩ else if h : j.val - 128 - 128 - 128 - 128 - 128 < 128 then p 5 ⟨j.val - 128 - 128 - 128 - 128 - 128, h⟩ else if h : j.val - 128 - 128 - 128 - 128 - 128 - 128 < 128 then p 6 ⟨j.val - 128 - 128 - 128 - 128 - 128 - 128, h⟩ else p 7 ⟨j.val - 128 - 128 - 128 - 128 - 128 - 128 - 128, by have := j.isLt; omega⟩) = p ⟨j.val / 128, by have := j.isLt; omega⟩ ⟨j.val % 128, by omega⟩ := by
  have hj := j.isLt
  have key : ∀ (g g' : Fin 8) (l l' : Fin 128), g.val = g'.val → l.val = l'.val → p g l = p g' l' := fun g g' l l' h h' => by
    rw [Fin.ext h, Fin.ext h']
  split
  · exact key _ _ _ _ (by show 0 = j.val / 128; omega) (by show j.val = j.val % 128; omega)
  split
  · exact key _ _ _ _ (by show 1 = j.val / 128; omega) (by show j.val - 128 = j.val % 128; omega)
  split
  · exact key _ _ _ _ (by show 2 = j.val / 128; omega) (by show j.val - 128 - 128 = j.val % 128; omega)
  split
  · exact key _ _ _ _ (by show 3 = j.val / 128; omega) (by show j.val - 128 - 128 - 128 = j.val % 128; omega)
  split
  · exact key _ _ _ _ (by show 4 = j.val / 128; omega) (by show j.val - 128 - 128 - 128 - 128 = j.val % 128; omega)
  split
  · exact key _ _ _ _ (by show 5 = j.val / 128; omega) (by show j.val - 128 - 128 - 128 - 128 - 128 = j.val % 128; omega)
  split
  · exact key _ _ _ _ (by show 6 = j.val / 128; omega) (by show j.val - 128 - 128 - 128 - 128 - 128 - 128 = j.val % 128; omega)
  · exact key _ _ _ _ (by show 7 = j.val / 128; omega) (by show j.val - 128 - 128 - 128 - 128 - 128 - 128 - 128 = j.val % 128; omega)

/-- The heads side by side, from their transposed blocks. -/
theorem pay12_at (A : Fin 8 → S1x1x128x256.Idx → EReal) (r : Fin 256) (j : Fin 1024) :
    k0_pay12 (F := Ideal) (A 0) (A 1) (A 2) (A 3) (A 4) (A 5) (A 6) (A 7) (ix2 r j) = A ⟨j.val / 128, by have := j.isLt; omega⟩ (ix4 (0 : Fin 1) (0 : Fin 1) (⟨j.val % 128, by omega⟩ : Fin 128) r) := by
  refine Eq.trans ?_ (eight_ite (fun h d => A h (ix4 (0 : Fin 1) (0 : Fin 1) d r)) j)
  pointwise [k0_pay12]

/-- The pool's mixed channels. -/
theorem pay14_at (d : S256x1024.Idx → EReal) (P : Fin 4 → S1x256x256.Idx → EReal) (s : S1x1024.Idx → EReal) (r : Fin 256) (j : Fin 1024) :
    k0_pay14 (F := Ideal) d (P 0) (P 1) (P 2) (P 3) s (ix2 r j)
      = pooled (fun g l => d (ix2 r (chn g l))) (fun g k l => P g (ix3 (0 : Fin 1) k l)) (fun k => s (ix2 (0 : Fin 1) k)) j := by
  unfold pooled
  rw [← four_ite]
  unfold chn
  pointwise [k0_pay14]

/-- Their mean square. -/
theorem pay16_at (d : S256x1024.Idx → EReal) (P : Fin 4 → S1x256x256.Idx → EReal) (s : S1x1024.Idx → EReal) (r : Fin 256) :
    k0_pay16 (F := Ideal) d (P 0) (P 1) (P 2) (P 3) s (ix2 r (0 : Fin 1))
      = Ideal.div (∑ k : Fin 1024, k0_pay14 (F := Ideal) d (P 0) (P 1) (P 2) (P 3) s (ix2 r k) * k0_pay14 (F := Ideal) d (P 0) (P 1) (P 2) (P 3) s (ix2 r k))
          (Ideal.ofBits FTy.f32 0x44800000#32) + Ideal.ofBits FTy.f32 0x358637BD#32 := by
  unfold k0_pay16
  generalize k0_pay14 (F := Ideal) d (P 0) (P 1) (P 2) (P 3) s = z
  pointwise

/-- The merged row. -/
theorem pay1_at (a : S256x1024.Idx → EReal) (x : S256x2048.Idx → EReal) (p : S256x1024.Idx → EReal) (pn : S1x1024.Idx → EReal) (v : S256x1.Idx → EReal) (an : S1x1024.Idx → EReal)
    (w : S2048x2048.Idx → EReal) (r : Fin 256) (e : Fin 2048)
    (hv : v (ix2 r (0 : Fin 1)) = Ideal.div (∑ k : Fin 1024, p (ix2 r k) * p (ix2 r k)) (Ideal.ofBits FTy.f32 0x44800000#32) + Ideal.ofBits FTy.f32 0x358637BD#32) :
    k0_pay1 (F := Ideal) a x p pn v an w (ix2 r e) = merged (x (ix2 r e)) (fun k => p (ix2 r k)) (fun k => pn (ix2 (0 : Fin 1) k)) (fun k => a (ix2 r k)) (fun k => an (ix2 (0 : Fin 1) k))
      fun k => w (ix2 k e) := by
  unfold merged two nrmm
  rw [← hv]
  pointwise [k0_pay1]

/-- The rows above a block and the block, one above the other: row `r`, `k` rows back. -/
def ext (A : S256x1024.Idx → EReal) (B : S16x1024.Idx → EReal) (r : Fin 256) (j : Fin 1024) (k : ℕ) : EReal :=
  if k ≤ r.val then A (ix2 (⟨r.val - k, by have := r.isLt; omega⟩ : Fin 256) j) else B (ix2 (⟨(16 + r.val - k) % 16, by omega⟩ : Fin 16) j)

/-- What a load reads of the scratch, which holds the rows above and the block. -/
def rd (A : S256x1024.Idx → EReal) (B : S16x1024.Idx → EReal) (o : Fin 2 → ℕ) (inb : ∀ a, o a + (![256, 256] : Fin 2 → ℕ) a ≤ S272x1024.size a) : S256x256.Idx → EReal :=
  (View.whole cc0_scratch0).readCov (Val := Elt Ideal) [⟨Rect.unit ![16, 0] ![256, 1024] inb_S272x1024_S256x1024_16_0, A⟩, ⟨Rect.unit ![0, 0] ![16, 1024] inb_S272x1024_S16x1024_0_0, B⟩]
    (Rect.unit (s := S272x1024) o ![256, 256] inb).toLoadRect

theorem rd_at (A : S256x1024.Idx → EReal) (B : S16x1024.Idx → EReal) (k : ℕ) (hk : k ≤ 15) (g : Fin 4) (o : Fin 2 → ℕ) (h0 : o 0 = 16 - k) (h1 : o 1 = 256 * g.val)
    (inb : ∀ a, o a + (![256, 256] : Fin 2 → ℕ) a ≤ S272x1024.size a) (r l : Fin 256) : rd A B o inb (ix2 r l) = ext A B r (chn g l) k := by
  have hr := r.isLt
  have hl := l.isLt
  have hg := g.isLt
  unfold rd ext
  rw [View.readCov_eq_canon']
  have y0 : ((Rect.unit (s := S272x1024) o ![256, 256] inb).toLoadRect.idx (ix2 r l) 0).val = 16 - k + r.val := by
    show o 0 + 1 * r.val = _
    omega
  have y1 : ((Rect.unit (s := S272x1024) o ![256, 256] inb).toLoadRect.idx (ix2 r l) 1).val = 256 * g.val + l.val := by
    show o 1 + 1 * l.val = _
    omega
  show View.canon _ ((Rect.unit (s := S272x1024) o ![256, 256] inb).toLoadRect.idx (ix2 r l)) = _
  generalize (Rect.unit (s := S272x1024) o ![256, 256] inb).toLoadRect.idx (ix2 r l) = y at y0 y1
  by_cases h : k ≤ r.val
  · rw [if_pos h]
    have e : y = (Rect.unit ![16, 0] ![256, 1024] inb_S272x1024_S256x1024_16_0).emb (ix2 (⟨r.val - k, by omega⟩ : Fin 256) (chn g l)) := by
      funext a
      match a with
      | 0 => exact Fin.ext (show (y 0).val = 16 + 1 * (r.val - k) by omega)
      | 1 => exact Fin.ext (show (y 1).val = 0 + 1 * (256 * g.val + l.val) by omega)
    rw [e]
    exact View.canon_cons_emb _ _ _ _
  · rw [if_neg h]
    rw [View.canon_cons_of_not_mem _ _ (by
      intro hm
      have := (Rect.mem_set_unit (inb := inb_S272x1024_S256x1024_16_0).1 hm 0).1
      have h2 : 16 ≤ (y 0).val := this
      omega)]
    have e : y = (Rect.unit ![0, 0] ![16, 1024] inb_S272x1024_S16x1024_0_0).emb (ix2 (⟨(16 + r.val - k) % 16, by omega⟩ : Fin 16) (chn g l)) := by
      funext a
      match a with
      | 0 => exact Fin.ext (show (y 0).val = 0 + 1 * ((16 + r.val - k) % 16) by omega)
      | 1 => exact Fin.ext (show (y 1).val = 0 + 1 * (256 * g.val + l.val) by omega)
    rw [e]
    exact View.canon_cons_emb _ _ _ _

/-- The four groups' means less the rows. -/
theorem pay5_at (i : grid0.Coords) (v0 v1 : S256x256.Idx → EReal) (r l : Fin 256) :
    k0_pay5 (F := Ideal) i v0 v1 (ix2 r l) = Ideal.div (v0 (ix2 r l) + v1 (ix2 r l)) (FloatOps.sitofp FTy.f32 (IntOp.minsi (BitVec.ofNat 32 (i 1).val * 256#32 + BitVec.ofNat 32 r.val + 1#32) 2#32) : Ideal .f32) - v0 (ix2 r l) := by
  pointwise [k0_pay5, k0_pay4]
  rfl

theorem pay7_at (i : grid0.Coords) (v0 v1 v2 v3 : S256x256.Idx → EReal) (r l : Fin 256) :
    k0_pay7 (F := Ideal) (k0_pay4 i) v0 (k0_pay6 (F := Ideal) v0 v1 v2) v3 (ix2 r l) = Ideal.div (v0 (ix2 r l) + v1 (ix2 r l) + v2 (ix2 r l) + v3 (ix2 r l)) (FloatOps.sitofp FTy.f32 (IntOp.minsi (BitVec.ofNat 32 (i 1).val * 256#32 + BitVec.ofNat 32 r.val + 1#32) 4#32) : Ideal .f32) - v0 (ix2 r l) := by
  pointwise [k0_pay7, k0_pay6, k0_pay4]
  rfl

theorem pay8_at (i : grid0.Coords) (v0 v1 v2 v3 v4 v5 v6 v7 : S256x256.Idx → EReal) (r l : Fin 256) :
    k0_pay8 (F := Ideal) (k0_pay4 i) v0 v1 v2 v3 v4 v5 v6 v7 (ix2 r l) = Ideal.div (v0 (ix2 r l) + v1 (ix2 r l) + v2 (ix2 r l) + v3 (ix2 r l) + v4 (ix2 r l) + v5 (ix2 r l) + v6 (ix2 r l) + v7 (ix2 r l)) (FloatOps.sitofp FTy.f32 (IntOp.minsi (BitVec.ofNat 32 (i 1).val * 256#32 + BitVec.ofNat 32 r.val + 1#32) 8#32) : Ideal .f32) - v0 (ix2 r l) := by
  pointwise [k0_pay8, k0_pay4]
  rfl

theorem pay9_at (v0 v1 v2 v3 v4 v5 v6 v7 v8 v9 v10 v11 v12 v13 v14 v15 : S256x256.Idx → EReal) (r l : Fin 256) :
    k0_pay9 (F := Ideal) v0 v1 v2 v3 v4 v5 v6 v7 v8 v9 v10 v11 v12 v13 v14 v15 (ix2 r l) = v0 (ix2 r l) + v1 (ix2 r l) + v2 (ix2 r l) + v3 (ix2 r l) + v4 (ix2 r l) + v5 (ix2 r l) + v6 (ix2 r l) + v7 (ix2 r l) + v8 (ix2 r l) + v9 (ix2 r l) + v10 (ix2 r l) + v11 (ix2 r l) + v12 (ix2 r l) + v13 (ix2 r l) + v14 (ix2 r l) + v15 (ix2 r l) := by
  pointwise [k0_pay9]

theorem pay11_at (i : grid0.Coords) (v0 v1 v2 v3 v4 : S256x256.Idx → EReal) (r : Fin 256) (j : Fin 1024) :
    k0_pay11 (F := Ideal) (k0_pay4 i) v0 v1 v2 v3 v4 k0_pay10 (ix2 r j)
      = four ![fun l => v0 (ix2 r l), fun l => v1 (ix2 r l), fun l => v2 (ix2 r l), fun l => Ideal.div (v4 (ix2 r l)) (FloatOps.sitofp FTy.f32 (IntOp.minsi (BitVec.ofNat 32 (i 1).val * 256#32 + BitVec.ofNat 32 r.val + 1#32) 16#32) : Ideal .f32) - v3 (ix2 r l)] j := by
  rw [← four_ite]
  pointwise [k0_pay11, k0_pay10, k0_pay4]
  rfl

/-- The differences as the kernel stores them side by side. -/
def diffs (i : grid0.Coords) (A : S256x1024.Idx → EReal) (B : S16x1024.Idx → EReal) : S256x1024.Idx → EReal :=
  k0_pay11 (F := Ideal) (k0_pay4 i) (k0_pay5 (F := Ideal) i (rd A B ![16, 0] inb_S272x1024_S256x256_16_0) (rd A B ![15, 0] inb_S272x1024_S256x256_15_0))
    (k0_pay7 (F := Ideal) (k0_pay4 i) (rd A B ![16, 256] inb_S272x1024_S256x256_16_256) (k0_pay6 (F := Ideal) (rd A B ![16, 256] inb_S272x1024_S256x256_16_256) (rd A B ![15, 256] inb_S272x1024_S256x256_15_256) (rd A B ![14, 256] inb_S272x1024_S256x256_14_256)) (rd A B ![13, 256] inb_S272x1024_S256x256_13_256))
    (k0_pay8 (F := Ideal) (k0_pay4 i) (rd A B ![16, 512] inb_S272x1024_S256x256_16_512) (rd A B ![15, 512] inb_S272x1024_S256x256_15_512) (rd A B ![14, 512] inb_S272x1024_S256x256_14_512) (rd A B ![13, 512] inb_S272x1024_S256x256_13_512) (rd A B ![12, 512] inb_S272x1024_S256x256_12_512) (rd A B ![11, 512] inb_S272x1024_S256x256_11_512) (rd A B ![10, 512] inb_S272x1024_S256x256_10_512) (rd A B ![9, 512] inb_S272x1024_S256x256_9_512))
    (rd A B ![16, 768] inb_S272x1024_S256x256_16_768) (k0_pay9 (F := Ideal) (rd A B ![16, 768] inb_S272x1024_S256x256_16_768) (rd A B ![15, 768] inb_S272x1024_S256x256_15_768) (rd A B ![14, 768] inb_S272x1024_S256x256_14_768) (rd A B ![13, 768] inb_S272x1024_S256x256_13_768) (rd A B ![12, 768] inb_S272x1024_S256x256_12_768) (rd A B ![11, 768] inb_S272x1024_S256x256_11_768) (rd A B ![10, 768] inb_S272x1024_S256x256_10_768) (rd A B ![9, 768] inb_S272x1024_S256x256_9_768) (rd A B ![8, 768] inb_S272x1024_S256x256_8_768) (rd A B ![7, 768] inb_S272x1024_S256x256_7_768) (rd A B ![6, 768] inb_S272x1024_S256x256_6_768) (rd A B ![5, 768] inb_S272x1024_S256x256_5_768) (rd A B ![4, 768] inb_S272x1024_S256x256_4_768) (rd A B ![3, 768] inb_S272x1024_S256x256_3_768) (rd A B ![2, 768] inb_S272x1024_S256x256_2_768) (rd A B ![1, 768] inb_S272x1024_S256x256_1_768)) k0_pay10

theorem diffs_at (i : grid0.Coords) (A : S256x1024.Idx → EReal) (B : S16x1024.Idx → EReal) (r : Fin 256) (g : Fin 4) (l : Fin 256) :
    diffs i A B (ix2 r (chn g l))
      = Ideal.div (wsum (ext A B r (chn g l)) (win g)) (cnt (win g + 1) ((i 1).val * 256 + r.val)) - ext A B r (chn g l) 0 := by
  have hi : (i 1).val < 17 := (i 1).isLt
  unfold diffs
  refine (pay11_at i _ _ _ _ _ r (chn g l)).trans ((four_chn _ g l).trans ?_)
  match g with
  | 0 =>
    refine (pay5_at i _ _ r l).trans ?_
    rw [(rd_at A B 0 (by omega) 0 ![16, 0] rfl rfl inb_S272x1024_S256x256_16_0 r l), (rd_at A B 1 (by omega) 0 ![15, 0] rfl rfl inb_S272x1024_S256x256_15_0 r l), count_word (i 1).val r.val 2 hi r.isLt (by omega)]
    rfl
  | 1 =>
    refine (pay7_at i _ _ _ _ r l).trans ?_
    rw [(rd_at A B 0 (by omega) 1 ![16, 256] rfl rfl inb_S272x1024_S256x256_16_256 r l), (rd_at A B 1 (by omega) 1 ![15, 256] rfl rfl inb_S272x1024_S256x256_15_256 r l), (rd_at A B 2 (by omega) 1 ![14, 256] rfl rfl inb_S272x1024_S256x256_14_256 r l), (rd_at A B 3 (by omega) 1 ![13, 256] rfl rfl inb_S272x1024_S256x256_13_256 r l), count_word (i 1).val r.val 4 hi r.isLt (by omega)]
    rfl
  | 2 =>
    refine (pay8_at i _ _ _ _ _ _ _ _ r l).trans ?_
    rw [(rd_at A B 0 (by omega) 2 ![16, 512] rfl rfl inb_S272x1024_S256x256_16_512 r l), (rd_at A B 1 (by omega) 2 ![15, 512] rfl rfl inb_S272x1024_S256x256_15_512 r l), (rd_at A B 2 (by omega) 2 ![14, 512] rfl rfl inb_S272x1024_S256x256_14_512 r l), (rd_at A B 3 (by omega) 2 ![13, 512] rfl rfl inb_S272x1024_S256x256_13_512 r l), (rd_at A B 4 (by omega) 2 ![12, 512] rfl rfl inb_S272x1024_S256x256_12_512 r l), (rd_at A B 5 (by omega) 2 ![11, 512] rfl rfl inb_S272x1024_S256x256_11_512 r l), (rd_at A B 6 (by omega) 2 ![10, 512] rfl rfl inb_S272x1024_S256x256_10_512 r l), (rd_at A B 7 (by omega) 2 ![9, 512] rfl rfl inb_S272x1024_S256x256_9_512 r l), count_word (i 1).val r.val 8 hi r.isLt (by omega)]
    rfl
  | 3 =>
    refine (congrArg (fun z => Ideal.div z (FloatOps.sitofp FTy.f32 (IntOp.minsi (BitVec.ofNat 32 (i 1).val * 256#32 + BitVec.ofNat 32 r.val + 1#32) 16#32) : Ideal .f32) - (rd A B ![16, 768] inb_S272x1024_S256x256_16_768) (ix2 r l)) (pay9_at _ _ _ _ _ _ _ _ _ _ _ _ _ _ _ _ r l)).trans ?_
    rw [(rd_at A B 0 (by omega) 3 ![16, 768] rfl rfl inb_S272x1024_S256x256_16_768 r l), (rd_at A B 1 (by omega) 3 ![15, 768] rfl rfl inb_S272x1024_S256x256_15_768 r l), (rd_at A B 2 (by omega) 3 ![14, 768] rfl rfl inb_S272x1024_S256x256_14_768 r l), (rd_at A B 3 (by omega) 3 ![13, 768] rfl rfl inb_S272x1024_S256x256_13_768 r l), (rd_at A B 4 (by omega) 3 ![12, 768] rfl rfl inb_S272x1024_S256x256_12_768 r l), (rd_at A B 5 (by omega) 3 ![11, 768] rfl rfl inb_S272x1024_S256x256_11_768 r l), (rd_at A B 6 (by omega) 3 ![10, 768] rfl rfl inb_S272x1024_S256x256_10_768 r l), (rd_at A B 7 (by omega) 3 ![9, 768] rfl rfl inb_S272x1024_S256x256_9_768 r l), (rd_at A B 8 (by omega) 3 ![8, 768] rfl rfl inb_S272x1024_S256x256_8_768 r l), (rd_at A B 9 (by omega) 3 ![7, 768] rfl rfl inb_S272x1024_S256x256_7_768 r l), (rd_at A B 10 (by omega) 3 ![6, 768] rfl rfl inb_S272x1024_S256x256_6_768 r l), (rd_at A B 11 (by omega) 3 ![5, 768] rfl rfl inb_S272x1024_S256x256_5_768 r l), (rd_at A B 12 (by omega) 3 ![4, 768] rfl rfl inb_S272x1024_S256x256_4_768 r l), (rd_at A B 13 (by omega) 3 ![3, 768] rfl rfl inb_S272x1024_S256x256_3_768 r l), (rd_at A B 14 (by omega) 3 ![2, 768] rfl rfl inb_S272x1024_S256x256_2_768 r l), (rd_at A B 15 (by omega) 3 ![1, 768] rfl rfl inb_S272x1024_S256x256_1_768 r l), count_word (i 1).val r.val 16 hi r.isLt (by omega)]
    rfl

end Cert.Mrg

end

end
-- ==== Proof.MrgArr.lean ====
/- The array the merge's kernel writes, entry by entry, from the arrays it is launched on. -/
module

public import proofs.«01_k».proof.Proof.MrgPoint
public import Idealize.ShloMosaic.Lib.StableHlo.ReadAt

@[expose] public section

set_option maxRecDepth 16384

noncomputable section

namespace Cert.Mrg

open Cert.Kernel6Ideal Cert.Kernel6Ideal.Gen Idealize.ShloMosaic Idealize.ShloMosaic.TcCoe Idealize.SL.Sem Cert.MrgMath

variable (m : (ℓ : Loc nD τ sig) → Buf (Elt Ideal) ℓ)

theorem idx : ∀ t : Fin cfg0.N, win0_0.index t = ![t.val, 0] ∧ win0_1.index t = ![t.val, 0] ∧ win0_2.index t = ![t.val * 16 - 1, 0] ∧ win0_3.index t = ![0, t.val, 0, 0]
    ∧ win0_4.index t = ![0, 0, 0] ∧ win0_5.index t = ![0, 0] ∧ win0_6.index t = ![0, 0] ∧ win0_7.index t = ![0, 0] ∧ win0_8.index t = ![0, 0] ∧ win0_9.index t = ![t.val, 0]
    ∧ (grid0.coords t 1).val = t.val % 17 :=
  (by decide +kernel : ∀ t : Fin grid0.N, _)

theorem N_eq : cfg0.N = 34 := by decide +kernel

/-- The arrays the kernel is launched on, as plain functions. -/
def ax (c : Dev nD) : S8704x2048.Idx → EReal := V m c main_v1
def au (c : Dev nD) : S8704x1024.Idx → EReal := V m c main_v3
def aa (c : Dev nD) : S8x34x128x256.Idx → EReal := V m c main_v6
def apw (c : Dev nD) : S4x256x256.Idx → EReal := V m c main_v7
def aps (c : Dev nD) : S1x1024.Idx → EReal := V m c main_v8
def apn (c : Dev nD) : S1x1024.Idx → EReal := V m c main_v9
def aan (c : Dev nD) : S1x1024.Idx → EReal := V m c main_v10
def awo (c : Dev nD) : S2048x2048.Idx → EReal := V m c main_v11

theorem V_heq (c : Dev nD) : ∀ {r r' : Ref sig .tc}, r = r' → HEq (V m c r) (V m c r')
  | _, _, rfl => HEq.rfl

theorem V_0 (c : Dev nD) : (show S8704x2048.Idx → EReal from V m c (Pipeline.arrRef spec0 0)) = ax m c :=
  eq_of_heq (V_heq m c (show Pipeline.arrRef spec0 0 = main_v1 from rfl))
theorem V_1 (c : Dev nD) : (show S8704x1024.Idx → EReal from V m c (Pipeline.arrRef spec0 1)) = au m c :=
  eq_of_heq (V_heq m c (show Pipeline.arrRef spec0 1 = main_v3 from rfl))
theorem V_2 (c : Dev nD) : (show S8704x1024.Idx → EReal from V m c (Pipeline.arrRef spec0 2)) = au m c :=
  eq_of_heq (V_heq m c (show Pipeline.arrRef spec0 2 = main_v3 from rfl))
theorem V_3 (c : Dev nD) : (show S8x34x128x256.Idx → EReal from V m c (Pipeline.arrRef spec0 3)) = aa m c :=
  eq_of_heq (V_heq m c (show Pipeline.arrRef spec0 3 = main_v6 from rfl))
theorem V_4 (c : Dev nD) : (show S4x256x256.Idx → EReal from V m c (Pipeline.arrRef spec0 4)) = apw m c :=
  eq_of_heq (V_heq m c (show Pipeline.arrRef spec0 4 = main_v7 from rfl))
theorem V_5 (c : Dev nD) : (show S1x1024.Idx → EReal from V m c (Pipeline.arrRef spec0 5)) = aps m c :=
  eq_of_heq (V_heq m c (show Pipeline.arrRef spec0 5 = main_v8 from rfl))
theorem V_6 (c : Dev nD) : (show S1x1024.Idx → EReal from V m c (Pipeline.arrRef spec0 6)) = apn m c :=
  eq_of_heq (V_heq m c (show Pipeline.arrRef spec0 6 = main_v9 from rfl))
theorem V_7 (c : Dev nD) : (show S1x1024.Idx → EReal from V m c (Pipeline.arrRef spec0 7)) = aan m c :=
  eq_of_heq (V_heq m c (show Pipeline.arrRef spec0 7 = main_v10 from rfl))
theorem V_8 (c : Dev nD) : (show S2048x2048.Idx → EReal from V m c (Pipeline.arrRef spec0 8)) = awo m c :=
  eq_of_heq (V_heq m c (show Pipeline.arrRef spec0 8 = main_v11 from rfl))

theorem ix (c : Dev nD) (t : Fin cfg0.N) (r : Fin 256) (e : Fin 2048) (p : Fin 8704) (hp : p.val = t.val * 256 + r.val) :
    iblk m c 0 t (ix2 r e) = ax m c (ix2 p e) := by
  obtain ⟨i0, i1, i2, i3, i4, i5, i6, i7, i8, i9, ic⟩ := idx t
  have key : ∀ X : Buf (Elt Ideal) ((c : Thread nD τ).loc (Pipeline.arrRef spec0 0)),
      ((cfg0.win 0).blk t).view.read (Elt Ideal) X (ix2 r e) = (show S8704x2048.Idx → EReal from X) (ix2 p e) := by
    intro X
    have key' : ∀ Y : S8704x2048.Idx → EReal, Y (((cfg0.win 0).blk t).view.emb (ix2 r e)) = Y (ix2 p e) := by
      intro Y
      congr 1
      blk_ext [i0]
    exact key' X
  unfold iblk
  refine (key _).trans ?_
  exact congrFun (V_0 m c) (ix2 p e)

theorem iu (c : Dev nD) (t : Fin cfg0.N) (r : Fin 256) (e : Fin 1024) (p : Fin 8704) (hp : p.val = t.val * 256 + r.val) :
    iblk m c 1 t (ix2 r e) = au m c (ix2 p e) := by
  obtain ⟨i0, i1, i2, i3, i4, i5, i6, i7, i8, i9, ic⟩ := idx t
  have key : ∀ X : Buf (Elt Ideal) ((c : Thread nD τ).loc (Pipeline.arrRef spec0 1)),
      ((cfg0.win 1).blk t).view.read (Elt Ideal) X (ix2 r e) = (show S8704x1024.Idx → EReal from X) (ix2 p e) := by
    intro X
    have key' : ∀ Y : S8704x1024.Idx → EReal, Y (((cfg0.win 1).blk t).view.emb (ix2 r e)) = Y (ix2 p e) := by
      intro Y
      congr 1
      blk_ext [i1]
    exact key' X
  unfold iblk
  refine (key _).trans ?_
  exact congrFun (V_1 m c) (ix2 p e)

theorem ih (c : Dev nD) (t : Fin cfg0.N) (q : Fin 16) (e : Fin 1024) (p : Fin 8704) (hp : p.val = (t.val * 16 - 1) * 16 + q.val) :
    iblk m c 2 t (ix2 q e) = au m c (ix2 p e) := by
  obtain ⟨i0, i1, i2, i3, i4, i5, i6, i7, i8, i9, ic⟩ := idx t
  have key : ∀ X : Buf (Elt Ideal) ((c : Thread nD τ).loc (Pipeline.arrRef spec0 2)),
      ((cfg0.win 2).blk t).view.read (Elt Ideal) X (ix2 q e) = (show S8704x1024.Idx → EReal from X) (ix2 p e) := by
    intro X
    have key' : ∀ Y : S8704x1024.Idx → EReal, Y (((cfg0.win 2).blk t).view.emb (ix2 q e)) = Y (ix2 p e) := by
      intro Y
      congr 1
      blk_ext [i2]
    exact key' X
  unfold iblk
  refine (key _).trans ?_
  exact congrFun (V_2 m c) (ix2 p e)

theorem ia (c : Dev nD) (t : Fin cfg0.N) (h : Fin 8) (d : Fin 128) (r : Fin 256) (b : Fin 34) (hb : b.val = t.val) :
    iblk m c 3 t (ix4 h (0 : Fin 1) d r) = aa m c (ix4 h b d r) := by
  obtain ⟨i0, i1, i2, i3, i4, i5, i6, i7, i8, i9, ic⟩ := idx t
  have key : ∀ X : Buf (Elt Ideal) ((c : Thread nD τ).loc (Pipeline.arrRef spec0 3)),
      ((cfg0.win 3).blk t).view.read (Elt Ideal) X (ix4 h (0 : Fin 1) d r) = (show S8x34x128x256.Idx → EReal from X) (ix4 h b d r) := by
    intro X
    have key' : ∀ Y : S8x34x128x256.Idx → EReal, Y (((cfg0.win 3).blk t).view.emb (ix4 h (0 : Fin 1) d r)) = Y (ix4 h b d r) := by
      intro Y
      congr 1
      blk_ext [i3]
    exact key' X
  unfold iblk
  refine (key _).trans ?_
  exact congrFun (V_3 m c) (ix4 h b d r)

theorem ipw (c : Dev nD) (t : Fin cfg0.N) (g : Fin 4) (k l : Fin 256) :
    iblk m c 4 t (ix3 g k l) = apw m c (ix3 g k l) := by
  obtain ⟨i0, i1, i2, i3, i4, i5, i6, i7, i8, i9, ic⟩ := idx t
  have key : ∀ X : Buf (Elt Ideal) ((c : Thread nD τ).loc (Pipeline.arrRef spec0 4)),
      ((cfg0.win 4).blk t).view.read (Elt Ideal) X (ix3 g k l) = (show S4x256x256.Idx → EReal from X) (ix3 g k l) := by
    intro X
    have key' : ∀ Y : S4x256x256.Idx → EReal, Y (((cfg0.win 4).blk t).view.emb (ix3 g k l)) = Y (ix3 g k l) := by
      intro Y
      congr 1
      blk_ext [i4]
    exact key' X
  unfold iblk
  refine (key _).trans ?_
  exact congrFun (V_4 m c) (ix3 g k l)

theorem ips (c : Dev nD) (t : Fin cfg0.N) (e : Fin 1024) :
    iblk m c 5 t (ix2 (0 : Fin 1) e) = aps m c (ix2 (0 : Fin 1) e) := by
  obtain ⟨i0, i1, i2, i3, i4, i5, i6, i7, i8, i9, ic⟩ := idx t
  have key : ∀ X : Buf (Elt Ideal) ((c : Thread nD τ).loc (Pipeline.arrRef spec0 5)),
      ((cfg0.win 5).blk t).view.read (Elt Ideal) X (ix2 (0 : Fin 1) e) = (show S1x1024.Idx → EReal from X) (ix2 (0 : Fin 1) e) := by
    intro X
    have key' : ∀ Y : S1x1024.Idx → EReal, Y (((cfg0.win 5).blk t).view.emb (ix2 (0 : Fin 1) e)) = Y (ix2 (0 : Fin 1) e) := by
      intro Y
      congr 1
      blk_ext [i5]
    exact key' X
  unfold iblk
  refine (key _).trans ?_
  exact congrFun (V_5 m c) (ix2 (0 : Fin 1) e)

theorem ipn (c : Dev nD) (t : Fin cfg0.N) (e : Fin 1024) :
    iblk m c 6 t (ix2 (0 : Fin 1) e) = apn m c (ix2 (0 : Fin 1) e) := by
  obtain ⟨i0, i1, i2, i3, i4, i5, i6, i7, i8, i9, ic⟩ := idx t
  have key : ∀ X : Buf (Elt Ideal) ((c : Thread nD τ).loc (Pipeline.arrRef spec0 6)),
      ((cfg0.win 6).blk t).view.read (Elt Ideal) X (ix2 (0 : Fin 1) e) = (show S1x1024.Idx → EReal from X) (ix2 (0 : Fin 1) e) := by
    intro X
    have key' : ∀ Y : S1x1024.Idx → EReal, Y (((cfg0.win 6).blk t).view.emb (ix2 (0 : Fin 1) e)) = Y (ix2 (0 : Fin 1) e) := by
      intro Y
      congr 1
      blk_ext [i6]
    exact key' X
  unfold iblk
  refine (key _).trans ?_
  exact congrFun (V_6 m c) (ix2 (0 : Fin 1) e)

theorem ian (c : Dev nD) (t : Fin cfg0.N) (e : Fin 1024) :
    iblk m c 7 t (ix2 (0 : Fin 1) e) = aan m c (ix2 (0 : Fin 1) e) := by
  obtain ⟨i0, i1, i2, i3, i4, i5, i6, i7, i8, i9, ic⟩ := idx t
  have key : ∀ X : Buf (Elt Ideal) ((c : Thread nD τ).loc (Pipeline.arrRef spec0 7)),
      ((cfg0.win 7).blk t).view.read (Elt Ideal) X (ix2 (0 : Fin 1) e) = (show S1x1024.Idx → EReal from X) (ix2 (0 : Fin 1) e) := by
    intro X
    have key' : ∀ Y : S1x1024.Idx → EReal, Y (((cfg0.win 7).blk t).view.emb (ix2 (0 : Fin 1) e)) = Y (ix2 (0 : Fin 1) e) := by
      intro Y
      congr 1
      blk_ext [i7]
    exact key' X
  unfold iblk
  refine (key _).trans ?_
  exact congrFun (V_7 m c) (ix2 (0 : Fin 1) e)

theorem iwo (c : Dev nD) (t : Fin cfg0.N) (k e : Fin 2048) :
    iblk m c 8 t (ix2 k e) = awo m c (ix2 k e) := by
  obtain ⟨i0, i1, i2, i3, i4, i5, i6, i7, i8, i9, ic⟩ := idx t
  have key : ∀ X : Buf (Elt Ideal) ((c : Thread nD τ).loc (Pipeline.arrRef spec0 8)),
      ((cfg0.win 8).blk t).view.read (Elt Ideal) X (ix2 k e) = (show S2048x2048.Idx → EReal from X) (ix2 k e) := by
    intro X
    have key' : ∀ Y : S2048x2048.Idx → EReal, Y (((cfg0.win 8).blk t).view.emb (ix2 k e)) = Y (ix2 k e) := by
      intro Y
      congr 1
      blk_ext [i8]
    exact key' X
  unfold iblk
  refine (key _).trans ?_
  exact congrFun (V_8 m c) (ix2 k e)

theorem wsum_congr (f g : ℕ → EReal) (n : ℕ) (h : ∀ k, k ≤ n → f k = g k) : wsum f n = wsum g n := by
  induction n with
  | zero => exact h 0 (Nat.le_refl 0)
  | succ n ih =>
    unfold wsum
    rw [ih fun k hk => h k (by omega), h (n + 1) (Nat.le_refl _)]

/-- The rows above a block: zero above a sequence's first block. -/
theorem pay2_at (i : grid0.Coords) (v : S16x1024.Idx → EReal) (q : Fin 16) (j : Fin 1024) :
    k0_pay2 (F := Ideal) i v (ix2 q j) = if (i 1).val = 0 then 0 else v (ix2 q j) := by
  have hi : (i 1).val < 17 := (i 1).isLt
  have hc : ∀ n : Fin 17, n.val ≠ 0 → IntOp.cmpi CmpIPredicate.sgt (BitVec.ofNat 32 n.val) 0#32 = 1#1 := by decide
  by_cases h : (i 1).val = 0
  · rw [if_pos h]
    pointwise [k0_pay2]
    rw [h]
    rfl
  · rw [if_neg h]
    have e := hc ⟨(i 1).val, hi⟩ h
    pointwise [k0_pay2]
    rw [show Scalar.cmpi CmpIPredicate.sgt (BitVec.ofNat 32 (i 1).val) 0#32 = 1#1 from e]
    rfl

/-- A channel's row `k` rows before row `p`, zero before its sequence's first row. -/
def prior (c : Dev nD) (p : Fin 8704) (j : Fin 1024) (k : ℕ) : EReal :=
  if k ≤ p.val % 4352 then au m c (ix2 (⟨p.val - k, by have := p.isLt; omega⟩ : Fin 8704) j) else 0

theorem ext_eq (c : Dev nD) (t : Fin cfg0.N) (r : Fin 256) (j : Fin 1024) (k : ℕ) (hk : k ≤ 15) (p : Fin 8704) (hp : p.val = t.val * 256 + r.val) :
    ext (k0_pay3 (F := Ideal) (iblk m c 1 t)) (k0_pay2 (F := Ideal) (grid0.coords t) (iblk m c 2 t)) r j k = prior m c p j k := by
  obtain ⟨i0, i1, i2, i3, i4, i5, i6, i7, i8, i9, ic⟩ := idx t
  have ht : t.val < 34 := lt_of_lt_of_eq t.isLt N_eq
  have hr := r.isLt
  have hs : p.val % 4352 = t.val % 17 * 256 + r.val := by omega
  unfold ext prior
  by_cases h : k ≤ r.val
  · rw [if_pos h, if_pos (by omega)]
    refine (show _ = iblk m c 1 t (ix2 (⟨r.val - k, by omega⟩ : Fin 256) j) from ?_).trans (iu m c t _ j _ (show p.val - k = t.val * 256 + (r.val - k) by omega))
    generalize iblk m c 1 t = X
    pointwise [k0_pay3]
  · rw [if_neg h]
    refine (pay2_at (grid0.coords t) (iblk m c 2 t) _ j).trans ?_
    rw [ic]
    by_cases h0 : t.val % 17 = 0
    · rw [if_pos h0, if_neg (by omega)]
    · rw [if_neg h0, if_pos (by omega)]
      exact ih m c t _ j _ (show p.val - k = (t.val * 16 - 1) * 16 + (16 + r.val - k) % 16 by omega)

/-- A channel's trailing mean less the row. -/
def gap (c : Dev nD) (p : Fin 8704) (j : Fin 1024) (n : ℕ) : EReal :=
  Ideal.div (wsum (prior m c p j) n) (cnt (n + 1) (p.val % 4352)) - prior m c p j 0

theorem win_le : ∀ g : Fin 4, win g ≤ 15 := by decide

theorem gap_eq (c : Dev nD) (t : Fin cfg0.N) (r : Fin 256) (g : Fin 4) (l : Fin 256) (p : Fin 8704) (hp : p.val = t.val * 256 + r.val) :
    diffs (grid0.coords t) (k0_pay3 (F := Ideal) (iblk m c 1 t)) (k0_pay2 (F := Ideal) (grid0.coords t) (iblk m c 2 t)) (ix2 r (chn g l)) = gap m c p (chn g l) (win g) := by
  obtain ⟨i0, i1, i2, i3, i4, i5, i6, i7, i8, i9, ic⟩ := idx t
  have ht : t.val < 34 := lt_of_lt_of_eq t.isLt N_eq
  have hr := r.isLt
  have hg := win_le g
  refine (diffs_at _ _ _ r g l).trans ?_
  unfold gap
  rw [wsum_congr _ _ _ fun k hk => ext_eq m c t r (chn g l) k (by omega) p hp, ext_eq m c t r (chn g l) 0 (by omega) p hp, ic,
    show t.val % 17 * 256 + r.val = p.val % 4352 by omega]

/-- A merged row's entry, from the arrays. -/
def entry (c : Dev nD) (p : Fin 8704) (e : Fin 2048) : EReal :=
  merged (ax m c (ix2 p e)) (pooled (fun g l => gap m c p (chn g l) (win g)) (fun g k l => apw m c (ix3 g k l)) fun k => aps m c (ix2 (0 : Fin 1) k)) (fun k => apn m c (ix2 (0 : Fin 1) k))
    (fun k => aa m c (ix4 (⟨k.val / 128, by have := k.isLt; omega⟩ : Fin 8) (⟨p.val / 256, by have := p.isLt; omega⟩ : Fin 34) (⟨k.val % 128, by omega⟩ : Fin 128) (⟨p.val % 256, by omega⟩ : Fin 256)))
    (fun k => aan m c (ix2 (0 : Fin 1) k)) fun k => awo m c (ix2 k e)

/-- One head's block of the attention's rows, and one group's matrix, as the kernel loads them. -/
def hd (c : Dev nD) (t : Fin cfg0.N) (h : Fin 8) : S1x1x128x256.Idx → EReal :=
  View.ld (show S8x1x128x256.Idx → Elt Ideal .f32 from iblk m c 3 t) (Rect.unit (s := S8x1x128x256) ![h.val, 0, 0, 0] ![1, 1, 128, 256]
    (by intro a; have hh := h.isLt; match a with | 0 => exact (show h.val + 1 ≤ 8 by omega) | 1 => exact (show 0 + 1 ≤ 1 by omega) | 2 => exact (show 0 + 128 ≤ 128 by omega) | 3 => exact (show 0 + 256 ≤ 256 by omega)))

def mt (c : Dev nD) (t : Fin cfg0.N) (g : Fin 4) : S1x256x256.Idx → EReal :=
  View.ld (show S4x256x256.Idx → Elt Ideal .bf16 from iblk m c 4 t) (Rect.unit (s := S4x256x256) ![g.val, 0, 0] ![1, 256, 256]
    (by intro a; have hg := g.isLt; match a with | 0 => exact (show g.val + 1 ≤ 4 by omega) | 1 => exact (show 0 + 256 ≤ 256 by omega) | 2 => exact (show 0 + 256 ≤ 256 by omega)))

theorem hd_at (c : Dev nD) (t : Fin cfg0.N) (h : Fin 8) (d : Fin 128) (r : Fin 256) :
    hd m c t h (ix4 (0 : Fin 1) (0 : Fin 1) d r) = iblk m c 3 t (ix4 h (0 : Fin 1) d r) := by
  unfold hd View.ld
  refine congrArg (iblk m c 3 t) (funext fun a => ?_)
  match a with
  | 0 => exact Fin.ext (show h.val + 1 * 0 = h.val by omega)
  | 1 => exact Fin.ext (show 0 + 1 * 0 = 0 by omega)
  | 2 => exact Fin.ext (show 0 + 1 * d.val = d.val by omega)
  | 3 => exact Fin.ext (show 0 + 1 * r.val = r.val by omega)

theorem mt_at (c : Dev nD) (t : Fin cfg0.N) (g : Fin 4) (k l : Fin 256) :
    mt m c t g (ix3 (0 : Fin 1) k l) = iblk m c 4 t (ix3 g k l) := by
  unfold mt View.ld
  refine congrArg (iblk m c 4 t) (funext fun a => ?_)
  match a with
  | 0 => exact Fin.ext (show g.val + 1 * 0 = g.val by omega)
  | 1 => exact Fin.ext (show 0 + 1 * k.val = k.val by omega)
  | 2 => exact Fin.ext (show 0 + 1 * l.val = l.val by omega)

theorem pay13_at (v : S256x2048.Idx → EReal) (r : Fin 256) (e : Fin 2048) : k0_pay13 (F := Ideal) v (ix2 r e) = v (ix2 r e) := by
  pointwise [k0_pay13]

theorem pay15_at (v : S1x1024.Idx → EReal) (e : Fin 1024) : k0_pay15 (F := Ideal) v (ix2 (0 : Fin 1) e) = v (ix2 (0 : Fin 1) e) := by
  pointwise [k0_pay15]

theorem blk_o (c : Dev nD) (t : Fin cfg0.N) (r : Fin 256) (e : Fin 2048) (p : Fin 8704) (hp : p.val = t.val * 256 + r.val) :
    k0_pay1 (F := Ideal) (k0_pay12 (F := Ideal) (hd m c t 0) (hd m c t 1) (hd m c t 2) (hd m c t 3) (hd m c t 4) (hd m c t 5) (hd m c t 6) (hd m c t 7)) (k0_pay13 (F := Ideal) (iblk m c 0 t))
      (k0_pay14 (F := Ideal) (diffs (grid0.coords t) (k0_pay3 (F := Ideal) (iblk m c 1 t)) (k0_pay2 (F := Ideal) (grid0.coords t) (iblk m c 2 t))) (mt m c t 0) (mt m c t 1) (mt m c t 2) (mt m c t 3) (iblk m c 5 t))
      (k0_pay15 (F := Ideal) (iblk m c 6 t))
      (k0_pay16 (F := Ideal) (diffs (grid0.coords t) (k0_pay3 (F := Ideal) (iblk m c 1 t)) (k0_pay2 (F := Ideal) (grid0.coords t) (iblk m c 2 t))) (mt m c t 0) (mt m c t 1) (mt m c t 2) (mt m c t 3) (iblk m c 5 t))
      (iblk m c 7 t) (iblk m c 8 t) (ix2 r e) = entry m c p e := by
  have ht : t.val < 34 := lt_of_lt_of_eq t.isLt N_eq
  have hr := r.isLt
  have key : ∀ (x x' : EReal) (p p' pn pn' a a' an an' : Fin 1024 → EReal) (w w' : Fin 2048 → EReal), x = x' → p = p' → pn = pn' → a = a' → an = an' → w = w' →
      merged x p pn a an w = merged x' p' pn' a' an' w' := by
    rintro _ _ _ _ _ _ _ _ _ _ _ _ rfl rfl rfl rfl rfl rfl
    rfl
  refine (pay1_at _ _ _ _ _ (iblk m c 7 t) (iblk m c 8 t) r e (pay16_at _ (mt m c t) (iblk m c 5 t) r)).trans ?_
  unfold entry
  refine key _ _ _ _ _ _ _ _ _ _ _ _ ((pay13_at (iblk m c 0 t) r e).trans (ix m c t r e p hp)) (funext fun k => ?_)
    (funext fun k => (pay15_at (iblk m c 6 t) k).trans (ipn m c t k)) (funext fun k => ?_) (funext fun k => ian m c t k) (funext fun k => iwo m c t k e)
  · refine (pay14_at _ (mt m c t) (iblk m c 5 t) r k).trans ?_
    rw [show (fun (g : Fin 4) (l : Fin 256) => diffs (grid0.coords t) (k0_pay3 (F := Ideal) (iblk m c 1 t)) (k0_pay2 (F := Ideal) (grid0.coords t) (iblk m c 2 t)) (ix2 r (chn g l))) = _ from
        funext fun g => funext fun l => gap_eq m c t r g l p hp,
      show (fun (g : Fin 4) (k l : Fin 256) => mt m c t g (ix3 (0 : Fin 1) k l)) = _ from funext fun g => funext fun k => funext fun l => (mt_at m c t g k l).trans (ipw m c t g k l),
      show (fun k => iblk m c 5 t (ix2 (0 : Fin 1) k)) = _ from funext fun k => ips m c t k]
  · refine (pay12_at (hd m c t) r k).trans ?_
    refine (hd_at m c t _ _ r).trans ?_
    refine (ia m c t _ _ r (⟨p.val / 256, by have := p.isLt; omega⟩ : Fin 34) (show p.val / 256 = t.val by omega)).trans ?_
    exact congrArg (fun x => aa m c (ix4 _ _ _ x)) (Fin.ext (show r.val = p.val % 256 by omega))

theorem arr_o (c : Dev nD) : (dats m 0 c).arrAt 9 cfg0.N = fun y : S8704x2048.Idx => entry m c (y 0) (y 1) := by
  refine (dats m 0 c).arrAt_eq_of_covers 9 _ (by decide +kernel) fun t ht y => ?_
  obtain ⟨i0, i1, i2, i3, i4, i5, i6, i7, i8, i9, ic⟩ := idx t
  have e0 : ((win0_9.blk t).view.emb y 0).val = t.val * 256 + (y 0).val := by blk_simp [i9]
  have e1 : (win0_9.blk t).view.emb y 1 = y 1 := Fin.ext (by blk_simp [i9])
  have b := blk_o m c t (y 0) (y 1) ((win0_9.blk t).view.emb y 0) e0
  show _ = entry m c ((win0_9.blk t).view.emb y 0) ((win0_9.blk t).view.emb y 1)
  rw [e1, ← b]
  clear b e0 e1
  generalize (win0_9.blk t).view.emb y 0 = p
  blk_simp
  rw [after0_9]
  unfold outsAt0
  frame_out
  rw [← eq_ix2 y]
  rfl

end Cert.Mrg

end

end
-- ==== Proof.MrgEntry.lean ====
/- The arrays the prompt's merge is launched on, from the arguments, and the result from the array it writes. -/
module

public import proofs.«01_k».proof.Proof.MrgArr

@[expose] public section

set_option maxRecDepth 16384

noncomputable section

namespace Cert.Mrg

open Cert.Kernel6Ideal Cert.Kernel6Ideal.Gen Idealize.ShloMosaic Idealize.ShloMosaic.TcCoe Idealize.SL.Sem Cert.MrgMath

variable (m : (ℓ : Loc nD τ sig) → Buf (Elt Ideal) ℓ)

/-- The arguments, as plain functions. -/
def argX (c : Dev nD) : S2x4112x2048.Idx → EReal := m ((c : Thread nD τ).loc main_arg0)
def argU (c : Dev nD) : S2x4112x1024.Idx → EReal := m ((c : Thread nD τ).loc main_arg1)
def argA (c : Dev nD) : S2x4112x8x128.Idx → EReal := m ((c : Thread nD τ).loc main_arg2)
def argW (c : Dev nD) : S4x256x256.Idx → EReal := m ((c : Thread nD τ).loc main_arg3)
def argS (c : Dev nD) : S1024.Idx → EReal := m ((c : Thread nD τ).loc main_arg4)
def argP (c : Dev nD) : S1024.Idx → EReal := m ((c : Thread nD τ).loc main_arg5)
def argN (c : Dev nD) : S1024.Idx → EReal := m ((c : Thread nD τ).loc main_arg6)
def argO (c : Dev nD) : S2048x2048.Idx → EReal := m ((c : Thread nD τ).loc main_arg7)

theorem sitofp_zero : (FloatOps.sitofp FTy.f32 (0#32 : BitVec 32) : Ideal .f32) = (0 : EReal) := by
  show (((0#32 : BitVec 32).toInt : ℝ) : EReal) = 0
  simp

theorem ax_at (c : Dev nD) (p : Fin 8704) (e : Fin 2048) :
    ax m c (ix2 p e) = if h' : p.val / 4352 < 2 ∧ p.val % 4352 < 4112 then argX m c (ix3 ⟨p.val / 4352, h'.1⟩ ⟨p.val % 4352, h'.2⟩ e) else 0 := by
  rw [← sitofp_zero]
  unfold ax V argX
  after_reads_at

theorem au_at (c : Dev nD) (p : Fin 8704) (e : Fin 1024) :
    au m c (ix2 p e) = if h' : p.val / 4352 < 2 ∧ p.val % 4352 < 4112 then argU m c (ix3 ⟨p.val / 4352, h'.1⟩ ⟨p.val % 4352, h'.2⟩ e) else 0 := by
  rw [← sitofp_zero]
  unfold au V argU
  after_reads_at

theorem aa_at (c : Dev nD) (h : Fin 8) (b : Fin 34) (d : Fin 128) (r : Fin 256) :
    aa m c (ix4 h b d r) = if h' : b.val / 17 < 2 ∧ b.val % 17 * 256 + r.val < 4112 then argA m c (ix4 ⟨b.val / 17, h'.1⟩ ⟨b.val % 17 * 256 + r.val, h'.2⟩ h d) else 0 := by
  rw [← sitofp_zero]
  unfold aa V argA
  after_reads_at

theorem apw_at (c : Dev nD) (g : Fin 4) (k l : Fin 256) : apw m c (ix3 g k l) = argW m c (ix3 g k l) := by
  unfold apw V argW
  after_reads_at

theorem aps_at (c : Dev nD) (e : Fin 1024) : aps m c (ix2 (0 : Fin 1) e) = argS m c (ix1 e) := by
  unfold aps V argS
  after_reads_at

theorem apn_at (c : Dev nD) (e : Fin 1024) : apn m c (ix2 (0 : Fin 1) e) = argP m c (ix1 e) := by
  unfold apn V argP
  after_reads_at

theorem aan_at (c : Dev nD) (e : Fin 1024) : aan m c (ix2 (0 : Fin 1) e) = argN m c (ix1 e) := by
  unfold aan V argN
  after_reads_at

theorem awo_at (c : Dev nD) (k e : Fin 2048) : awo m c (ix2 k e) = argO m c (ix2 k e) := by
  unfold awo V argO
  after_reads_at

/-- The result, as a plain function. -/
def res (c : Dev nD) : S2x4112x2048.Idx → EReal := Pipeline.afterTail₀ cfgs (dats m) 0 (V0 m) [hostOps1] c main_v14

theorem res_at (c : Dev nD) (b : Fin 2) (t : Fin 4112) (e : Fin 2048) :
    res m c (ix3 b t e) = entry m c ⟨b.val * 4352 + t.val, by have := b.isLt; have := t.isLt; omega⟩ e := by
  unfold res Pipeline.afterTail₀
  generalize hW : Pipeline.withArrays _ _ _ _ = W
  after_reads_at
  have e' : W (Proc.tc.devRef main_v12) = (dats m 0 c).arrAt 9 cfg0.N := by
    rw [← hW]
    exact (dats m 0 c).withArrays_arrAt sharedIn0 (V0 m c) (A_eq m c) 9
  exact (congrFun (e'.trans (arr_o m c)) _)

/-- A channel's earlier rows, from the arguments. -/
theorem prior_eq (c : Dev nD) (b : Fin 2) (t : Fin 4112) (p : Fin 8704) (hp : p.val = b.val * 4352 + t.val) (j : Fin 1024) (k : ℕ) :
    prior m c p j k = back (fun i => argU m c (ix3 b i j)) t k := by
  have hb := b.isLt
  have ht := t.isLt
  unfold prior back
  by_cases h : k ≤ t.val
  · rw [if_pos (by omega), if_pos h, au_at, dif_pos ⟨by simp only []; omega, by simp only []; omega⟩]
    exact congrArg (argU m c) (congrArg₂ (fun x y => ix3 x y j) (Fin.ext (show (p.val - k) / 4352 = b.val by omega)) (Fin.ext (show (p.val - k) % 4352 = t.val - k by omega)))
  · rw [if_neg (by omega), if_neg h]

theorem gap_at (c : Dev nD) (b : Fin 2) (t : Fin 4112) (p : Fin 8704) (hp : p.val = b.val * 4352 + t.val) (j : Fin 1024) (n : ℕ) :
    gap m c p j n = dif (fun i => argU m c (ix3 b i j)) t n := by
  have hb := b.isLt
  have ht := t.isLt
  unfold gap dif
  rw [show prior m c p j = _ from funext fun k => prior_eq m c b t p hp j k, show p.val % 4352 = t.val by omega]
  rfl

/-- The result at an index, from the arguments. -/
theorem res_eq (c : Dev nD) (b : Fin 2) (t : Fin 4112) (e : Fin 2048) :
    res m c (ix3 b t e) = merged (argX m c (ix3 b t e))
      (pooled (fun g l => dif (fun i => argU m c (ix3 b i (chn g l))) t (win g)) (fun g k l => argW m c (ix3 g k l)) (fun k => argS m c (ix1 k))) (fun k => argP m c (ix1 k))
      (fun k => argA m c (ix4 b t (⟨k.val / 128, by have := k.isLt; omega⟩ : Fin 8) (⟨k.val % 128, by omega⟩ : Fin 128))) (fun k => argN m c (ix1 k)) (fun k => argO m c (ix2 k e)) := by
  have hb := b.isLt
  have ht := t.isLt
  rw [res_at]
  generalize hp : (⟨b.val * 4352 + t.val, by omega⟩ : Fin 8704) = p
  have hp' : p.val = b.val * 4352 + t.val := by rw [← hp]
  unfold entry
  have ex : ax m c (ix2 p e) = argX m c (ix3 b t e) := by
    rw [ax_at, dif_pos ⟨by omega, by omega⟩]
    exact congrArg (argX m c) (congrArg₂ (fun x y => ix3 x y e) (Fin.ext (show p.val / 4352 = b.val by omega)) (Fin.ext (show p.val % 4352 = t.val by omega)))
  have ea : ∀ (h : Fin 8) (d : Fin 128), aa m c (ix4 h (⟨p.val / 256, by omega⟩ : Fin 34) d (⟨p.val % 256, by omega⟩ : Fin 256)) = argA m c (ix4 b t h d) := fun h d => by
    rw [aa_at, dif_pos ⟨by simp only []; omega, by simp only []; omega⟩]
    exact congrArg (argA m c) (congrArg₂ (fun x y => ix4 x y h d) (Fin.ext (show p.val / 256 / 17 = b.val by omega)) (Fin.ext (show p.val / 256 % 17 * 256 + p.val % 256 = t.val by omega)))
  simp only [ex, ea, gap_at m c b t p hp', apw_at, aps_at, apn_at, aan_at, awo_at]

end Cert.Mrg

end

end
-- ==== Proof.MrgRef.lean ====
/- The merge of the prompt's mixers in the reference, read at one index. -/
module

public import proofs.«01_k».proof.Proof.Gen.Reference6Ideal.Run
public import proofs.«01_k».proof.Proof.MrgSum

@[expose] public section

set_option maxRecDepth 16384

noncomputable section

namespace Cert.MrgRef

open Cert.MrgMath Cert.Reference6Ideal Cert.Reference6Ideal.Gen Idealize.ShloMosaic Idealize.ShloMosaic.TcCoe Idealize.SL.Sem

/-- The pool's channels summed down the sequence. -/
def cs (u : S2x4112x1024.Idx → EReal) : S2x4112x1024.Idx → EReal :=
  Host.reduceWindowAdd (F := Ideal) (φ := .f32) ![1, 4112, 1] ![1, 1, 1] ![0, 4111, 0] ![0, 0, 0] u (broadcastInDim S_ ![] bcast_S_S_ (constant S_ .f32 0x00000000#32)) reduceWindows_S2x4112x1024_S2x4112x1024_w1s1p0_0_w4112s1p4111_0_w1s1p0_0 h_S_

/-- The positions each trailing mean covers. -/
def count (w : S_.Idx → EReal) : S2x4112x256.Idx → EReal :=
  broadcastInDim S2x4112x256 ![0, 1, 2] bcast_S1x4112x1_S2x4112x256_0_1_2 (minimumf (F := Ideal) (φ := .f32) (broadcastInDim S1x4112x1 ![1] bcast_S4112_S1x4112x1_1 (addf (F := Ideal) (φ := .f32) (broadcastInDim S4112 ![] bcast_S_S4112 (constant S_ .f32 0x3F800000#32)) (sitofp .f32 (iotaInDim S4112 32 0)))) (broadcastInDim S1x4112x1 ![] bcast_S_S1x4112x1 w))

/-- Group 0's channels of an array. -/
def sl0 (u : S2x4112x1024.Idx → EReal) : S2x4112x256.Idx → EReal := extractStridedSlice S2x4112x256 ![0, 0, 0] u slices_S2x4112x1024_S2x4112x256_0_0_0
/-- Its rows moved down by its window. -/
def sh0 (u : S2x4112x256.Idx → EReal) : S2x4112x256.Idx → EReal := extractStridedSlice S2x4112x256 ![0, 0, 0] (pad S2x4114x256 ![0, 2, 0] ![0, 0, 0] ![0, 0, 0] u (sitofp (F := Ideal) .f32 (constantI S_ 32 0#32)) pads_S2x4112x256_S2x4114x256_000_200_000 h_S_) slices_S2x4114x256_S2x4112x256_0_0_0
/-- Its trailing means less the rows. -/
def df0 (u : S2x4112x1024.Idx → EReal) : S2x4112x256.Idx → EReal :=
  subf (F := Ideal) (φ := .f32) (Host.divf (F := Ideal) (φ := .f32) (subf (F := Ideal) (φ := .f32) (sl0 (cs u)) (sh0 (sl0 (cs u)))) (count (constant (F := Ideal) S_ .f32 0x40000000#32))) (sl0 u)
/-- Its matrix. -/
def pw0 (w : S4x256x256.Idx → EReal) : S256x256.Idx → EReal := shapeCast S256x256 (extractStridedSlice S1x256x256 ![0, 0, 0] w slices_S4x256x256_S1x256x256_0_0_0) shapeCasts_S1x256x256_S256x256
/-- Group 1's channels of an array. -/
def sl1 (u : S2x4112x1024.Idx → EReal) : S2x4112x256.Idx → EReal := extractStridedSlice S2x4112x256 ![0, 0, 256] u slices_S2x4112x1024_S2x4112x256_0_0_256
/-- Its rows moved down by its window. -/
def sh1 (u : S2x4112x256.Idx → EReal) : S2x4112x256.Idx → EReal := extractStridedSlice S2x4112x256 ![0, 0, 0] (pad S2x4116x256 ![0, 4, 0] ![0, 0, 0] ![0, 0, 0] u (sitofp (F := Ideal) .f32 (constantI S_ 32 0#32)) pads_S2x4112x256_S2x4116x256_000_400_000 h_S_) slices_S2x4116x256_S2x4112x256_0_0_0
/-- Its trailing means less the rows. -/
def df1 (u : S2x4112x1024.Idx → EReal) : S2x4112x256.Idx → EReal :=
  subf (F := Ideal) (φ := .f32) (Host.divf (F := Ideal) (φ := .f32) (subf (F := Ideal) (φ := .f32) (sl1 (cs u)) (sh1 (sl1 (cs u)))) (count (constant (F := Ideal) S_ .f32 0x40800000#32))) (sl1 u)
/-- Its matrix. -/
def pw1 (w : S4x256x256.Idx → EReal) : S256x256.Idx → EReal := shapeCast S256x256 (extractStridedSlice S1x256x256 ![1, 0, 0] w slices_S4x256x256_S1x256x256_1_0_0) shapeCasts_S1x256x256_S256x256
/-- Group 2's channels of an array. -/
def sl2 (u : S2x4112x1024.Idx → EReal) : S2x4112x256.Idx → EReal := extractStridedSlice S2x4112x256 ![0, 0, 512] u slices_S2x4112x1024_S2x4112x256_0_0_512
/-- Its rows moved down by its window. -/
def sh2 (u : S2x4112x256.Idx → EReal) : S2x4112x256.Idx → EReal := extractStridedSlice S2x4112x256 ![0, 0, 0] (pad S2x4120x256 ![0, 8, 0] ![0, 0, 0] ![0, 0, 0] u (sitofp (F := Ideal) .f32 (constantI S_ 32 0#32)) pads_S2x4112x256_S2x4120x256_000_800_000 h_S_) slices_S2x4120x256_S2x4112x256_0_0_0
/-- Its trailing means less the rows. -/
def df2 (u : S2x4112x1024.Idx → EReal) : S2x4112x256.Idx → EReal :=
  subf (F := Ideal) (φ := .f32) (Host.divf (F := Ideal) (φ := .f32) (subf (F := Ideal) (φ := .f32) (sl2 (cs u)) (sh2 (sl2 (cs u)))) (count (constant (F := Ideal) S_ .f32 0x41000000#32))) (sl2 u)
/-- Its matrix. -/
def pw2 (w : S4x256x256.Idx → EReal) : S256x256.Idx → EReal := shapeCast S256x256 (extractStridedSlice S1x256x256 ![2, 0, 0] w slices_S4x256x256_S1x256x256_2_0_0) shapeCasts_S1x256x256_S256x256
/-- Group 3's channels of an array. -/
def sl3 (u : S2x4112x1024.Idx → EReal) : S2x4112x256.Idx → EReal := extractStridedSlice S2x4112x256 ![0, 0, 768] u slices_S2x4112x1024_S2x4112x256_0_0_768
/-- Its rows moved down by its window. -/
def sh3 (u : S2x4112x256.Idx → EReal) : S2x4112x256.Idx → EReal := extractStridedSlice S2x4112x256 ![0, 0, 0] (pad S2x4128x256 ![0, 16, 0] ![0, 0, 0] ![0, 0, 0] u (sitofp (F := Ideal) .f32 (constantI S_ 32 0#32)) pads_S2x4112x256_S2x4128x256_000_1600_000 h_S_) slices_S2x4128x256_S2x4112x256_0_0_0
/-- Its trailing means less the rows. -/
def df3 (u : S2x4112x1024.Idx → EReal) : S2x4112x256.Idx → EReal :=
  subf (F := Ideal) (φ := .f32) (Host.divf (F := Ideal) (φ := .f32) (subf (F := Ideal) (φ := .f32) (sl3 (cs u)) (sh3 (sl3 (cs u)))) (count (constant (F := Ideal) S_ .f32 0x41800000#32))) (sl3 u)
/-- Its matrix. -/
def pw3 (w : S4x256x256.Idx → EReal) : S256x256.Idx → EReal := shapeCast S256x256 (extractStridedSlice S1x256x256 ![3, 0, 0] w slices_S4x256x256_S1x256x256_3_0_0) shapeCasts_S1x256x256_S256x256
/-- A group's rows times its matrix. -/
def mul (d : S2x4112x256.Idx → EReal) (w : S256x256.Idx → EReal) : S2x4112x256.Idx → EReal :=
  Host.dotGeneral (F := Ideal) (φ₁ := .f32) (φ₂ := .f32) dot_S2x4112x256_S256x256_S2x4112x256_2_0_01_1_n_n none d w

/-- The pool's mixed channels. -/
def pl (a b c d : S2x4112x256.Idx → EReal) (s : S1024.Idx → EReal) : S2x4112x1024.Idx → EReal :=
  mulf (F := Ideal) (φ := .f32) (concatenate S2x4112x1024 2 [⟨S2x4112x256, a⟩, ⟨S2x4112x256, b⟩, ⟨S2x4112x256, c⟩, ⟨S2x4112x256, d⟩] concatenates_S2x4112x256_S2x4112x256_S2x4112x256_S2x4112x256_S2x4112x1024_d2)
    (broadcastInDim S2x4112x1024 ![0, 1, 2] bcast_S1x1x1024_S2x4112x1024_0_1_2 (broadcastInDim S1x1x1024 ![2] bcast_S1024_S1x1x1024_2 s))

/-- Rows of 1024 entries normalised. -/
def nm (x : S2x4112x1024.Idx → EReal) (g : S1024.Idx → EReal) : S2x4112x1024.Idx → EReal :=
  mulf (F := Ideal) (φ := .f32) (mulf (F := Ideal) (φ := .f32) x (broadcastInDim S2x4112x1024 ![0, 1, 2] bcast_S2x4112x1_S2x4112x1024_0_1_2 (Host.rsqrt (F := Ideal) (φ := .f32) (addf (Host.divf (broadcastInDim S2x4112x1 ![0, 1] bcast_S2x4112_S2x4112x1_0_1 (Host.reduceAdd (F := Ideal) (φ := .f32) (mulf (F := Ideal) (φ := .f32) x x) (constant S_ .f32 0x00000000#32) reducesTo_S2x4112x1024_S2x4112_d2 h_S_)) (broadcastInDim S2x4112x1 ![] bcast_S_S2x4112x1 (constant S_ .f32 0x44800000#32))) (broadcastInDim S2x4112x1 ![] bcast_S_S2x4112x1 (constant S_ .f32 0x358637BD#32)))))) (broadcastInDim S2x4112x1024 ![0, 1, 2] bcast_S1x1x1024_S2x4112x1024_0_1_2 (broadcastInDim S1x1x1024 ![2] bcast_S1024_S1x1x1024_2 g))

/-- The attention's heads side by side. -/
def at1 (a : S2x4112x8x128.Idx → EReal) : S2x4112x1024.Idx → EReal := shapeCast S2x4112x1024 a shapeCasts_S2x4112x8x128_S2x4112x1024

/-- The rows with the projected mixers added. -/
def fin (x : S2x4112x2048.Idx → EReal) (p q : S2x4112x1024.Idx → EReal) (w : S2048x2048.Idx → EReal) : S2x4112x2048.Idx → EReal :=
  addf (F := Ideal) (φ := .f32) x (Host.dotGeneral (F := Ideal) (φ₁ := .f32) (φ₂ := .f32) dot_S2x4112x2048_S2048x2048_S2x4112x2048_2_0_01_1_n_n none (concatenate S2x4112x2048 2 [⟨S2x4112x1024, p⟩, ⟨S2x4112x1024, q⟩] concatenates_S2x4112x1024_S2x4112x1024_S2x4112x2048_d2) w)

/-- The whole reference. -/
def ref (x : S2x4112x2048.Idx → EReal) (u : S2x4112x1024.Idx → EReal) (a : S2x4112x8x128.Idx → EReal) (w : S4x256x256.Idx → EReal) (s pn an : S1024.Idx → EReal) (wo : S2048x2048.Idx → EReal) : S2x4112x2048.Idx → EReal :=
  fin x (nm (pl (mul (df0 u) (pw0 w)) (mul (df1 u) (pw1 w)) (mul (df2 u) (pw2 w)) (mul (df3 u) (pw3 w)) s) pn) (nm (at1 a) an) wo

theorem cs_at (u : S2x4112x1024.Idx → EReal) (b : Fin 2) (t : Fin 4112) (j : Fin 1024) : cs u (ix3 b t j) = upto (fun i => u (ix3 b i j)) t := by
  have z : ∀ i, (broadcastInDim S_ ![] bcast_S_S_ (constant (F := Ideal) S_ .f32 0x00000000#32)) i = (0 : EReal) := fun i => by
    show Ideal.ofBits FTy.f32 0x00000000#32 = 0
    simp [Ideal.ofBits, Ideal.ieee]
  have z' : (broadcastInDim S_ ![] bcast_S_S_ (constant (F := Ideal) S_ .f32 0x00000000#32)) (Shape.Idx.first h_S_) = (0 : EReal) := z _
  unfold cs Host.reduceWindowAdd
  rw [Ideal.hostReduceWindowAdd_def]
  unfold Ideal.hostReduceWindowAdd
  exact cumsum_at u _ (fun _ => z') _ _ b t j

theorem count_at (w : S_.Idx → EReal) (n : ℕ) (hw : ∀ i, w i = ((n : ℝ) : EReal)) (b : Fin 2) (t : Fin 4112) (l : Fin 256) : count w (ix3 b t l) = cnt n t.val := by
  rw [← count_float t.val n (by have := t.isLt; omega) _ (hw ix0)]
  pointwise [count]

theorem mul_at (d : S2x4112x256.Idx → EReal) (w : S256x256.Idx → EReal) (b : Fin 2) (t : Fin 4112) (l : Fin 256) :
    mul d w (ix3 b t l) = ∑ k : Fin 256, d (ix3 b t k) * w (ix2 k l) := by
  pointwise [mul]

theorem nm_at (x : S2x4112x1024.Idx → EReal) (g : S1024.Idx → EReal) (b : Fin 2) (t : Fin 4112) (e : Fin 1024) :
    nm x g (ix3 b t e) = nrmm (fun k => x (ix3 b t k)) (fun k => g (ix1 k)) e := by
  unfold nrmm
  pointwise [nm]

theorem at1_at (a : S2x4112x8x128.Idx → EReal) (b : Fin 2) (t : Fin 4112) (e : Fin 1024) :
    at1 a (ix3 b t e) = a (ix4 b t (⟨e.val / 128, by have := e.isLt; omega⟩ : Fin 8) (⟨e.val % 128, by omega⟩ : Fin 128)) := by
  pointwise [at1]

theorem fin_at (x : S2x4112x2048.Idx → EReal) (p q : S2x4112x1024.Idx → EReal) (w : S2048x2048.Idx → EReal) (b : Fin 2) (t : Fin 4112) (e : Fin 2048) :
    fin x p q w (ix3 b t e) = x (ix3 b t e) + ∑ k, two (fun k => p (ix3 b t k)) (fun k => q (ix3 b t k)) k * w (ix2 k e) := by
  unfold two
  pointwise [fin]

theorem pl_at (p : Fin 4 → S2x4112x256.Idx → EReal) (s : S1024.Idx → EReal) (b : Fin 2) (t : Fin 4112) (j : Fin 1024) :
    pl (p 0) (p 1) (p 2) (p 3) s (ix3 b t j) = four (fun g l => p g (ix3 b t l)) j * s (ix1 j) := by
  rw [← four_ite]
  pointwise [pl]

theorem df0_at (u : S2x4112x1024.Idx → EReal) (hu : ∀ i, ∃ r : ℝ, u i = (r : EReal)) (b : Fin 2) (t : Fin 4112) (l : Fin 256) :
    df0 u (ix3 b t l) = dif (fun i => u (ix3 b i (⟨0 + l.val, by have := l.isLt; omega⟩ : Fin 1024))) t 1 := by
  have hl := l.isLt
  have ht := t.isLt
  have e1 : ∀ v : S2x4112x1024.Idx → EReal, ∀ i : Fin 4112, sl0 v (ix3 b i l) = v (ix3 b i (⟨0 + l.val, by omega⟩ : Fin 1024)) := fun v i => by
    pointwise [sl0]
  have e2 : ∀ v : S2x4112x256.Idx → EReal, sh0 v (ix3 b t l) = if h : 2 ≤ t.val then v (ix3 b (⟨t.val - 2, by omega⟩ : Fin 4112) l) else 0 := fun v => by
    have z : (FloatOps.sitofp FTy.f32 (0#32 : BitVec 32) : Ideal .f32) = (0 : EReal) := by
      show (((0#32 : BitVec 32).toInt : ℝ) : EReal) = 0
      simp
    rw [← z]
    pointwise [sh0]
    by_cases h : 2 ≤ t.val
    · rw [dif_pos h, dif_pos ⟨h, by omega⟩]
    · rw [dif_neg h, dif_neg fun q => h q.1]
  have e3 : df0 u (ix3 b t l) = Ideal.div (sl0 (cs u) (ix3 b t l) - sh0 (sl0 (cs u)) (ix3 b t l)) (count (constant (F := Ideal) S_ .f32 0x40000000#32) (ix3 b t l)) - sl0 u (ix3 b t l) := by
    pointwise [df0]
  rw [e3, e2, e1, e1, count_at (constant (F := Ideal) S_ .f32 0x40000000#32) 2 (fun _ => two_eq)]
  simp only [e1, cs_at]
  unfold dif
  rw [← window _ (fun i => hu _) t 1]

theorem pw0_at (w : S4x256x256.Idx → EReal) (k l : Fin 256) : pw0 w (ix2 k l) = w (ix3 (0 : Fin 4) k l) := by
  pointwise [pw0]

theorem df1_at (u : S2x4112x1024.Idx → EReal) (hu : ∀ i, ∃ r : ℝ, u i = (r : EReal)) (b : Fin 2) (t : Fin 4112) (l : Fin 256) :
    df1 u (ix3 b t l) = dif (fun i => u (ix3 b i (⟨256 + l.val, by have := l.isLt; omega⟩ : Fin 1024))) t 3 := by
  have hl := l.isLt
  have ht := t.isLt
  have e1 : ∀ v : S2x4112x1024.Idx → EReal, ∀ i : Fin 4112, sl1 v (ix3 b i l) = v (ix3 b i (⟨256 + l.val, by omega⟩ : Fin 1024)) := fun v i => by
    pointwise [sl1]
  have e2 : ∀ v : S2x4112x256.Idx → EReal, sh1 v (ix3 b t l) = if h : 4 ≤ t.val then v (ix3 b (⟨t.val - 4, by omega⟩ : Fin 4112) l) else 0 := fun v => by
    have z : (FloatOps.sitofp FTy.f32 (0#32 : BitVec 32) : Ideal .f32) = (0 : EReal) := by
      show (((0#32 : BitVec 32).toInt : ℝ) : EReal) = 0
      simp
    rw [← z]
    pointwise [sh1]
    by_cases h : 4 ≤ t.val
    · rw [dif_pos h, dif_pos ⟨h, by omega⟩]
    · rw [dif_neg h, dif_neg fun q => h q.1]
  have e3 : df1 u (ix3 b t l) = Ideal.div (sl1 (cs u) (ix3 b t l) - sh1 (sl1 (cs u)) (ix3 b t l)) (count (constant (F := Ideal) S_ .f32 0x40800000#32) (ix3 b t l)) - sl1 u (ix3 b t l) := by
    pointwise [df1]
  rw [e3, e2, e1, e1, count_at (constant (F := Ideal) S_ .f32 0x40800000#32) 4 (fun _ => four_eq)]
  simp only [e1, cs_at]
  unfold dif
  rw [← window _ (fun i => hu _) t 3]

theorem pw1_at (w : S4x256x256.Idx → EReal) (k l : Fin 256) : pw1 w (ix2 k l) = w (ix3 (1 : Fin 4) k l) := by
  pointwise [pw1]

theorem df2_at (u : S2x4112x1024.Idx → EReal) (hu : ∀ i, ∃ r : ℝ, u i = (r : EReal)) (b : Fin 2) (t : Fin 4112) (l : Fin 256) :
    df2 u (ix3 b t l) = dif (fun i => u (ix3 b i (⟨512 + l.val, by have := l.isLt; omega⟩ : Fin 1024))) t 7 := by
  have hl := l.isLt
  have ht := t.isLt
  have e1 : ∀ v : S2x4112x1024.Idx → EReal, ∀ i : Fin 4112, sl2 v (ix3 b i l) = v (ix3 b i (⟨512 + l.val, by omega⟩ : Fin 1024)) := fun v i => by
    pointwise [sl2]
  have e2 : ∀ v : S2x4112x256.Idx → EReal, sh2 v (ix3 b t l) = if h : 8 ≤ t.val then v (ix3 b (⟨t.val - 8, by omega⟩ : Fin 4112) l) else 0 := fun v => by
    have z : (FloatOps.sitofp FTy.f32 (0#32 : BitVec 32) : Ideal .f32) = (0 : EReal) := by
      show (((0#32 : BitVec 32).toInt : ℝ) : EReal) = 0
      simp
    rw [← z]
    pointwise [sh2]
    by_cases h : 8 ≤ t.val
    · rw [dif_pos h, dif_pos ⟨h, by omega⟩]
    · rw [dif_neg h, dif_neg fun q => h q.1]
  have e3 : df2 u (ix3 b t l) = Ideal.div (sl2 (cs u) (ix3 b t l) - sh2 (sl2 (cs u)) (ix3 b t l)) (count (constant (F := Ideal) S_ .f32 0x41000000#32) (ix3 b t l)) - sl2 u (ix3 b t l) := by
    pointwise [df2]
  rw [e3, e2, e1, e1, count_at (constant (F := Ideal) S_ .f32 0x41000000#32) 8 (fun _ => eight_eq)]
  simp only [e1, cs_at]
  unfold dif
  rw [← window _ (fun i => hu _) t 7]

theorem pw2_at (w : S4x256x256.Idx → EReal) (k l : Fin 256) : pw2 w (ix2 k l) = w (ix3 (2 : Fin 4) k l) := by
  pointwise [pw2]

theorem df3_at (u : S2x4112x1024.Idx → EReal) (hu : ∀ i, ∃ r : ℝ, u i = (r : EReal)) (b : Fin 2) (t : Fin 4112) (l : Fin 256) :
    df3 u (ix3 b t l) = dif (fun i => u (ix3 b i (⟨768 + l.val, by have := l.isLt; omega⟩ : Fin 1024))) t 15 := by
  have hl := l.isLt
  have ht := t.isLt
  have e1 : ∀ v : S2x4112x1024.Idx → EReal, ∀ i : Fin 4112, sl3 v (ix3 b i l) = v (ix3 b i (⟨768 + l.val, by omega⟩ : Fin 1024)) := fun v i => by
    pointwise [sl3]
  have e2 : ∀ v : S2x4112x256.Idx → EReal, sh3 v (ix3 b t l) = if h : 16 ≤ t.val then v (ix3 b (⟨t.val - 16, by omega⟩ : Fin 4112) l) else 0 := fun v => by
    have z : (FloatOps.sitofp FTy.f32 (0#32 : BitVec 32) : Ideal .f32) = (0 : EReal) := by
      show (((0#32 : BitVec 32).toInt : ℝ) : EReal) = 0
      simp
    rw [← z]
    pointwise [sh3]
    by_cases h : 16 ≤ t.val
    · rw [dif_pos h, dif_pos ⟨h, by omega⟩]
    · rw [dif_neg h, dif_neg fun q => h q.1]
  have e3 : df3 u (ix3 b t l) = Ideal.div (sl3 (cs u) (ix3 b t l) - sh3 (sl3 (cs u)) (ix3 b t l)) (count (constant (F := Ideal) S_ .f32 0x41800000#32) (ix3 b t l)) - sl3 u (ix3 b t l) := by
    pointwise [df3]
  rw [e3, e2, e1, e1, count_at (constant (F := Ideal) S_ .f32 0x41800000#32) 16 (fun _ => sixteen_eq)]
  simp only [e1, cs_at]
  unfold dif
  rw [← window _ (fun i => hu _) t 15]

theorem pw3_at (w : S4x256x256.Idx → EReal) (k l : Fin 256) : pw3 w (ix2 k l) = w (ix3 (3 : Fin 4) k l) := by
  pointwise [pw3]

/-- The pool's mixed channels at an index. -/
theorem pool_at (u : S2x4112x1024.Idx → EReal) (hu : ∀ i, ∃ r : ℝ, u i = (r : EReal)) (w : S4x256x256.Idx → EReal) (s : S1024.Idx → EReal) (b : Fin 2) (t : Fin 4112) (j : Fin 1024) :
    pl (mul (df0 u) (pw0 w)) (mul (df1 u) (pw1 w)) (mul (df2 u) (pw2 w)) (mul (df3 u) (pw3 w)) s (ix3 b t j)
      = pooled (fun g l => dif (fun i => u (ix3 b i (chn g l))) t (win g)) (fun g k l => w (ix3 g k l)) (fun k => s (ix1 k)) j := by
  refine (pl_at ![mul (df0 u) (pw0 w), mul (df1 u) (pw1 w), mul (df2 u) (pw2 w), mul (df3 u) (pw3 w)] s b t j).trans ?_
  unfold pooled
  refine congrArg (· * s (ix1 j)) (congrArg (fun f => four f j) (funext fun g => funext fun l => ?_))
  match g with
  | 0 => exact (mul_at _ _ b t l).trans (Finset.sum_congr rfl fun k _ => congrArg₂ (· * ·) (df0_at u hu b t k) (pw0_at w k l))
  | 1 => exact (mul_at _ _ b t l).trans (Finset.sum_congr rfl fun k _ => congrArg₂ (· * ·) (df1_at u hu b t k) (pw1_at w k l))
  | 2 => exact (mul_at _ _ b t l).trans (Finset.sum_congr rfl fun k _ => congrArg₂ (· * ·) (df2_at u hu b t k) (pw2_at w k l))
  | 3 => exact (mul_at _ _ b t l).trans (Finset.sum_congr rfl fun k _ => congrArg₂ (· * ·) (df3_at u hu b t k) (pw3_at w k l))

/-- The reference at an index. -/
theorem ref_at (x : S2x4112x2048.Idx → EReal) (u : S2x4112x1024.Idx → EReal) (hu : ∀ i, ∃ r : ℝ, u i = (r : EReal)) (a : S2x4112x8x128.Idx → EReal) (w : S4x256x256.Idx → EReal)
    (s pn an : S1024.Idx → EReal) (wo : S2048x2048.Idx → EReal) (b : Fin 2) (t : Fin 4112) (e : Fin 2048) :
    ref x u a w s pn an wo (ix3 b t e) = merged (x (ix3 b t e))
      (pooled (fun g l => dif (fun i => u (ix3 b i (chn g l))) t (win g)) (fun g k l => w (ix3 g k l)) (fun k => s (ix1 k))) (fun k => pn (ix1 k))
      (fun k => a (ix4 b t (⟨k.val / 128, by have := k.isLt; omega⟩ : Fin 8) (⟨k.val % 128, by omega⟩ : Fin 128))) (fun k => an (ix1 k)) (fun k => wo (ix2 k e)) := by
  unfold ref merged
  rw [fin_at]
  simp only [nm_at, pool_at u hu, at1_at]

end Cert.MrgRef

end

end
-- ==== Proof.MrgClaim.lean ====
/- The prompt's merge's claim: the two runs side by side. -/
module

public import proofs.«01_k».proof.Defs
public import proofs.«01_k».proof.Proof.Gen.Pre_finite6
public import proofs.«01_k».proof.Proof.InpClaim
public import proofs.«01_k».proof.Proof.MrgEntry
public import proofs.«01_k».proof.Proof.MrgRef

@[expose] public section

set_option maxRecDepth 16384

noncomputable section

namespace Cert.Mrg

open Idealize.ShloMosaic Idealize.ShloMosaic.TcCoe Idealize.SL.Sem Cert.MrgMath

section
open Cert.Pre_finite6 Cert.Pre_finite6.Facts

/-- The precondition gives real pool channels. -/
theorem real_args [self : Cert.Pre_finite6.Facts] (x : S2x4112x2048.Idx → EReal) (u : S2x4112x1024.Idx → EReal) (a : S2x4112x8x128.Idx → EReal) (w : S4x256x256.Idx → EReal)
    (s pn an : S1024.Idx → EReal) (wo : S2048x2048.Idx → EReal) (h : Cert.Pre_finite6.fn (F := Ideal) x u a w s pn an wo = fun _ => 1#1) :
    ∀ i, ∃ r : ℝ, u i = (r : EReal) := by
  unfold Cert.Pre_finite6.fn at h
  dsimp only at h
  exact fun i => Cert.Flash.real_of_abs (congrFun h i)
end

theorem algebraic : Cert.algebraic_Kernel6Ideal_Reference6Ideal_pre_finite6 (hKernel6Ideal := Cert.Kernel6Ideal.Gen.facts)
    (hReference6Ideal := Cert.Reference6Ideal.Gen.facts) (hPre_finite6 := Cert.Pre_finite6.Gen.facts) := by
  intro m g m' g' hp hag
  refine ⟨fun c => res m c, ?_, ?_⟩
  · exact (θ_run Cert.Kernel6Ideal.defs _ _).mono (fun r h c => ⟨(h.1 c).2 Cert.Kernel6Ideal.main_v14 (Pipeline.mem_restRefs_of Cert.Kernel6Ideal.main_v14 (by decide) (by decide)), h.2 c⟩)
      (θ_run_and (Cert.Kernel6Ideal.Gen.run_main m g) (Cert.Kernel6Ideal.Gen.unchanged m g))
  · refine (θ_run Cert.Reference6Ideal.defs _ _).mono (fun r h c => ⟨(h c).1.trans ?_, (h c).2⟩) (Cert.Reference6Ideal.Value.run m' g')
    obtain ⟨a0, a1, a2, a3, a4, a5, a6, a7⟩ := hag c
    refine (show _ = Cert.MrgRef.ref (argX m c) (argU m c) (argA m c) (argW m c) (argS m c) (argP m c) (argN m c) (argO m c) from ?_).trans ?_
    · unfold Cert.Reference6Ideal.Value.res_main_v90
      rw [a0, a1, a2, a3, a4, a5, a6, a7]
      rfl
    · have hu := real_args (self := Cert.Pre_finite6.Gen.facts) _ _ _ _ _ _ _ _ (hp c)
      funext ix
      rw [eq_ix3 ix]
      exact (Cert.MrgRef.ref_at _ _ hu _ _ _ _ _ _ (ix 0) (ix 1) (ix 2)).trans (res_eq m c (ix 0) (ix 1) (ix 2)).symm

end Cert.Mrg

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Pre_finite4
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Pre_finite5
public import proofs.«01_k».proof.Proof.FlashClaim
public import proofs.«01_k».proof.Proof.FfnClaim
public import proofs.«01_k».proof.Proof.SffnClaim
public import proofs.«01_k».proof.Proof.InpClaim
public import proofs.«01_k».proof.Proof.SinpClaim
public import proofs.«01_k».proof.Proof.MrgClaim
public import Idealize.ShloMosaic.Adequacy
public import Idealize.ShloMosaic.Init
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Pre_finite6

@[expose] public section

noncomputable section

namespace Cert.Proof

open Idealize.ShloMosaic Idealize.SL.Sem Cert.Kernel

/-- The reference's run with its counters: it declares no semaphore. -/
theorem frame_r : Cert.quiescent_ReferenceIdeal (hReferenceIdeal := Cert.ReferenceIdeal.Gen.facts) := fun m g _ =>
  (θ_run Cert.ReferenceIdeal.defs _ _).mono (fun r h => ⟨fun c => (h c).2, Idealize.ShloMosaic.sem_eq_zero_of_no_sems (by decide) r.2⟩)
    (Cert.ReferenceIdeal.Value.run (F := Ideal) m g)

/-- The feed-forward reference's run with its counters: it declares no semaphore. -/
theorem frame_r2 : Cert.quiescent_Reference2Ideal (hReference2Ideal := Cert.Reference2Ideal.Gen.facts) := fun m g _ =>
  (θ_run Cert.Reference2Ideal.defs _ _).mono (fun r h => ⟨fun c => (h c).2, Idealize.ShloMosaic.sem_eq_zero_of_no_sems (by decide) r.2⟩)
    (Cert.Reference2Ideal.Value.run (F := Ideal) m g)

/-- The sample rows' feed-forward reference's run with its counters: it declares no semaphore. -/
theorem frame_r3 : Cert.quiescent_Reference3Ideal (hReference3Ideal := Cert.Reference3Ideal.Gen.facts) := fun m g _ =>
  (θ_run Cert.Reference3Ideal.defs _ _).mono (fun r h => ⟨fun c => (h c).2, Idealize.ShloMosaic.sem_eq_zero_of_no_sems (by decide) r.2⟩)
    (Cert.Reference3Ideal.Value.run (F := Ideal) m g)

/-- The prompt's projections' reference's run with its counters: it declares no semaphore. -/
theorem frame_r4 : Cert.quiescent_Reference4Ideal (hReference4Ideal := Cert.Reference4Ideal.Gen.facts) := fun m g _ =>
  (θ_run Cert.Reference4Ideal.defs _ _).mono (fun r h => ⟨fun c => (h c).2.2.2.2, Idealize.ShloMosaic.sem_eq_zero_of_no_sems (by decide) r.2⟩)
    (Cert.Reference4Ideal.Value.run (F := Ideal) m g)

/-- The sample's projections' reference's run with its counters: it declares no semaphore. -/
theorem frame_r5 : Cert.quiescent_Reference5Ideal (hReference5Ideal := Cert.Reference5Ideal.Gen.facts) := fun m g _ =>
  (θ_run Cert.Reference5Ideal.defs _ _).mono (fun r h => ⟨fun c => (h c).2.2.2.2, Idealize.ShloMosaic.sem_eq_zero_of_no_sems (by decide) r.2⟩)
    (Cert.Reference5Ideal.Value.run (F := Ideal) m g)

/-- The prompt's merge's reference's run with its counters: it declares no semaphore. -/
theorem frame_r6 : Cert.quiescent_Reference6Ideal (hReference6Ideal := Cert.Reference6Ideal.Gen.facts) := fun m g _ =>
  (θ_run Cert.Reference6Ideal.defs _ _).mono (fun r h => ⟨fun c => (h c).2, Idealize.ShloMosaic.sem_eq_zero_of_no_sems (by decide) r.2⟩)
    (Cert.Reference6Ideal.Value.run (F := Ideal) m g)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Pre_finite.Gen.facts, Cert.Pre_finite4.Gen.facts, Cert.Pre_finite5.Gen.facts, Cert.Pre_finite6.Gen.facts,
  fun m g _ => Cert.Kernel.Gen.frame m g,
  fun m g _ => Cert.KernelIdeal.Gen.frame m g,
  fun m g _ => Cert.KernelIdeal.Gen.frame m g,
  frame_r,
  fun m g _ => frame_r m g trivial,
  fun m g _ => Cert.Kernel2.Gen.frame m g,
  fun m g _ => Cert.Kernel2Ideal.Gen.frame m g,
  frame_r2,
  fun m g _ => Cert.Kernel3.Gen.frame m g,
  fun m g _ => Cert.Kernel3Ideal.Gen.frame m g,
  frame_r3,
  fun m g _ => Cert.Kernel4.Gen.frame m g,
  fun m g _ => Cert.Kernel4Ideal.Gen.frame m g,
  fun m g _ => Cert.Kernel4Ideal.Gen.frame m g,
  frame_r4,
  fun m g _ => frame_r4 m g trivial,
  fun m g _ => Cert.Kernel5.Gen.frame m g,
  fun m g _ => Cert.Kernel5Ideal.Gen.frame m g,
  fun m g _ => Cert.Kernel5Ideal.Gen.frame m g,
  frame_r5,
  fun m g _ => frame_r5 m g trivial,
  fun m g _ => Cert.Kernel6.Gen.frame m g,
  fun m g _ => Cert.Kernel6Ideal.Gen.frame m g,
  fun m g _ => Cert.Kernel6Ideal.Gen.frame m g,
  frame_r6,
  fun m g _ => frame_r6 m g trivial,
  IdealRules.named_const.statement _ _ _ _ _ rfl,
  Cert.Flash.algebraic,
  trivial,
  Cert.Ffn.algebraic,
  trivial,
  Cert.Sffn.algebraic,
  trivial,
  Cert.Inp.algebraic,
  trivial,
  Cert.Sinp.algebraic,
  trivial,
  Cert.Mrg.algebraic⟩

end Cert.Proof

end
